-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1x1024x128x128 : Shape := ⟨4, ![1, 1024, 128, 128]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x128x128 : S_.BroadcastsInDim S1x1024x128x128 (![] : Fin 0 → Fin S1x1024x128x128.rank)
  reducesTo_S1x1024x128x128_S_d0_1_2_3 : S1x1024x128x128.ReducesTo [0, 1, 2, 3] S_

variable [Facts]

def fn {F : FTy → Type} [FloatOps F] (main_arg0 : FVec F S1x1024x1024 .bf16) (main_arg1 : FVec F S1024x1024 .bf16) (main_arg2 : FVec F S1x1024x128x128 .f32) (main_arg3 : FVec F S1x1024x128x128 .f32) (main_arg4 : FVec F S1024x1024 .bf16) : IVec S_ 1 :=
  let main_v0 : FVec F S1x1024x1024 .f32 := (extf .f32 · bitsLt_bf16_f32) main_arg0
  let main_v1 : FVec F S1024x1024 .f32 := (extf .f32 · bitsLt_bf16_f32) main_arg1
  let main_v2 : FVec F S1x1024x1024 .f32 := Host.absf main_v0
  let main_cst : FVec F S_ .f32 := constant S_ .f32 0x7F800000#32
  let main_v3 : FVec F S1x1024x1024 .f32 := broadcastInDim S1x1024x1024 ![] bcast_S_S1x1024x1024 main_cst
  let main_v4 : IVec S1x1024x1024 1 := cmpf .olt main_v2 main_v3
  let main_c : IVec S_ 1 := constantI S_ 1 1#1
  let main_v5 : IVec S_ 1 := (fun x v => Host.reduce IntOp.andi x v reducesTo_S1x1024x1024_S_d0_1_2 h_S_) main_v4 main_c
  let main_v6 : FVec F S1024x1024 .f32 := Host.absf main_v1
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v5 main_v9
  let main_v11 : FVec F S1x1024x128x128 .f32 := Host.absf main_arg2
  let main_cst_2 : FVec F S_ .f32 := constant S_ .f32 0x7F800000#32
  let main_v12 : FVec F S1x1024x128x128 .f32 := broadcastInDim S1x1024x128x128 ![] bcast_S_S1x1024x128x128 main_cst_2
  let main_v13 : IVec S1x1024x128x128 1 := cmpf .olt main_v11 main_v12
  let main_c_3 : IVec S_ 1 := constantI S_ 1 1#1
  let main_v14 : IVec S_ 1 := (fun x v => Host.reduce IntOp.andi x v reducesTo_S1x1024x128x128_S_d0_1_2_3 h_S_) main_v13 main_c_3
  let main_v15 : IVec S_ 1 := andi main_v10 main_v14
  main_v15
-- ==== Pre_finite_scores_ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x1024x128x128 : S_.BroadcastsInDim S1x1024x128x128 (![] : Fin 0 → Fin S1x1024x128x128.rank)
  reducesTo_S1x1024x128x128_S_d0_1_2_3 : S1x1024x128x128.ReducesTo [0, 1, 2, 3] S_

variable [Facts]

def fn {F : FTy → Type} [FloatOps F] (main_arg0 : FVec F S1x1024x1024 .bf16) (main_arg1 : FVec F S1024x16384 .bf16) (main_arg2 : FVec F S1x1024x128x128 .f32) (main_arg3 : FVec F S1x1024x128x128 .f32) (main_arg4 : FVec F S16384x1024 .bf16) : IVec S_ 1 :=
  let main_v0 : FVec F S1x1024x1024 .f32 := (extf .f32 · bitsLt_bf16_f32) main_arg0
  let main_v1 : FVec F S1024x16384 .f32 := (extf .f32 · bitsLt_bf16_f32) main_arg1
  let main_v2 : FVec F S1x1024x1024 .f32 := Host.absf main_v0
  let main_cst : FVec F S_ .f32 := constant S_ .f32 0x7F800000#32
  let main_v3 : FVec F S1x1024x1024 .f32 := broadcastInDim S1x1024x1024 ![] bcast_S_S1x1024x1024 main_cst
  let main_v4 : IVec S1x1024x1024 1 := cmpf .olt main_v2 main_v3
  let main_c : IVec S_ 1 := constantI S_ 1 1#1
  let main_v5 : IVec S_ 1 := (fun x v => Host.reduce IntOp.andi x v reducesTo_S1x1024x1024_S_d0_1_2 h_S_) main_v4 main_c
  let main_v6 : FVec F S1024x16384 .f32 := Host.absf main_v1
  let main_cst_0 : FVec F S_ .f32 := constant S_ .f32 0x7F800000#32
  let main_v7 : FVec F S1024x16384 .f32 := broadcastInDim S1024x16384 ![] bcast_S_S1024x16384 main_cst_0
  let main_v8 : IVec S1024x16384 1 := cmpf .olt main_v6 main_v7
  let main_c_1 : IVec S_ 1 := constantI S_ 1 1#1
  let main_v9 : IVec S_ 1 := (fun x v => Host.reduce IntOp.andi x v reducesTo_S1024x16384_S_d0_1 h_S_) main_v8 main_c_1
  let main_v10 : IVec S_ 1 := andi main_v5 main_v9
  let main_v11 : FVec F S1x1024x128x128 .f32 := Host.absf main_arg2
  let main_cst_2 : FVec F S_ .f32 := constant S_ .f32 0x7F800000#32
  let main_v12 : FVec F S1x1024x128x128 .f32 := broadcastInDim S1x1024x128x128 ![] bcast_S_S1x1024x128x128 main_cst_2
  let main_v13 : IVec S1x1024x128x128 1 := cmpf .olt main_v11 main_v12
  let main_c_3 : IVec S_ 1 := constantI S_ 1 1#1
  let main_v14 : IVec S_ 1 := (fun x v => Host.reduce IntOp.andi x v reducesTo_S1x1024x128x128_S_d0_1_2_3 h_S_) main_v13 main_c_3
  let main_v15 : IVec S_ 1 := andi main_v10 main_v14
  main_v15
-- ==== Kernel.lean ====
abbrev S1x1024x1024 : Shape := ⟨3, ![1, 1024, 1024]⟩
abbrev S1024x1024 : Shape := ⟨2, ![1024, 1024]⟩
abbrev S1x1024x128x128 : Shape := ⟨4, ![1, 1024, 128, 128]⟩
abbrev S8x1024x128 : Shape := ⟨3, ![8, 1024, 128]⟩
abbrev S16 : Shape := ⟨1, ![16]⟩
abbrev S4x512x512 : Shape := ⟨3, ![4, 512, 512]⟩
abbrev S1024x512 : Shape := ⟨2, ![1024, 512]⟩
abbrev S4 : Shape := ⟨1, ![4]⟩
abbrev S1 : Shape := ⟨1, ![1]⟩
abbrev S_ : Shape := ⟨0, ![]⟩
abbrev S1x1024x128 : Shape := ⟨3, ![1, 1024, 128]⟩
abbrev S1024x128 : Shape := ⟨2, ![1024, 128]⟩
abbrev S1x1024x1x128 : Shape := ⟨4, ![1, 1024, 1, 128]⟩
abbrev S1x512x1024 : Shape := ⟨3, ![1, 512, 1024]⟩
abbrev S512x1024 : Shape := ⟨2, ![512, 1024]⟩
abbrev S256x128 : Shape := ⟨2, ![256, 128]⟩
abbrev S1x512x128 : Shape := ⟨3, ![1, 512, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩
abbrev S512x512 : Shape := ⟨2, ![512, 512]⟩
abbrev S1x512x512 : Shape := ⟨3, ![1, 512, 512]⟩
abbrev S1x256x512 : Shape := ⟨3, ![1, 256, 512]⟩
abbrev S1x128x512 : Shape := ⟨3, ![1, 128, 512]⟩
abbrev S128x512 : Shape := ⟨2, ![128, 512]⟩
abbrev S1x64x512 : Shape := ⟨3, ![1, 64, 512]⟩
abbrev S64x512 : Shape := ⟨2, ![64, 512]⟩

abbrev nBuf : Space → Nat
  | .hbm => 6
  | .vmem => 16
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x128x128, .f32⟩
  | .hbm, ⟨3, _⟩ => ⟨S1x1024x128x128, .f32⟩
  | .hbm, ⟨4, _⟩ => ⟨S1024x1024, .bf16⟩
  | .hbm, ⟨5, _⟩ => ⟨S1024x1024, .bf16⟩
  | .local _ .vmem, ⟨0, _⟩ => ⟨S1x1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S8x1024x128, .bf16⟩
  | .local _ .vmem, ⟨8, _⟩ => ⟨S8x1024x128, .bf16⟩
  | .local _ .vmem, ⟨9, _⟩ => ⟨S8x1024x128, .f32⟩
  | .local _ .vmem, ⟨10, _⟩ => ⟨S8x1024x128, .f32⟩
  | .local _ .vmem, ⟨11, _⟩ => ⟨S1024x1024, .bf16⟩
  | .local _ .vmem, ⟨12, _⟩ => ⟨S4x512x512, .bf16⟩
  | .local _ .vmem, ⟨13, _⟩ => ⟨S4x512x512, .bf16⟩
  | .local _ .vmem, ⟨14, _⟩ => ⟨S1024x512, .bf16⟩
  | .local _ .vmem, ⟨15, _⟩ => ⟨S1024x512, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 4 → Nat :=
  let c0_i32_0 : BitVec 32 := 0#32
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v4 : BitVec 32 := Scalar.addi v3 c0_i32
  let c0_i32_6 : BitVec 32 := 0#32
  ![0, 0, v4.toNat, 0]
def k0_dev1 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_114 : BitVec 32 := 1#32
  let v117 : BitVec 32 := Scalar.xori v2 c1_i32_114
  let c1_i32_116 : BitVec 32 := 1#32
  let v118 : BitVec 32 := Scalar.muli v117 c1_i32_116
  let v119 : BitVec 32 := Scalar.addi c0_i32_117 v118
  v119.toNat
def k0_dev2 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_118 : BitVec 32 := 2#32
  let v120 : BitVec 32 := Scalar.xori v2 c2_i32_118
  let c1_i32_120 : BitVec 32 := 1#32
  let v121 : BitVec 32 := Scalar.muli v120 c1_i32_120
  let v122 : BitVec 32 := Scalar.addi c0_i32_121 v121
  v122.toNat
def k0_dev3 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_122 : BitVec 32 := 4#32
  let v123 : BitVec 32 := Scalar.xori v2 c4_i32_122
  let c1_i32_124 : BitVec 32 := 1#32
  let v124 : BitVec 32 := Scalar.muli v123 c1_i32_124
  let v125 : BitVec 32 := Scalar.addi c0_i32_125 v124
  v125.toNat
def k0_dev4 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_126 : BitVec 32 := 8#32
  let v126 : BitVec 32 := Scalar.xori v2 c8_i32_126
  let c1_i32_128 : BitVec 32 := 1#32
  let v127 : BitVec 32 := Scalar.muli v126 c1_i32_128
  let v128 : BitVec 32 := Scalar.addi c0_i32_129 v127
  v128.toNat
def k0_mult1 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  v132
def k0_mult2 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  v135
def k0_mult3 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  v140
def k0_mult4 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_145 : BitVec 32 := 0#32
  let c0_i32_143 : BitVec 32 := 0#32
  let c512_i32_144 : BitVec 32 := 512#32
  let v142 : BitVec 32 := Scalar.addi c0_i32_143 c512_i32_144
  let v143 : BitVec 32 := Scalar.select v138 c0_i32_145 v142
  v143
def k0_mult5 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  v148
def k0_mult6 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32_148 : BitVec 32 := 256#32
  let v150 : BitVec 32 := Scalar.addi v133 c256_i32_148
  let v151 : BitVec 32 := Scalar.select v146 v133 v150
  v151
def k0_mult7 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  v156
def k0_mult8 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_152 : BitVec 32 := 256#32
  let v158 : BitVec 32 := Scalar.addi v141 c256_i32_152
  let v159 : BitVec 32 := Scalar.select v154 v141 v158
  v159
def k0_mult9 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_153 : BitVec 32 := 4#32
  let v161 : BitVec 32 := Scalar.andi v2 c4_i32_153
  let c0_i32_154 : BitVec 32 := 0#32
  let v162 : BitVec 1 := Scalar.cmpi .ne v161 c0_i32_154
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  v164
def k0_mult10 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_153 : BitVec 32 := 4#32
  let v161 : BitVec 32 := Scalar.andi v2 c4_i32_153
  let c0_i32_154 : BitVec 32 := 0#32
  let v162 : BitVec 1 := Scalar.cmpi .ne v161 c0_i32_154
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32_155 : BitVec 32 := 128#32
  let v166 : BitVec 32 := Scalar.addi v149 c128_i32_155
  let v167 : BitVec 32 := Scalar.select v162 v149 v166
  v167
def k0_mult11 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_156 : BitVec 32 := 2#32
  let v169 : BitVec 32 := Scalar.andi v2 c2_i32_156
  let c0_i32_157 : BitVec 32 := 0#32
  let v170 : BitVec 1 := Scalar.cmpi .ne v169 c0_i32_157
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  let v157 : BitVec 32 := v156
  let c128_i32_158 : BitVec 32 := 128#32
  let v171 : BitVec 32 := Scalar.addi v157 c128_i32_158
  let v172 : BitVec 32 := Scalar.select v170 v171 v157
  v172
def k0_mult12 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_156 : BitVec 32 := 2#32
  let v169 : BitVec 32 := Scalar.andi v2 c2_i32_156
  let c0_i32_157 : BitVec 32 := 0#32
  let v170 : BitVec 1 := Scalar.cmpi .ne v169 c0_i32_157
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  let v157 : BitVec 32 := v156
  let c128_i32_159 : BitVec 32 := 128#32
  let v174 : BitVec 32 := Scalar.addi v157 c128_i32_159
  let v175 : BitVec 32 := Scalar.select v170 v157 v174
  v175
def k0_mult13 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_160 : BitVec 32 := 8#32
  let v177 : BitVec 32 := Scalar.andi v2 c8_i32_160
  let c0_i32_161 : BitVec 32 := 0#32
  let v178 : BitVec 1 := Scalar.cmpi .ne v177 c0_i32_161
  let c4_i32_153 : BitVec 32 := 4#32
  let v161 : BitVec 32 := Scalar.andi v2 c4_i32_153
  let c0_i32_154 : BitVec 32 := 0#32
  let v162 : BitVec 1 := Scalar.cmpi .ne v161 c0_i32_154
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  v180
def k0_mult14 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_160 : BitVec 32 := 8#32
  let v177 : BitVec 32 := Scalar.andi v2 c8_i32_160
  let c0_i32_161 : BitVec 32 := 0#32
  let v178 : BitVec 1 := Scalar.cmpi .ne v177 c0_i32_161
  let c4_i32_153 : BitVec 32 := 4#32
  let v161 : BitVec 32 := Scalar.andi v2 c4_i32_153
  let c0_i32_154 : BitVec 32 := 0#32
  let v162 : BitVec 1 := Scalar.cmpi .ne v161 c0_i32_154
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32_162 : BitVec 32 := 64#32
  let v182 : BitVec 32 := Scalar.addi v165 c64_i32_162
  let v183 : BitVec 32 := Scalar.select v178 v165 v182
  v183
def k0_mult15 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_163 : BitVec 32 := 1#32
  let v185 : BitVec 32 := Scalar.andi v2 c1_i32_163
  let c0_i32_164 : BitVec 32 := 0#32
  let v186 : BitVec 1 := Scalar.cmpi .ne v185 c0_i32_164
  let c2_i32_156 : BitVec 32 := 2#32
  let v169 : BitVec 32 := Scalar.andi v2 c2_i32_156
  let c0_i32_157 : BitVec 32 := 0#32
  let v170 : BitVec 1 := Scalar.cmpi .ne v169 c0_i32_157
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  let v157 : BitVec 32 := v156
  let c128_i32_158 : BitVec 32 := 128#32
  let v171 : BitVec 32 := Scalar.addi v157 c128_i32_158
  let v172 : BitVec 32 := Scalar.select v170 v171 v157
  let v173 : BitVec 32 := v172
  let c64_i32_165 : BitVec 32 := 64#32
  let v187 : BitVec 32 := Scalar.addi v173 c64_i32_165
  let v188 : BitVec 32 := Scalar.select v186 v187 v173
  v188
def k0_mult16 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_163 : BitVec 32 := 1#32
  let v185 : BitVec 32 := Scalar.andi v2 c1_i32_163
  let c0_i32_164 : BitVec 32 := 0#32
  let v186 : BitVec 1 := Scalar.cmpi .ne v185 c0_i32_164
  let c2_i32_156 : BitVec 32 := 2#32
  let v169 : BitVec 32 := Scalar.andi v2 c2_i32_156
  let c0_i32_157 : BitVec 32 := 0#32
  let v170 : BitVec 1 := Scalar.cmpi .ne v169 c0_i32_157
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  let v157 : BitVec 32 := v156
  let c128_i32_158 : BitVec 32 := 128#32
  let v171 : BitVec 32 := Scalar.addi v157 c128_i32_158
  let v172 : BitVec 32 := Scalar.select v170 v171 v157
  let v173 : BitVec 32 := v172
  let c64_i32_166 : BitVec 32 := 64#32
  let v190 : BitVec 32 := Scalar.addi v173 c64_i32_166
  let v191 : BitVec 32 := Scalar.select v186 v173 v190
  v191
def k0_mult17 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  v136
def k0_mult18 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  v133
def k0_off2 (d0 : Dev nD) : Fin 3 → Nat :=
  let c0 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v195 : Index := Scalar.indexCast v193
  let c0_167 : Index := 0#32
  ![0, v195.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v202 : Index := Scalar.indexCast v193
  let c0_170 : Index := 0#32
  ![v202.toNat, 0]
def k0_mult19 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c0_i32_197 : BitVec 32 := 0#32
  let v230 : BitVec 32 := Scalar.addi v193 c0_i32_197
  v230
def k0_mult20 (d0 : Dev nD) : BitVec 32 :=
  let c512_i32_200 : BitVec 32 := 512#32
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c0_i32_197 : BitVec 32 := 0#32
  let v230 : BitVec 32 := Scalar.addi v193 c0_i32_197
  let v231 : BitVec 32 := v230
  let c128_i32_198 : BitVec 32 := 128#32
  let v232 : BitVec 32 := Scalar.subi v231 c128_i32_198
  let v233 : BitVec 32 := Scalar.maxsi c0_i32_199 v232
  let v234 : BitVec 32 := Scalar.minsi c512_i32_200 v233
  v234
def k0_off4 (d0 : Dev nD) (c0_i32_197 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v230 : BitVec 32 := Scalar.addi v193 c0_i32_197
  let v231 : BitVec 32 := v230
  let v236 : Index := Scalar.indexCast v231
  let c0_201 : Index := 0#32
  ![v236.toNat, 0]
def k0_off5 (d0 : Dev nD) (c0_i32_197 : BitVec 32) : Fin 3 → Nat :=
  let c0_202 : Index := 0#32
  let c512_i32_200 : BitVec 32 := 512#32
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v230 : BitVec 32 := Scalar.addi v193 c0_i32_197
  let v231 : BitVec 32 := v230
  let c128_i32_198 : BitVec 32 := 128#32
  let v232 : BitVec 32 := Scalar.subi v231 c128_i32_198
  let v233 : BitVec 32 := Scalar.maxsi c0_i32_199 v232
  let v234 : BitVec 32 := Scalar.minsi c512_i32_200 v233
  let v235 : BitVec 32 := v234
  let v238 : Index := Scalar.indexCast v235
  let c0_203 : Index := 0#32
  ![0, v238.toNat, 0]
def k0_mult21 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c256_i32_214 : BitVec 32 := 256#32
  let v275 : BitVec 32 := Scalar.addi v193 c256_i32_214
  v275
def k0_mult22 (d0 : Dev nD) : BitVec 32 :=
  let c512_i32_217 : BitVec 32 := 512#32
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c256_i32_214 : BitVec 32 := 256#32
  let v275 : BitVec 32 := Scalar.addi v193 c256_i32_214
  let v276 : BitVec 32 := v275
  let c128_i32_215 : BitVec 32 := 128#32
  let v277 : BitVec 32 := Scalar.subi v276 c128_i32_215
  let v278 : BitVec 32 := Scalar.maxsi c0_i32_216 v277
  let v279 : BitVec 32 := Scalar.minsi c512_i32_217 v278
  v279
def k0_mult23 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c0_i32_256 : BitVec 32 := 0#32
  let v344 : BitVec 32 := Scalar.addi v193 c0_i32_256
  v344
def k0_mult24 (d0 : Dev nD) : BitVec 32 :=
  let c512_i32_259 : BitVec 32 := 512#32
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c0_i32_256 : BitVec 32 := 0#32
  let v344 : BitVec 32 := Scalar.addi v193 c0_i32_256
  let v345 : BitVec 32 := v344
  let c128_i32_257 : BitVec 32 := 128#32
  let v346 : BitVec 32 := Scalar.subi v345 c128_i32_257
  let v347 : BitVec 32 := Scalar.maxsi c0_i32_258 v346
  let v348 : BitVec 32 := Scalar.minsi c512_i32_259 v347
  v348
def k0_off6 (d0 : Dev nD) (c0_i32_256 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v344 : BitVec 32 := Scalar.addi v193 c0_i32_256
  let v345 : BitVec 32 := v344
  let v350 : Index := Scalar.indexCast v345
  let c128 : Index := 128#32
  ![v350.toNat, 128]
def k0_off7 (d0 : Dev nD) (c0_i32_256 : BitVec 32) : Fin 3 → Nat :=
  let c1_260 : Index := 1#32
  let c512_i32_259 : BitVec 32 := 512#32
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v344 : BitVec 32 := Scalar.addi v193 c0_i32_256
  let v345 : BitVec 32 := v344
  let c128_i32_257 : BitVec 32 := 128#32
  let v346 : BitVec 32 := Scalar.subi v345 c128_i32_257
  let v347 : BitVec 32 := Scalar.maxsi c0_i32_258 v346
  let v348 : BitVec 32 := Scalar.minsi c512_i32_259 v347
  let v349 : BitVec 32 := v348
  let v352 : Index := Scalar.indexCast v349
  let c0_261 : Index := 0#32
  ![1, v352.toNat, 0]
def k0_mult25 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c256_i32_272 : BitVec 32 := 256#32
  let v389 : BitVec 32 := Scalar.addi v193 c256_i32_272
  v389
def k0_mult26 (d0 : Dev nD) : BitVec 32 :=
  let c512_i32_275 : BitVec 32 := 512#32
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c256_i32_272 : BitVec 32 := 256#32
  let v389 : BitVec 32 := Scalar.addi v193 c256_i32_272
  let v390 : BitVec 32 := v389
  let c128_i32_273 : BitVec 32 := 128#32
  let v391 : BitVec 32 := Scalar.subi v390 c128_i32_273
  let v392 : BitVec 32 := Scalar.maxsi c0_i32_274 v391
  let v393 : BitVec 32 := Scalar.minsi c512_i32_275 v392
  v393
def k0_mult27 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c0_i32_314 : BitVec 32 := 0#32
  let v458 : BitVec 32 := Scalar.addi v193 c0_i32_314
  v458
def k0_mult28 (d0 : Dev nD) : BitVec 32 :=
  let c512_i32_317 : BitVec 32 := 512#32
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c0_i32_314 : BitVec 32 := 0#32
  let v458 : BitVec 32 := Scalar.addi v193 c0_i32_314
  let v459 : BitVec 32 := v458
  let c128_i32_315 : BitVec 32 := 128#32
  let v460 : BitVec 32 := Scalar.subi v459 c128_i32_315
  let v461 : BitVec 32 := Scalar.maxsi c0_i32_316 v460
  let v462 : BitVec 32 := Scalar.minsi c512_i32_317 v461
  v462
def k0_off8 (d0 : Dev nD) (c0_i32_314 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v458 : BitVec 32 := Scalar.addi v193 c0_i32_314
  let v459 : BitVec 32 := v458
  let v464 : Index := Scalar.indexCast v459
  let c256 : Index := 256#32
  ![v464.toNat, 256]
def k0_off9 (d0 : Dev nD) (c0_i32_314 : BitVec 32) : Fin 3 → Nat :=
  let c2_318 : Index := 2#32
  let c512_i32_317 : BitVec 32 := 512#32
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v458 : BitVec 32 := Scalar.addi v193 c0_i32_314
  let v459 : BitVec 32 := v458
  let c128_i32_315 : BitVec 32 := 128#32
  let v460 : BitVec 32 := Scalar.subi v459 c128_i32_315
  let v461 : BitVec 32 := Scalar.maxsi c0_i32_316 v460
  let v462 : BitVec 32 := Scalar.minsi c512_i32_317 v461
  let v463 : BitVec 32 := v462
  let v466 : Index := Scalar.indexCast v463
  let c0_319 : Index := 0#32
  ![2, v466.toNat, 0]
def k0_mult29 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c256_i32_330 : BitVec 32 := 256#32
  let v503 : BitVec 32 := Scalar.addi v193 c256_i32_330
  v503
def k0_mult30 (d0 : Dev nD) : BitVec 32 :=
  let c512_i32_333 : BitVec 32 := 512#32
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c256_i32_330 : BitVec 32 := 256#32
  let v503 : BitVec 32 := Scalar.addi v193 c256_i32_330
  let v504 : BitVec 32 := v503
  let c128_i32_331 : BitVec 32 := 128#32
  let v505 : BitVec 32 := Scalar.subi v504 c128_i32_331
  let v506 : BitVec 32 := Scalar.maxsi c0_i32_332 v505
  let v507 : BitVec 32 := Scalar.minsi c512_i32_333 v506
  v507
def k0_mult31 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c0_i32_372 : BitVec 32 := 0#32
  let v572 : BitVec 32 := Scalar.addi v193 c0_i32_372
  v572
def k0_mult32 (d0 : Dev nD) : BitVec 32 :=
  let c512_i32_375 : BitVec 32 := 512#32
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c0_i32_372 : BitVec 32 := 0#32
  let v572 : BitVec 32 := Scalar.addi v193 c0_i32_372
  let v573 : BitVec 32 := v572
  let c128_i32_373 : BitVec 32 := 128#32
  let v574 : BitVec 32 := Scalar.subi v573 c128_i32_373
  let v575 : BitVec 32 := Scalar.maxsi c0_i32_374 v574
  let v576 : BitVec 32 := Scalar.minsi c512_i32_375 v575
  v576
def k0_off10 (d0 : Dev nD) (c0_i32_372 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v572 : BitVec 32 := Scalar.addi v193 c0_i32_372
  let v573 : BitVec 32 := v572
  let v578 : Index := Scalar.indexCast v573
  let c384 : Index := 384#32
  ![v578.toNat, 384]
def k0_off11 (d0 : Dev nD) (c0_i32_372 : BitVec 32) : Fin 3 → Nat :=
  let c3_376 : Index := 3#32
  let c512_i32_375 : BitVec 32 := 512#32
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v572 : BitVec 32 := Scalar.addi v193 c0_i32_372
  let v573 : BitVec 32 := v572
  let c128_i32_373 : BitVec 32 := 128#32
  let v574 : BitVec 32 := Scalar.subi v573 c128_i32_373
  let v575 : BitVec 32 := Scalar.maxsi c0_i32_374 v574
  let v576 : BitVec 32 := Scalar.minsi c512_i32_375 v575
  let v577 : BitVec 32 := v576
  let v580 : Index := Scalar.indexCast v577
  let c0_377 : Index := 0#32
  ![3, v580.toNat, 0]
def k0_mult33 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c256_i32_388 : BitVec 32 := 256#32
  let v617 : BitVec 32 := Scalar.addi v193 c256_i32_388
  v617
def k0_mult34 (d0 : Dev nD) : BitVec 32 :=
  let c512_i32_391 : BitVec 32 := 512#32
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c256_i32_388 : BitVec 32 := 256#32
  let v617 : BitVec 32 := Scalar.addi v193 c256_i32_388
  let v618 : BitVec 32 := v617
  let c128_i32_389 : BitVec 32 := 128#32
  let v619 : BitVec 32 := Scalar.subi v618 c128_i32_389
  let v620 : BitVec 32 := Scalar.maxsi c0_i32_390 v619
  let v621 : BitVec 32 := Scalar.minsi c512_i32_391 v620
  v621
def k0_mult35 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c0_i32_430 : BitVec 32 := 0#32
  let v686 : BitVec 32 := Scalar.addi v193 c0_i32_430
  v686
def k0_mult36 (d0 : Dev nD) : BitVec 32 :=
  let c512_i32_433 : BitVec 32 := 512#32
  let c0_i32_432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c0_i32_430 : BitVec 32 := 0#32
  let v686 : BitVec 32 := Scalar.addi v193 c0_i32_430
  let v687 : BitVec 32 := v686
  let c128_i32_431 : BitVec 32 := 128#32
  let v688 : BitVec 32 := Scalar.subi v687 c128_i32_431
  let v689 : BitVec 32 := Scalar.maxsi c0_i32_432 v688
  let v690 : BitVec 32 := Scalar.minsi c512_i32_433 v689
  v690
def k0_off12 (d0 : Dev nD) (c0_i32_430 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v686 : BitVec 32 := Scalar.addi v193 c0_i32_430
  let v687 : BitVec 32 := v686
  let v692 : Index := Scalar.indexCast v687
  let c512 : Index := 512#32
  ![v692.toNat, 512]
def k0_off13 (d0 : Dev nD) (c0_i32_430 : BitVec 32) : Fin 3 → Nat :=
  let c4_434 : Index := 4#32
  let c512_i32_433 : BitVec 32 := 512#32
  let c0_i32_432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v686 : BitVec 32 := Scalar.addi v193 c0_i32_430
  let v687 : BitVec 32 := v686
  let c128_i32_431 : BitVec 32 := 128#32
  let v688 : BitVec 32 := Scalar.subi v687 c128_i32_431
  let v689 : BitVec 32 := Scalar.maxsi c0_i32_432 v688
  let v690 : BitVec 32 := Scalar.minsi c512_i32_433 v689
  let v691 : BitVec 32 := v690
  let v694 : Index := Scalar.indexCast v691
  let c0_435 : Index := 0#32
  ![4, v694.toNat, 0]
def k0_mult37 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c256_i32_446 : BitVec 32 := 256#32
  let v731 : BitVec 32 := Scalar.addi v193 c256_i32_446
  v731
def k0_mult38 (d0 : Dev nD) : BitVec 32 :=
  let c512_i32_449 : BitVec 32 := 512#32
  let c0_i32_448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c256_i32_446 : BitVec 32 := 256#32
  let v731 : BitVec 32 := Scalar.addi v193 c256_i32_446
  let v732 : BitVec 32 := v731
  let c128_i32_447 : BitVec 32 := 128#32
  let v733 : BitVec 32 := Scalar.subi v732 c128_i32_447
  let v734 : BitVec 32 := Scalar.maxsi c0_i32_448 v733
  let v735 : BitVec 32 := Scalar.minsi c512_i32_449 v734
  v735
def k0_mult39 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c0_i32_488 : BitVec 32 := 0#32
  let v800 : BitVec 32 := Scalar.addi v193 c0_i32_488
  v800
def k0_mult40 (d0 : Dev nD) : BitVec 32 :=
  let c512_i32_491 : BitVec 32 := 512#32
  let c0_i32_490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c0_i32_488 : BitVec 32 := 0#32
  let v800 : BitVec 32 := Scalar.addi v193 c0_i32_488
  let v801 : BitVec 32 := v800
  let c128_i32_489 : BitVec 32 := 128#32
  let v802 : BitVec 32 := Scalar.subi v801 c128_i32_489
  let v803 : BitVec 32 := Scalar.maxsi c0_i32_490 v802
  let v804 : BitVec 32 := Scalar.minsi c512_i32_491 v803
  v804
def k0_off14 (d0 : Dev nD) (c0_i32_488 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v800 : BitVec 32 := Scalar.addi v193 c0_i32_488
  let v801 : BitVec 32 := v800
  let v806 : Index := Scalar.indexCast v801
  let c640 : Index := 640#32
  ![v806.toNat, 640]
def k0_off15 (d0 : Dev nD) (c0_i32_488 : BitVec 32) : Fin 3 → Nat :=
  let c5_492 : Index := 5#32
  let c512_i32_491 : BitVec 32 := 512#32
  let c0_i32_490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v800 : BitVec 32 := Scalar.addi v193 c0_i32_488
  let v801 : BitVec 32 := v800
  let c128_i32_489 : BitVec 32 := 128#32
  let v802 : BitVec 32 := Scalar.subi v801 c128_i32_489
  let v803 : BitVec 32 := Scalar.maxsi c0_i32_490 v802
  let v804 : BitVec 32 := Scalar.minsi c512_i32_491 v803
  let v805 : BitVec 32 := v804
  let v808 : Index := Scalar.indexCast v805
  let c0_493 : Index := 0#32
  ![5, v808.toNat, 0]
def k0_mult41 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c256_i32_504 : BitVec 32 := 256#32
  let v845 : BitVec 32 := Scalar.addi v193 c256_i32_504
  v845
def k0_mult42 (d0 : Dev nD) : BitVec 32 :=
  let c512_i32_507 : BitVec 32 := 512#32
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c256_i32_504 : BitVec 32 := 256#32
  let v845 : BitVec 32 := Scalar.addi v193 c256_i32_504
  let v846 : BitVec 32 := v845
  let c128_i32_505 : BitVec 32 := 128#32
  let v847 : BitVec 32 := Scalar.subi v846 c128_i32_505
  let v848 : BitVec 32 := Scalar.maxsi c0_i32_506 v847
  let v849 : BitVec 32 := Scalar.minsi c512_i32_507 v848
  v849
def k0_mult43 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c0_i32_546 : BitVec 32 := 0#32
  let v914 : BitVec 32 := Scalar.addi v193 c0_i32_546
  v914
def k0_mult44 (d0 : Dev nD) : BitVec 32 :=
  let c512_i32_549 : BitVec 32 := 512#32
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c0_i32_546 : BitVec 32 := 0#32
  let v914 : BitVec 32 := Scalar.addi v193 c0_i32_546
  let v915 : BitVec 32 := v914
  let c128_i32_547 : BitVec 32 := 128#32
  let v916 : BitVec 32 := Scalar.subi v915 c128_i32_547
  let v917 : BitVec 32 := Scalar.maxsi c0_i32_548 v916
  let v918 : BitVec 32 := Scalar.minsi c512_i32_549 v917
  v918
def k0_off16 (d0 : Dev nD) (c0_i32_546 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v914 : BitVec 32 := Scalar.addi v193 c0_i32_546
  let v915 : BitVec 32 := v914
  let v920 : Index := Scalar.indexCast v915
  let c768 : Index := 768#32
  ![v920.toNat, 768]
def k0_off17 (d0 : Dev nD) (c0_i32_546 : BitVec 32) : Fin 3 → Nat :=
  let c6_550 : Index := 6#32
  let c512_i32_549 : BitVec 32 := 512#32
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v914 : BitVec 32 := Scalar.addi v193 c0_i32_546
  let v915 : BitVec 32 := v914
  let c128_i32_547 : BitVec 32 := 128#32
  let v916 : BitVec 32 := Scalar.subi v915 c128_i32_547
  let v917 : BitVec 32 := Scalar.maxsi c0_i32_548 v916
  let v918 : BitVec 32 := Scalar.minsi c512_i32_549 v917
  let v919 : BitVec 32 := v918
  let v922 : Index := Scalar.indexCast v919
  let c0_551 : Index := 0#32
  ![6, v922.toNat, 0]
def k0_mult45 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c256_i32_562 : BitVec 32 := 256#32
  let v959 : BitVec 32 := Scalar.addi v193 c256_i32_562
  v959
def k0_mult46 (d0 : Dev nD) : BitVec 32 :=
  let c512_i32_565 : BitVec 32 := 512#32
  let c0_i32_564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c256_i32_562 : BitVec 32 := 256#32
  let v959 : BitVec 32 := Scalar.addi v193 c256_i32_562
  let v960 : BitVec 32 := v959
  let c128_i32_563 : BitVec 32 := 128#32
  let v961 : BitVec 32 := Scalar.subi v960 c128_i32_563
  let v962 : BitVec 32 := Scalar.maxsi c0_i32_564 v961
  let v963 : BitVec 32 := Scalar.minsi c512_i32_565 v962
  v963
def k0_mult47 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c0_i32_604 : BitVec 32 := 0#32
  let v1028 : BitVec 32 := Scalar.addi v193 c0_i32_604
  v1028
def k0_mult48 (d0 : Dev nD) : BitVec 32 :=
  let c512_i32_607 : BitVec 32 := 512#32
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c0_i32_604 : BitVec 32 := 0#32
  let v1028 : BitVec 32 := Scalar.addi v193 c0_i32_604
  let v1029 : BitVec 32 := v1028
  let c128_i32_605 : BitVec 32 := 128#32
  let v1030 : BitVec 32 := Scalar.subi v1029 c128_i32_605
  let v1031 : BitVec 32 := Scalar.maxsi c0_i32_606 v1030
  let v1032 : BitVec 32 := Scalar.minsi c512_i32_607 v1031
  v1032
def k0_off18 (d0 : Dev nD) (c0_i32_604 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v1028 : BitVec 32 := Scalar.addi v193 c0_i32_604
  let v1029 : BitVec 32 := v1028
  let v1034 : Index := Scalar.indexCast v1029
  let c896 : Index := 896#32
  ![v1034.toNat, 896]
def k0_off19 (d0 : Dev nD) (c0_i32_604 : BitVec 32) : Fin 3 → Nat :=
  let c7_608 : Index := 7#32
  let c512_i32_607 : BitVec 32 := 512#32
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v1028 : BitVec 32 := Scalar.addi v193 c0_i32_604
  let v1029 : BitVec 32 := v1028
  let c128_i32_605 : BitVec 32 := 128#32
  let v1030 : BitVec 32 := Scalar.subi v1029 c128_i32_605
  let v1031 : BitVec 32 := Scalar.maxsi c0_i32_606 v1030
  let v1032 : BitVec 32 := Scalar.minsi c512_i32_607 v1031
  let v1033 : BitVec 32 := v1032
  let v1036 : Index := Scalar.indexCast v1033
  let c0_609 : Index := 0#32
  ![7, v1036.toNat, 0]
def k0_mult49 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c256_i32_620 : BitVec 32 := 256#32
  let v1073 : BitVec 32 := Scalar.addi v193 c256_i32_620
  v1073
def k0_mult50 (d0 : Dev nD) : BitVec 32 :=
  let c512_i32_623 : BitVec 32 := 512#32
  let c0_i32_622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let c256_i32_620 : BitVec 32 := 256#32
  let v1073 : BitVec 32 := Scalar.addi v193 c256_i32_620
  let v1074 : BitVec 32 := v1073
  let c128_i32_621 : BitVec 32 := 128#32
  let v1075 : BitVec 32 := Scalar.subi v1074 c128_i32_621
  let v1076 : BitVec 32 := Scalar.maxsi c0_i32_622 v1075
  let v1077 : BitVec 32 := Scalar.minsi c512_i32_623 v1076
  v1077
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let v193 : BitVec 32 := v136
  let v1123 : Index := Scalar.indexCast v193
  let c0_641 : Index := 0#32
  ![v1123.toNat, 0]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_137 : BitVec 32 := 0#32
  let c0_i32_135 : BitVec 32 := 0#32
  let c512_i32_136 : BitVec 32 := 512#32
  let v134 : BitVec 32 := Scalar.addi c0_i32_135 c512_i32_136
  let v135 : BitVec 32 := Scalar.select v130 c0_i32_137 v134
  let v136 : BitVec 32 := v135
  let c0_i32_651 : BitVec 32 := 0#32
  ![v136.toNat, 0]
def k0_dev5 (d0 : Dev nD) : Nat :=
  let c0_i32_648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_643 : BitVec 32 := 1#32
  let v1132 : BitVec 32 := Scalar.xori v2 c1_i32_643
  let c1_i32_647 : BitVec 32 := 1#32
  let v1133 : BitVec 32 := Scalar.muli v1132 c1_i32_647
  let v1134 : BitVec 32 := Scalar.addi c0_i32_648 v1133
  v1134.toNat
def k0_off22 (d0 : Dev nD) : Fin 3 → Nat :=
  let c0_652 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1142 : Index := Scalar.indexCast v194
  let c0_653 : Index := 0#32
  ![0, v1142.toNat, 0]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1149 : Index := Scalar.indexCast v194
  let c0_657 : Index := 0#32
  ![v1149.toNat, 0]
def k0_mult51 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c0_i32_658 : BitVec 32 := 0#32
  let v1153 : BitVec 32 := Scalar.addi v194 c0_i32_658
  v1153
def k0_mult52 (d0 : Dev nD) : BitVec 32 :=
  let c512_i32_661 : BitVec 32 := 512#32
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c0_i32_658 : BitVec 32 := 0#32
  let v1153 : BitVec 32 := Scalar.addi v194 c0_i32_658
  let v1154 : BitVec 32 := v1153
  let c128_i32_659 : BitVec 32 := 128#32
  let v1155 : BitVec 32 := Scalar.subi v1154 c128_i32_659
  let v1156 : BitVec 32 := Scalar.maxsi c0_i32_660 v1155
  let v1157 : BitVec 32 := Scalar.minsi c512_i32_661 v1156
  v1157
def k0_off24 (d0 : Dev nD) (c0_i32_658 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1153 : BitVec 32 := Scalar.addi v194 c0_i32_658
  let v1154 : BitVec 32 := v1153
  let v1159 : Index := Scalar.indexCast v1154
  let c0_662 : Index := 0#32
  ![v1159.toNat, 0]
def k0_off25 (d0 : Dev nD) (c0_i32_658 : BitVec 32) : Fin 3 → Nat :=
  let c0_663 : Index := 0#32
  let c512_i32_661 : BitVec 32 := 512#32
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1153 : BitVec 32 := Scalar.addi v194 c0_i32_658
  let v1154 : BitVec 32 := v1153
  let c128_i32_659 : BitVec 32 := 128#32
  let v1155 : BitVec 32 := Scalar.subi v1154 c128_i32_659
  let v1156 : BitVec 32 := Scalar.maxsi c0_i32_660 v1155
  let v1157 : BitVec 32 := Scalar.minsi c512_i32_661 v1156
  let v1158 : BitVec 32 := v1157
  let v1161 : Index := Scalar.indexCast v1158
  let c0_664 : Index := 0#32
  ![0, v1161.toNat, 0]
def k0_mult53 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c256_i32_675 : BitVec 32 := 256#32
  let v1198 : BitVec 32 := Scalar.addi v194 c256_i32_675
  v1198
def k0_mult54 (d0 : Dev nD) : BitVec 32 :=
  let c512_i32_678 : BitVec 32 := 512#32
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c256_i32_675 : BitVec 32 := 256#32
  let v1198 : BitVec 32 := Scalar.addi v194 c256_i32_675
  let v1199 : BitVec 32 := v1198
  let c128_i32_676 : BitVec 32 := 128#32
  let v1200 : BitVec 32 := Scalar.subi v1199 c128_i32_676
  let v1201 : BitVec 32 := Scalar.maxsi c0_i32_677 v1200
  let v1202 : BitVec 32 := Scalar.minsi c512_i32_678 v1201
  v1202
def k0_mult55 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c0_i32_692 : BitVec 32 := 0#32
  let v1243 : BitVec 32 := Scalar.addi v194 c0_i32_692
  v1243
def k0_mult56 (d0 : Dev nD) : BitVec 32 :=
  let c512_i32_695 : BitVec 32 := 512#32
  let c0_i32_694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c0_i32_692 : BitVec 32 := 0#32
  let v1243 : BitVec 32 := Scalar.addi v194 c0_i32_692
  let v1244 : BitVec 32 := v1243
  let c128_i32_693 : BitVec 32 := 128#32
  let v1245 : BitVec 32 := Scalar.subi v1244 c128_i32_693
  let v1246 : BitVec 32 := Scalar.maxsi c0_i32_694 v1245
  let v1247 : BitVec 32 := Scalar.minsi c512_i32_695 v1246
  v1247
def k0_off26 (d0 : Dev nD) (c0_i32_692 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1243 : BitVec 32 := Scalar.addi v194 c0_i32_692
  let v1244 : BitVec 32 := v1243
  let v1249 : Index := Scalar.indexCast v1244
  let c128_696 : Index := 128#32
  ![v1249.toNat, 128]
def k0_off27 (d0 : Dev nD) (c0_i32_692 : BitVec 32) : Fin 3 → Nat :=
  let c1_697 : Index := 1#32
  let c512_i32_695 : BitVec 32 := 512#32
  let c0_i32_694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1243 : BitVec 32 := Scalar.addi v194 c0_i32_692
  let v1244 : BitVec 32 := v1243
  let c128_i32_693 : BitVec 32 := 128#32
  let v1245 : BitVec 32 := Scalar.subi v1244 c128_i32_693
  let v1246 : BitVec 32 := Scalar.maxsi c0_i32_694 v1245
  let v1247 : BitVec 32 := Scalar.minsi c512_i32_695 v1246
  let v1248 : BitVec 32 := v1247
  let v1251 : Index := Scalar.indexCast v1248
  let c0_698 : Index := 0#32
  ![1, v1251.toNat, 0]
def k0_mult57 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c256_i32_709 : BitVec 32 := 256#32
  let v1288 : BitVec 32 := Scalar.addi v194 c256_i32_709
  v1288
def k0_mult58 (d0 : Dev nD) : BitVec 32 :=
  let c512_i32_712 : BitVec 32 := 512#32
  let c0_i32_711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c256_i32_709 : BitVec 32 := 256#32
  let v1288 : BitVec 32 := Scalar.addi v194 c256_i32_709
  let v1289 : BitVec 32 := v1288
  let c128_i32_710 : BitVec 32 := 128#32
  let v1290 : BitVec 32 := Scalar.subi v1289 c128_i32_710
  let v1291 : BitVec 32 := Scalar.maxsi c0_i32_711 v1290
  let v1292 : BitVec 32 := Scalar.minsi c512_i32_712 v1291
  v1292
def k0_mult59 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c0_i32_726 : BitVec 32 := 0#32
  let v1333 : BitVec 32 := Scalar.addi v194 c0_i32_726
  v1333
def k0_mult60 (d0 : Dev nD) : BitVec 32 :=
  let c512_i32_729 : BitVec 32 := 512#32
  let c0_i32_728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c0_i32_726 : BitVec 32 := 0#32
  let v1333 : BitVec 32 := Scalar.addi v194 c0_i32_726
  let v1334 : BitVec 32 := v1333
  let c128_i32_727 : BitVec 32 := 128#32
  let v1335 : BitVec 32 := Scalar.subi v1334 c128_i32_727
  let v1336 : BitVec 32 := Scalar.maxsi c0_i32_728 v1335
  let v1337 : BitVec 32 := Scalar.minsi c512_i32_729 v1336
  v1337
def k0_off28 (d0 : Dev nD) (c0_i32_726 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1333 : BitVec 32 := Scalar.addi v194 c0_i32_726
  let v1334 : BitVec 32 := v1333
  let v1339 : Index := Scalar.indexCast v1334
  let c256_730 : Index := 256#32
  ![v1339.toNat, 256]
def k0_off29 (d0 : Dev nD) (c0_i32_726 : BitVec 32) : Fin 3 → Nat :=
  let c2_731 : Index := 2#32
  let c512_i32_729 : BitVec 32 := 512#32
  let c0_i32_728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1333 : BitVec 32 := Scalar.addi v194 c0_i32_726
  let v1334 : BitVec 32 := v1333
  let c128_i32_727 : BitVec 32 := 128#32
  let v1335 : BitVec 32 := Scalar.subi v1334 c128_i32_727
  let v1336 : BitVec 32 := Scalar.maxsi c0_i32_728 v1335
  let v1337 : BitVec 32 := Scalar.minsi c512_i32_729 v1336
  let v1338 : BitVec 32 := v1337
  let v1341 : Index := Scalar.indexCast v1338
  let c0_732 : Index := 0#32
  ![2, v1341.toNat, 0]
def k0_mult61 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c256_i32_743 : BitVec 32 := 256#32
  let v1378 : BitVec 32 := Scalar.addi v194 c256_i32_743
  v1378
def k0_mult62 (d0 : Dev nD) : BitVec 32 :=
  let c512_i32_746 : BitVec 32 := 512#32
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c256_i32_743 : BitVec 32 := 256#32
  let v1378 : BitVec 32 := Scalar.addi v194 c256_i32_743
  let v1379 : BitVec 32 := v1378
  let c128_i32_744 : BitVec 32 := 128#32
  let v1380 : BitVec 32 := Scalar.subi v1379 c128_i32_744
  let v1381 : BitVec 32 := Scalar.maxsi c0_i32_745 v1380
  let v1382 : BitVec 32 := Scalar.minsi c512_i32_746 v1381
  v1382
def k0_mult63 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c0_i32_760 : BitVec 32 := 0#32
  let v1423 : BitVec 32 := Scalar.addi v194 c0_i32_760
  v1423
def k0_mult64 (d0 : Dev nD) : BitVec 32 :=
  let c512_i32_763 : BitVec 32 := 512#32
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c0_i32_760 : BitVec 32 := 0#32
  let v1423 : BitVec 32 := Scalar.addi v194 c0_i32_760
  let v1424 : BitVec 32 := v1423
  let c128_i32_761 : BitVec 32 := 128#32
  let v1425 : BitVec 32 := Scalar.subi v1424 c128_i32_761
  let v1426 : BitVec 32 := Scalar.maxsi c0_i32_762 v1425
  let v1427 : BitVec 32 := Scalar.minsi c512_i32_763 v1426
  v1427
def k0_off30 (d0 : Dev nD) (c0_i32_760 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1423 : BitVec 32 := Scalar.addi v194 c0_i32_760
  let v1424 : BitVec 32 := v1423
  let v1429 : Index := Scalar.indexCast v1424
  let c384_764 : Index := 384#32
  ![v1429.toNat, 384]
def k0_off31 (d0 : Dev nD) (c0_i32_760 : BitVec 32) : Fin 3 → Nat :=
  let c3_765 : Index := 3#32
  let c512_i32_763 : BitVec 32 := 512#32
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1423 : BitVec 32 := Scalar.addi v194 c0_i32_760
  let v1424 : BitVec 32 := v1423
  let c128_i32_761 : BitVec 32 := 128#32
  let v1425 : BitVec 32 := Scalar.subi v1424 c128_i32_761
  let v1426 : BitVec 32 := Scalar.maxsi c0_i32_762 v1425
  let v1427 : BitVec 32 := Scalar.minsi c512_i32_763 v1426
  let v1428 : BitVec 32 := v1427
  let v1431 : Index := Scalar.indexCast v1428
  let c0_766 : Index := 0#32
  ![3, v1431.toNat, 0]
def k0_mult65 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c256_i32_777 : BitVec 32 := 256#32
  let v1468 : BitVec 32 := Scalar.addi v194 c256_i32_777
  v1468
def k0_mult66 (d0 : Dev nD) : BitVec 32 :=
  let c512_i32_780 : BitVec 32 := 512#32
  let c0_i32_779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c256_i32_777 : BitVec 32 := 256#32
  let v1468 : BitVec 32 := Scalar.addi v194 c256_i32_777
  let v1469 : BitVec 32 := v1468
  let c128_i32_778 : BitVec 32 := 128#32
  let v1470 : BitVec 32 := Scalar.subi v1469 c128_i32_778
  let v1471 : BitVec 32 := Scalar.maxsi c0_i32_779 v1470
  let v1472 : BitVec 32 := Scalar.minsi c512_i32_780 v1471
  v1472
def k0_mult67 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c0_i32_794 : BitVec 32 := 0#32
  let v1513 : BitVec 32 := Scalar.addi v194 c0_i32_794
  v1513
def k0_mult68 (d0 : Dev nD) : BitVec 32 :=
  let c512_i32_797 : BitVec 32 := 512#32
  let c0_i32_796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c0_i32_794 : BitVec 32 := 0#32
  let v1513 : BitVec 32 := Scalar.addi v194 c0_i32_794
  let v1514 : BitVec 32 := v1513
  let c128_i32_795 : BitVec 32 := 128#32
  let v1515 : BitVec 32 := Scalar.subi v1514 c128_i32_795
  let v1516 : BitVec 32 := Scalar.maxsi c0_i32_796 v1515
  let v1517 : BitVec 32 := Scalar.minsi c512_i32_797 v1516
  v1517
def k0_off32 (d0 : Dev nD) (c0_i32_794 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1513 : BitVec 32 := Scalar.addi v194 c0_i32_794
  let v1514 : BitVec 32 := v1513
  let v1519 : Index := Scalar.indexCast v1514
  let c512_798 : Index := 512#32
  ![v1519.toNat, 512]
def k0_off33 (d0 : Dev nD) (c0_i32_794 : BitVec 32) : Fin 3 → Nat :=
  let c4_799 : Index := 4#32
  let c512_i32_797 : BitVec 32 := 512#32
  let c0_i32_796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1513 : BitVec 32 := Scalar.addi v194 c0_i32_794
  let v1514 : BitVec 32 := v1513
  let c128_i32_795 : BitVec 32 := 128#32
  let v1515 : BitVec 32 := Scalar.subi v1514 c128_i32_795
  let v1516 : BitVec 32 := Scalar.maxsi c0_i32_796 v1515
  let v1517 : BitVec 32 := Scalar.minsi c512_i32_797 v1516
  let v1518 : BitVec 32 := v1517
  let v1521 : Index := Scalar.indexCast v1518
  let c0_800 : Index := 0#32
  ![4, v1521.toNat, 0]
def k0_mult69 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c256_i32_811 : BitVec 32 := 256#32
  let v1558 : BitVec 32 := Scalar.addi v194 c256_i32_811
  v1558
def k0_mult70 (d0 : Dev nD) : BitVec 32 :=
  let c512_i32_814 : BitVec 32 := 512#32
  let c0_i32_813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c256_i32_811 : BitVec 32 := 256#32
  let v1558 : BitVec 32 := Scalar.addi v194 c256_i32_811
  let v1559 : BitVec 32 := v1558
  let c128_i32_812 : BitVec 32 := 128#32
  let v1560 : BitVec 32 := Scalar.subi v1559 c128_i32_812
  let v1561 : BitVec 32 := Scalar.maxsi c0_i32_813 v1560
  let v1562 : BitVec 32 := Scalar.minsi c512_i32_814 v1561
  v1562
def k0_mult71 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c0_i32_828 : BitVec 32 := 0#32
  let v1603 : BitVec 32 := Scalar.addi v194 c0_i32_828
  v1603
def k0_mult72 (d0 : Dev nD) : BitVec 32 :=
  let c512_i32_831 : BitVec 32 := 512#32
  let c0_i32_830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c0_i32_828 : BitVec 32 := 0#32
  let v1603 : BitVec 32 := Scalar.addi v194 c0_i32_828
  let v1604 : BitVec 32 := v1603
  let c128_i32_829 : BitVec 32 := 128#32
  let v1605 : BitVec 32 := Scalar.subi v1604 c128_i32_829
  let v1606 : BitVec 32 := Scalar.maxsi c0_i32_830 v1605
  let v1607 : BitVec 32 := Scalar.minsi c512_i32_831 v1606
  v1607
def k0_off34 (d0 : Dev nD) (c0_i32_828 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1603 : BitVec 32 := Scalar.addi v194 c0_i32_828
  let v1604 : BitVec 32 := v1603
  let v1609 : Index := Scalar.indexCast v1604
  let c640_832 : Index := 640#32
  ![v1609.toNat, 640]
def k0_off35 (d0 : Dev nD) (c0_i32_828 : BitVec 32) : Fin 3 → Nat :=
  let c5_833 : Index := 5#32
  let c512_i32_831 : BitVec 32 := 512#32
  let c0_i32_830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1603 : BitVec 32 := Scalar.addi v194 c0_i32_828
  let v1604 : BitVec 32 := v1603
  let c128_i32_829 : BitVec 32 := 128#32
  let v1605 : BitVec 32 := Scalar.subi v1604 c128_i32_829
  let v1606 : BitVec 32 := Scalar.maxsi c0_i32_830 v1605
  let v1607 : BitVec 32 := Scalar.minsi c512_i32_831 v1606
  let v1608 : BitVec 32 := v1607
  let v1611 : Index := Scalar.indexCast v1608
  let c0_834 : Index := 0#32
  ![5, v1611.toNat, 0]
def k0_mult73 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c256_i32_845 : BitVec 32 := 256#32
  let v1648 : BitVec 32 := Scalar.addi v194 c256_i32_845
  v1648
def k0_mult74 (d0 : Dev nD) : BitVec 32 :=
  let c512_i32_848 : BitVec 32 := 512#32
  let c0_i32_847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c256_i32_845 : BitVec 32 := 256#32
  let v1648 : BitVec 32 := Scalar.addi v194 c256_i32_845
  let v1649 : BitVec 32 := v1648
  let c128_i32_846 : BitVec 32 := 128#32
  let v1650 : BitVec 32 := Scalar.subi v1649 c128_i32_846
  let v1651 : BitVec 32 := Scalar.maxsi c0_i32_847 v1650
  let v1652 : BitVec 32 := Scalar.minsi c512_i32_848 v1651
  v1652
def k0_mult75 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c0_i32_862 : BitVec 32 := 0#32
  let v1693 : BitVec 32 := Scalar.addi v194 c0_i32_862
  v1693
def k0_mult76 (d0 : Dev nD) : BitVec 32 :=
  let c512_i32_865 : BitVec 32 := 512#32
  let c0_i32_864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c0_i32_862 : BitVec 32 := 0#32
  let v1693 : BitVec 32 := Scalar.addi v194 c0_i32_862
  let v1694 : BitVec 32 := v1693
  let c128_i32_863 : BitVec 32 := 128#32
  let v1695 : BitVec 32 := Scalar.subi v1694 c128_i32_863
  let v1696 : BitVec 32 := Scalar.maxsi c0_i32_864 v1695
  let v1697 : BitVec 32 := Scalar.minsi c512_i32_865 v1696
  v1697
def k0_off36 (d0 : Dev nD) (c0_i32_862 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1693 : BitVec 32 := Scalar.addi v194 c0_i32_862
  let v1694 : BitVec 32 := v1693
  let v1699 : Index := Scalar.indexCast v1694
  let c768_866 : Index := 768#32
  ![v1699.toNat, 768]
def k0_off37 (d0 : Dev nD) (c0_i32_862 : BitVec 32) : Fin 3 → Nat :=
  let c6_867 : Index := 6#32
  let c512_i32_865 : BitVec 32 := 512#32
  let c0_i32_864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1693 : BitVec 32 := Scalar.addi v194 c0_i32_862
  let v1694 : BitVec 32 := v1693
  let c128_i32_863 : BitVec 32 := 128#32
  let v1695 : BitVec 32 := Scalar.subi v1694 c128_i32_863
  let v1696 : BitVec 32 := Scalar.maxsi c0_i32_864 v1695
  let v1697 : BitVec 32 := Scalar.minsi c512_i32_865 v1696
  let v1698 : BitVec 32 := v1697
  let v1701 : Index := Scalar.indexCast v1698
  let c0_868 : Index := 0#32
  ![6, v1701.toNat, 0]
def k0_mult77 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c256_i32_879 : BitVec 32 := 256#32
  let v1738 : BitVec 32 := Scalar.addi v194 c256_i32_879
  v1738
def k0_mult78 (d0 : Dev nD) : BitVec 32 :=
  let c512_i32_882 : BitVec 32 := 512#32
  let c0_i32_881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c256_i32_879 : BitVec 32 := 256#32
  let v1738 : BitVec 32 := Scalar.addi v194 c256_i32_879
  let v1739 : BitVec 32 := v1738
  let c128_i32_880 : BitVec 32 := 128#32
  let v1740 : BitVec 32 := Scalar.subi v1739 c128_i32_880
  let v1741 : BitVec 32 := Scalar.maxsi c0_i32_881 v1740
  let v1742 : BitVec 32 := Scalar.minsi c512_i32_882 v1741
  v1742
def k0_mult79 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c0_i32_896 : BitVec 32 := 0#32
  let v1783 : BitVec 32 := Scalar.addi v194 c0_i32_896
  v1783
def k0_mult80 (d0 : Dev nD) : BitVec 32 :=
  let c512_i32_899 : BitVec 32 := 512#32
  let c0_i32_898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c0_i32_896 : BitVec 32 := 0#32
  let v1783 : BitVec 32 := Scalar.addi v194 c0_i32_896
  let v1784 : BitVec 32 := v1783
  let c128_i32_897 : BitVec 32 := 128#32
  let v1785 : BitVec 32 := Scalar.subi v1784 c128_i32_897
  let v1786 : BitVec 32 := Scalar.maxsi c0_i32_898 v1785
  let v1787 : BitVec 32 := Scalar.minsi c512_i32_899 v1786
  v1787
def k0_off38 (d0 : Dev nD) (c0_i32_896 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1783 : BitVec 32 := Scalar.addi v194 c0_i32_896
  let v1784 : BitVec 32 := v1783
  let v1789 : Index := Scalar.indexCast v1784
  let c896_900 : Index := 896#32
  ![v1789.toNat, 896]
def k0_off39 (d0 : Dev nD) (c0_i32_896 : BitVec 32) : Fin 3 → Nat :=
  let c7_901 : Index := 7#32
  let c512_i32_899 : BitVec 32 := 512#32
  let c0_i32_898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1783 : BitVec 32 := Scalar.addi v194 c0_i32_896
  let v1784 : BitVec 32 := v1783
  let c128_i32_897 : BitVec 32 := 128#32
  let v1785 : BitVec 32 := Scalar.subi v1784 c128_i32_897
  let v1786 : BitVec 32 := Scalar.maxsi c0_i32_898 v1785
  let v1787 : BitVec 32 := Scalar.minsi c512_i32_899 v1786
  let v1788 : BitVec 32 := v1787
  let v1791 : Index := Scalar.indexCast v1788
  let c0_902 : Index := 0#32
  ![7, v1791.toNat, 0]
def k0_mult81 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c256_i32_913 : BitVec 32 := 256#32
  let v1828 : BitVec 32 := Scalar.addi v194 c256_i32_913
  v1828
def k0_mult82 (d0 : Dev nD) : BitVec 32 :=
  let c512_i32_916 : BitVec 32 := 512#32
  let c0_i32_915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let c256_i32_913 : BitVec 32 := 256#32
  let v1828 : BitVec 32 := Scalar.addi v194 c256_i32_913
  let v1829 : BitVec 32 := v1828
  let c128_i32_914 : BitVec 32 := 128#32
  let v1830 : BitVec 32 := Scalar.subi v1829 c128_i32_914
  let v1831 : BitVec 32 := Scalar.maxsi c0_i32_915 v1830
  let v1832 : BitVec 32 := Scalar.minsi c512_i32_916 v1831
  v1832
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_145 : BitVec 32 := 0#32
  let c0_i32_143 : BitVec 32 := 0#32
  let c512_i32_144 : BitVec 32 := 512#32
  let v142 : BitVec 32 := Scalar.addi c0_i32_143 c512_i32_144
  let v143 : BitVec 32 := Scalar.select v138 c0_i32_145 v142
  let v144 : BitVec 32 := v143
  let v1873 : Index := Scalar.indexCast v144
  let c0_930 : Index := 0#32
  ![v1873.toNat, 0]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_145 : BitVec 32 := 0#32
  let c0_i32_143 : BitVec 32 := 0#32
  let c512_i32_144 : BitVec 32 := 512#32
  let v142 : BitVec 32 := Scalar.addi c0_i32_143 c512_i32_144
  let v143 : BitVec 32 := Scalar.select v138 c0_i32_145 v142
  let v144 : BitVec 32 := v143
  let v1878 : Index := Scalar.indexCast v144
  let c512_934 : Index := 512#32
  ![v1878.toNat, 512]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_145 : BitVec 32 := 0#32
  let c0_i32_143 : BitVec 32 := 0#32
  let c512_i32_144 : BitVec 32 := 512#32
  let v142 : BitVec 32 := Scalar.addi c0_i32_143 c512_i32_144
  let v143 : BitVec 32 := Scalar.select v138 c0_i32_145 v142
  let v144 : BitVec 32 := v143
  let c512_i32_944 : BitVec 32 := 512#32
  ![v144.toNat, 512]
def k0_dev6 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_936 : BitVec 32 := 4#32
  let v1887 : BitVec 32 := Scalar.xori v2 c4_i32_936
  let c1_i32_940 : BitVec 32 := 1#32
  let v1888 : BitVec 32 := Scalar.muli v1887 c1_i32_940
  let v1889 : BitVec 32 := Scalar.addi c0_i32_941 v1888
  v1889.toNat
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v194 : BitVec 32 := v133
  let v1902 : Index := Scalar.indexCast v194
  let c0_949 : Index := 0#32
  ![v1902.toNat, 0]
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let v1911 : Index := Scalar.indexCast v141
  let c0_951 : Index := 0#32
  ![v1911.toNat, 0]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let v1916 : Index := Scalar.indexCast v141
  let c512_955 : Index := 512#32
  ![v1916.toNat, 512]
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let v1932 : Index := Scalar.indexCast v133
  let c0_965 : Index := 0#32
  ![v1932.toNat, 0]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32_148 : BitVec 32 := 256#32
  let v150 : BitVec 32 := Scalar.addi v133 c256_i32_148
  let v151 : BitVec 32 := Scalar.select v146 v133 v150
  let v152 : BitVec 32 := v151
  let c0_i32_979 : BitVec 32 := 0#32
  ![v152.toNat, 0]
def k0_dev7 (d0 : Dev nD) : Nat :=
  let c0_i32_976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_971 : BitVec 32 := 2#32
  let v1947 : BitVec 32 := Scalar.xori v2 c2_i32_971
  let c1_i32_975 : BitVec 32 := 1#32
  let v1948 : BitVec 32 := Scalar.muli v1947 c1_i32_975
  let v1949 : BitVec 32 := Scalar.addi c0_i32_976 v1948
  v1949.toNat
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_152 : BitVec 32 := 256#32
  let v158 : BitVec 32 := Scalar.addi v141 c256_i32_152
  let v159 : BitVec 32 := Scalar.select v154 v141 v158
  let v160 : BitVec 32 := v159
  let c512_i32_1002 : BitVec 32 := 512#32
  ![v160.toNat, 512]
def k0_dev8 (d0 : Dev nD) : Nat :=
  let c0_i32_999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_994 : BitVec 32 := 8#32
  let v1979 : BitVec 32 := Scalar.xori v2 c8_i32_994
  let c1_i32_998 : BitVec 32 := 1#32
  let v1980 : BitVec 32 := Scalar.muli v1979 c1_i32_998
  let v1981 : BitVec 32 := Scalar.addi c0_i32_999 v1980
  v1981.toNat
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let v1996 : Index := Scalar.indexCast v149
  let c0_1011 : Index := 0#32
  ![v1996.toNat, 0]
def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_153 : BitVec 32 := 4#32
  let v161 : BitVec 32 := Scalar.andi v2 c4_i32_153
  let c0_i32_154 : BitVec 32 := 0#32
  let v162 : BitVec 1 := Scalar.cmpi .ne v161 c0_i32_154
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32_155 : BitVec 32 := 128#32
  let v166 : BitVec 32 := Scalar.addi v149 c128_i32_155
  let v167 : BitVec 32 := Scalar.select v162 v149 v166
  let v168 : BitVec 32 := v167
  let c0_i32_1025 : BitVec 32 := 0#32
  ![v168.toNat, 0]
def k0_dev9 (d0 : Dev nD) : Nat :=
  let c0_i32_1022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1017 : BitVec 32 := 4#32
  let v2011 : BitVec 32 := Scalar.xori v2 c4_i32_1017
  let c1_i32_1021 : BitVec 32 := 1#32
  let v2012 : BitVec 32 := Scalar.muli v2011 c1_i32_1021
  let v2013 : BitVec 32 := Scalar.addi c0_i32_1022 v2012
  v2013.toNat
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  let v157 : BitVec 32 := v156
  let v2028 : Index := Scalar.indexCast v157
  let c512_1034 : Index := 512#32
  ![v2028.toNat, 512]
def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_156 : BitVec 32 := 2#32
  let v169 : BitVec 32 := Scalar.andi v2 c2_i32_156
  let c0_i32_157 : BitVec 32 := 0#32
  let v170 : BitVec 1 := Scalar.cmpi .ne v169 c0_i32_157
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  let v157 : BitVec 32 := v156
  let c128_i32_159 : BitVec 32 := 128#32
  let v174 : BitVec 32 := Scalar.addi v157 c128_i32_159
  let v175 : BitVec 32 := Scalar.select v170 v157 v174
  let v176 : BitVec 32 := v175
  let c512_i32_1048 : BitVec 32 := 512#32
  ![v176.toNat, 512]
def k0_dev10 (d0 : Dev nD) : Nat :=
  let c0_i32_1045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1040 : BitVec 32 := 2#32
  let v2043 : BitVec 32 := Scalar.xori v2 c2_i32_1040
  let c1_i32_1044 : BitVec 32 := 1#32
  let v2044 : BitVec 32 := Scalar.muli v2043 c1_i32_1044
  let v2045 : BitVec 32 := Scalar.addi c0_i32_1045 v2044
  v2045.toNat
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_153 : BitVec 32 := 4#32
  let v161 : BitVec 32 := Scalar.andi v2 c4_i32_153
  let c0_i32_154 : BitVec 32 := 0#32
  let v162 : BitVec 1 := Scalar.cmpi .ne v161 c0_i32_154
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let v2060 : Index := Scalar.indexCast v165
  let c0_1057 : Index := 0#32
  ![v2060.toNat, 0]
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_160 : BitVec 32 := 8#32
  let v177 : BitVec 32 := Scalar.andi v2 c8_i32_160
  let c0_i32_161 : BitVec 32 := 0#32
  let v178 : BitVec 1 := Scalar.cmpi .ne v177 c0_i32_161
  let c4_i32_153 : BitVec 32 := 4#32
  let v161 : BitVec 32 := Scalar.andi v2 c4_i32_153
  let c0_i32_154 : BitVec 32 := 0#32
  let v162 : BitVec 1 := Scalar.cmpi .ne v161 c0_i32_154
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32_162 : BitVec 32 := 64#32
  let v182 : BitVec 32 := Scalar.addi v165 c64_i32_162
  let v183 : BitVec 32 := Scalar.select v178 v165 v182
  let v184 : BitVec 32 := v183
  let c0_i32_1071 : BitVec 32 := 0#32
  ![v184.toNat, 0]
def k0_dev11 (d0 : Dev nD) : Nat :=
  let c0_i32_1068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1063 : BitVec 32 := 8#32
  let v2075 : BitVec 32 := Scalar.xori v2 c8_i32_1063
  let c1_i32_1067 : BitVec 32 := 1#32
  let v2076 : BitVec 32 := Scalar.muli v2075 c1_i32_1067
  let v2077 : BitVec 32 := Scalar.addi c0_i32_1068 v2076
  v2077.toNat
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_156 : BitVec 32 := 2#32
  let v169 : BitVec 32 := Scalar.andi v2 c2_i32_156
  let c0_i32_157 : BitVec 32 := 0#32
  let v170 : BitVec 1 := Scalar.cmpi .ne v169 c0_i32_157
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  let v157 : BitVec 32 := v156
  let c128_i32_158 : BitVec 32 := 128#32
  let v171 : BitVec 32 := Scalar.addi v157 c128_i32_158
  let v172 : BitVec 32 := Scalar.select v170 v171 v157
  let v173 : BitVec 32 := v172
  let v2092 : Index := Scalar.indexCast v173
  let c512_1080 : Index := 512#32
  ![v2092.toNat, 512]
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_163 : BitVec 32 := 1#32
  let v185 : BitVec 32 := Scalar.andi v2 c1_i32_163
  let c0_i32_164 : BitVec 32 := 0#32
  let v186 : BitVec 1 := Scalar.cmpi .ne v185 c0_i32_164
  let c2_i32_156 : BitVec 32 := 2#32
  let v169 : BitVec 32 := Scalar.andi v2 c2_i32_156
  let c0_i32_157 : BitVec 32 := 0#32
  let v170 : BitVec 1 := Scalar.cmpi .ne v169 c0_i32_157
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  let v157 : BitVec 32 := v156
  let c128_i32_158 : BitVec 32 := 128#32
  let v171 : BitVec 32 := Scalar.addi v157 c128_i32_158
  let v172 : BitVec 32 := Scalar.select v170 v171 v157
  let v173 : BitVec 32 := v172
  let c64_i32_166 : BitVec 32 := 64#32
  let v190 : BitVec 32 := Scalar.addi v173 c64_i32_166
  let v191 : BitVec 32 := Scalar.select v186 v173 v190
  let v192 : BitVec 32 := v191
  let c512_i32_1094 : BitVec 32 := 512#32
  ![v192.toNat, 512]
def k0_dev12 (d0 : Dev nD) : Nat :=
  let c0_i32_1091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1086 : BitVec 32 := 1#32
  let v2107 : BitVec 32 := Scalar.xori v2 c1_i32_1086
  let c1_i32_1090 : BitVec 32 := 1#32
  let v2108 : BitVec 32 := Scalar.muli v2107 c1_i32_1090
  let v2109 : BitVec 32 := Scalar.addi c0_i32_1091 v2108
  v2109.toNat
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_160 : BitVec 32 := 8#32
  let v177 : BitVec 32 := Scalar.andi v2 c8_i32_160
  let c0_i32_161 : BitVec 32 := 0#32
  let v178 : BitVec 1 := Scalar.cmpi .ne v177 c0_i32_161
  let c4_i32_153 : BitVec 32 := 4#32
  let v161 : BitVec 32 := Scalar.andi v2 c4_i32_153
  let c0_i32_154 : BitVec 32 := 0#32
  let v162 : BitVec 1 := Scalar.cmpi .ne v161 c0_i32_154
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let v2124 : Index := Scalar.indexCast v181
  let c0_1103 : Index := 0#32
  ![v2124.toNat, 0]
def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_163 : BitVec 32 := 1#32
  let v185 : BitVec 32 := Scalar.andi v2 c1_i32_163
  let c0_i32_164 : BitVec 32 := 0#32
  let v186 : BitVec 1 := Scalar.cmpi .ne v185 c0_i32_164
  let c2_i32_156 : BitVec 32 := 2#32
  let v169 : BitVec 32 := Scalar.andi v2 c2_i32_156
  let c0_i32_157 : BitVec 32 := 0#32
  let v170 : BitVec 1 := Scalar.cmpi .ne v169 c0_i32_157
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  let v157 : BitVec 32 := v156
  let c128_i32_158 : BitVec 32 := 128#32
  let v171 : BitVec 32 := Scalar.addi v157 c128_i32_158
  let v172 : BitVec 32 := Scalar.select v170 v171 v157
  let v173 : BitVec 32 := v172
  let c64_i32_165 : BitVec 32 := 64#32
  let v187 : BitVec 32 := Scalar.addi v173 c64_i32_165
  let v188 : BitVec 32 := Scalar.select v186 v187 v173
  let v189 : BitVec 32 := v188
  let v2146 : Index := Scalar.indexCast v189
  let c512_1117 : Index := 512#32
  ![v2146.toNat, 512]
def k0_off59 (d0 : Dev nD) (c8_i32_160 : BitVec 32) (c4_i32_153 : BitVec 32) (c2_i32_146 : BitVec 32) (c1_i32_131 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v177 : BitVec 32 := Scalar.andi v2 c8_i32_160
  let c0_i32_161 : BitVec 32 := 0#32
  let v178 : BitVec 1 := Scalar.cmpi .ne v177 c0_i32_161
  let v161 : BitVec 32 := Scalar.andi v2 c4_i32_153
  let c0_i32_154 : BitVec 32 := 0#32
  let v162 : BitVec 1 := Scalar.cmpi .ne v161 c0_i32_154
  let v145 : BitVec 32 := Scalar.andi v2 c2_i32_146
  let c0_i32_147 : BitVec 32 := 0#32
  let v146 : BitVec 1 := Scalar.cmpi .ne v145 c0_i32_147
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let v2203 : Index := Scalar.indexCast v181
  let c0_1180 : Index := 0#32
  ![v2203.toNat, 0]
def k0_off59_at (r : Fin 2) : BitVec 32 × BitVec 32 × BitVec 32 × BitVec 32 :=
  if r.val < 1 then
    (8#32, 4#32, 2#32, 1#32)
  else
    (1#32, 2#32, 8#32, 4#32)
def k0_mult83 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1183 : BitVec 32 := 8#32
  let v2213 : BitVec 32 := Scalar.andi v2 c8_i32_1183
  let c0_i32_1184 : BitVec 32 := 0#32
  let v2214 : BitVec 1 := Scalar.cmpi .ne v2213 c0_i32_1184
  let c8_i32_160 : BitVec 32 := 8#32
  let v177 : BitVec 32 := Scalar.andi v2 c8_i32_160
  let c0_i32_161 : BitVec 32 := 0#32
  let v178 : BitVec 1 := Scalar.cmpi .ne v177 c0_i32_161
  let c4_i32_153 : BitVec 32 := 4#32
  let v161 : BitVec 32 := Scalar.andi v2 c4_i32_153
  let c0_i32_154 : BitVec 32 := 0#32
  let v162 : BitVec 1 := Scalar.cmpi .ne v161 c0_i32_154
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let c64_i32_1185 : BitVec 32 := 64#32
  let v2215 : BitVec 32 := Scalar.subi v181 c64_i32_1185
  let c64_i32_1186 : BitVec 32 := 64#32
  let v2216 : BitVec 32 := Scalar.addi v181 c64_i32_1186
  let v2217 : BitVec 32 := Scalar.select v2214 v2215 v2216
  v2217
def k0_mult84 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1187 : BitVec 32 := 1#32
  let v2219 : BitVec 32 := Scalar.andi v2 c1_i32_1187
  let c0_i32_1188 : BitVec 32 := 0#32
  let v2220 : BitVec 1 := Scalar.cmpi .ne v2219 c0_i32_1188
  let c1_i32_163 : BitVec 32 := 1#32
  let v185 : BitVec 32 := Scalar.andi v2 c1_i32_163
  let c0_i32_164 : BitVec 32 := 0#32
  let v186 : BitVec 1 := Scalar.cmpi .ne v185 c0_i32_164
  let c2_i32_156 : BitVec 32 := 2#32
  let v169 : BitVec 32 := Scalar.andi v2 c2_i32_156
  let c0_i32_157 : BitVec 32 := 0#32
  let v170 : BitVec 1 := Scalar.cmpi .ne v169 c0_i32_157
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  let v157 : BitVec 32 := v156
  let c128_i32_158 : BitVec 32 := 128#32
  let v171 : BitVec 32 := Scalar.addi v157 c128_i32_158
  let v172 : BitVec 32 := Scalar.select v170 v171 v157
  let v173 : BitVec 32 := v172
  let c64_i32_165 : BitVec 32 := 64#32
  let v187 : BitVec 32 := Scalar.addi v173 c64_i32_165
  let v188 : BitVec 32 := Scalar.select v186 v187 v173
  let v189 : BitVec 32 := v188
  let c64_i32_1189 : BitVec 32 := 64#32
  let v2221 : BitVec 32 := Scalar.subi v189 c64_i32_1189
  let c64_i32_1190 : BitVec 32 := 64#32
  let v2222 : BitVec 32 := Scalar.addi v189 c64_i32_1190
  let v2223 : BitVec 32 := Scalar.select v2220 v2221 v2222
  v2223
def k0_mult85 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_160 : BitVec 32 := 8#32
  let v177 : BitVec 32 := Scalar.andi v2 c8_i32_160
  let c0_i32_161 : BitVec 32 := 0#32
  let v178 : BitVec 1 := Scalar.cmpi .ne v177 c0_i32_161
  let c4_i32_153 : BitVec 32 := 4#32
  let v161 : BitVec 32 := Scalar.andi v2 c4_i32_153
  let c0_i32_154 : BitVec 32 := 0#32
  let v162 : BitVec 1 := Scalar.cmpi .ne v161 c0_i32_154
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let c8_i32_1183 : BitVec 32 := 8#32
  let v2213 : BitVec 32 := Scalar.andi v2 c8_i32_1183
  let c0_i32_1184 : BitVec 32 := 0#32
  let v2214 : BitVec 1 := Scalar.cmpi .ne v2213 c0_i32_1184
  let c64_i32_1185 : BitVec 32 := 64#32
  let v2215 : BitVec 32 := Scalar.subi v181 c64_i32_1185
  let c64_i32_1186 : BitVec 32 := 64#32
  let v2216 : BitVec 32 := Scalar.addi v181 c64_i32_1186
  let v2217 : BitVec 32 := Scalar.select v2214 v2215 v2216
  let v2218 : BitVec 32 := v2217
  let v2225 : BitVec 32 := Scalar.minsi v181 v2218
  v2225
def k0_mult86 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_163 : BitVec 32 := 1#32
  let v185 : BitVec 32 := Scalar.andi v2 c1_i32_163
  let c0_i32_164 : BitVec 32 := 0#32
  let v186 : BitVec 1 := Scalar.cmpi .ne v185 c0_i32_164
  let c2_i32_156 : BitVec 32 := 2#32
  let v169 : BitVec 32 := Scalar.andi v2 c2_i32_156
  let c0_i32_157 : BitVec 32 := 0#32
  let v170 : BitVec 1 := Scalar.cmpi .ne v169 c0_i32_157
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  let v157 : BitVec 32 := v156
  let c128_i32_158 : BitVec 32 := 128#32
  let v171 : BitVec 32 := Scalar.addi v157 c128_i32_158
  let v172 : BitVec 32 := Scalar.select v170 v171 v157
  let v173 : BitVec 32 := v172
  let c64_i32_165 : BitVec 32 := 64#32
  let v187 : BitVec 32 := Scalar.addi v173 c64_i32_165
  let v188 : BitVec 32 := Scalar.select v186 v187 v173
  let v189 : BitVec 32 := v188
  let c1_i32_1187 : BitVec 32 := 1#32
  let v2219 : BitVec 32 := Scalar.andi v2 c1_i32_1187
  let c0_i32_1188 : BitVec 32 := 0#32
  let v2220 : BitVec 1 := Scalar.cmpi .ne v2219 c0_i32_1188
  let c64_i32_1189 : BitVec 32 := 64#32
  let v2221 : BitVec 32 := Scalar.subi v189 c64_i32_1189
  let c64_i32_1190 : BitVec 32 := 64#32
  let v2222 : BitVec 32 := Scalar.addi v189 c64_i32_1190
  let v2223 : BitVec 32 := Scalar.select v2220 v2221 v2222
  let v2224 : BitVec 32 := v2223
  let v2227 : BitVec 32 := Scalar.minsi v189 v2224
  v2227
def k0_mult87 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1191 : BitVec 32 := 4#32
  let v2229 : BitVec 32 := Scalar.andi v2 c4_i32_1191
  let c0_i32_1192 : BitVec 32 := 0#32
  let v2230 : BitVec 1 := Scalar.cmpi .ne v2229 c0_i32_1192
  let c8_i32_160 : BitVec 32 := 8#32
  let v177 : BitVec 32 := Scalar.andi v2 c8_i32_160
  let c0_i32_161 : BitVec 32 := 0#32
  let v178 : BitVec 1 := Scalar.cmpi .ne v177 c0_i32_161
  let c4_i32_153 : BitVec 32 := 4#32
  let v161 : BitVec 32 := Scalar.andi v2 c4_i32_153
  let c0_i32_154 : BitVec 32 := 0#32
  let v162 : BitVec 1 := Scalar.cmpi .ne v161 c0_i32_154
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let c8_i32_1183 : BitVec 32 := 8#32
  let v2213 : BitVec 32 := Scalar.andi v2 c8_i32_1183
  let c0_i32_1184 : BitVec 32 := 0#32
  let v2214 : BitVec 1 := Scalar.cmpi .ne v2213 c0_i32_1184
  let c64_i32_1185 : BitVec 32 := 64#32
  let v2215 : BitVec 32 := Scalar.subi v181 c64_i32_1185
  let c64_i32_1186 : BitVec 32 := 64#32
  let v2216 : BitVec 32 := Scalar.addi v181 c64_i32_1186
  let v2217 : BitVec 32 := Scalar.select v2214 v2215 v2216
  let v2218 : BitVec 32 := v2217
  let v2225 : BitVec 32 := Scalar.minsi v181 v2218
  let v2226 : BitVec 32 := v2225
  let c128_i32_1193 : BitVec 32 := 128#32
  let v2231 : BitVec 32 := Scalar.subi v2226 c128_i32_1193
  let c128_i32_1194 : BitVec 32 := 128#32
  let v2232 : BitVec 32 := Scalar.addi v2226 c128_i32_1194
  let v2233 : BitVec 32 := Scalar.select v2230 v2231 v2232
  v2233
def k0_mult88 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1195 : BitVec 32 := 2#32
  let v2235 : BitVec 32 := Scalar.andi v2 c2_i32_1195
  let c0_i32_1196 : BitVec 32 := 0#32
  let v2236 : BitVec 1 := Scalar.cmpi .ne v2235 c0_i32_1196
  let c1_i32_163 : BitVec 32 := 1#32
  let v185 : BitVec 32 := Scalar.andi v2 c1_i32_163
  let c0_i32_164 : BitVec 32 := 0#32
  let v186 : BitVec 1 := Scalar.cmpi .ne v185 c0_i32_164
  let c2_i32_156 : BitVec 32 := 2#32
  let v169 : BitVec 32 := Scalar.andi v2 c2_i32_156
  let c0_i32_157 : BitVec 32 := 0#32
  let v170 : BitVec 1 := Scalar.cmpi .ne v169 c0_i32_157
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  let v157 : BitVec 32 := v156
  let c128_i32_158 : BitVec 32 := 128#32
  let v171 : BitVec 32 := Scalar.addi v157 c128_i32_158
  let v172 : BitVec 32 := Scalar.select v170 v171 v157
  let v173 : BitVec 32 := v172
  let c64_i32_165 : BitVec 32 := 64#32
  let v187 : BitVec 32 := Scalar.addi v173 c64_i32_165
  let v188 : BitVec 32 := Scalar.select v186 v187 v173
  let v189 : BitVec 32 := v188
  let c1_i32_1187 : BitVec 32 := 1#32
  let v2219 : BitVec 32 := Scalar.andi v2 c1_i32_1187
  let c0_i32_1188 : BitVec 32 := 0#32
  let v2220 : BitVec 1 := Scalar.cmpi .ne v2219 c0_i32_1188
  let c64_i32_1189 : BitVec 32 := 64#32
  let v2221 : BitVec 32 := Scalar.subi v189 c64_i32_1189
  let c64_i32_1190 : BitVec 32 := 64#32
  let v2222 : BitVec 32 := Scalar.addi v189 c64_i32_1190
  let v2223 : BitVec 32 := Scalar.select v2220 v2221 v2222
  let v2224 : BitVec 32 := v2223
  let v2227 : BitVec 32 := Scalar.minsi v189 v2224
  let v2228 : BitVec 32 := v2227
  let c128_i32_1197 : BitVec 32 := 128#32
  let v2237 : BitVec 32 := Scalar.subi v2228 c128_i32_1197
  let c128_i32_1198 : BitVec 32 := 128#32
  let v2238 : BitVec 32 := Scalar.addi v2228 c128_i32_1198
  let v2239 : BitVec 32 := Scalar.select v2236 v2237 v2238
  v2239
def k0_mult89 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_160 : BitVec 32 := 8#32
  let v177 : BitVec 32 := Scalar.andi v2 c8_i32_160
  let c0_i32_161 : BitVec 32 := 0#32
  let v178 : BitVec 1 := Scalar.cmpi .ne v177 c0_i32_161
  let c4_i32_153 : BitVec 32 := 4#32
  let v161 : BitVec 32 := Scalar.andi v2 c4_i32_153
  let c0_i32_154 : BitVec 32 := 0#32
  let v162 : BitVec 1 := Scalar.cmpi .ne v161 c0_i32_154
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let c8_i32_1183 : BitVec 32 := 8#32
  let v2213 : BitVec 32 := Scalar.andi v2 c8_i32_1183
  let c0_i32_1184 : BitVec 32 := 0#32
  let v2214 : BitVec 1 := Scalar.cmpi .ne v2213 c0_i32_1184
  let c64_i32_1185 : BitVec 32 := 64#32
  let v2215 : BitVec 32 := Scalar.subi v181 c64_i32_1185
  let c64_i32_1186 : BitVec 32 := 64#32
  let v2216 : BitVec 32 := Scalar.addi v181 c64_i32_1186
  let v2217 : BitVec 32 := Scalar.select v2214 v2215 v2216
  let v2218 : BitVec 32 := v2217
  let v2225 : BitVec 32 := Scalar.minsi v181 v2218
  let v2226 : BitVec 32 := v2225
  let c4_i32_1191 : BitVec 32 := 4#32
  let v2229 : BitVec 32 := Scalar.andi v2 c4_i32_1191
  let c0_i32_1192 : BitVec 32 := 0#32
  let v2230 : BitVec 1 := Scalar.cmpi .ne v2229 c0_i32_1192
  let c128_i32_1193 : BitVec 32 := 128#32
  let v2231 : BitVec 32 := Scalar.subi v2226 c128_i32_1193
  let c128_i32_1194 : BitVec 32 := 128#32
  let v2232 : BitVec 32 := Scalar.addi v2226 c128_i32_1194
  let v2233 : BitVec 32 := Scalar.select v2230 v2231 v2232
  let v2234 : BitVec 32 := v2233
  let v2241 : BitVec 32 := Scalar.minsi v2226 v2234
  v2241
def k0_mult90 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_163 : BitVec 32 := 1#32
  let v185 : BitVec 32 := Scalar.andi v2 c1_i32_163
  let c0_i32_164 : BitVec 32 := 0#32
  let v186 : BitVec 1 := Scalar.cmpi .ne v185 c0_i32_164
  let c2_i32_156 : BitVec 32 := 2#32
  let v169 : BitVec 32 := Scalar.andi v2 c2_i32_156
  let c0_i32_157 : BitVec 32 := 0#32
  let v170 : BitVec 1 := Scalar.cmpi .ne v169 c0_i32_157
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  let v157 : BitVec 32 := v156
  let c128_i32_158 : BitVec 32 := 128#32
  let v171 : BitVec 32 := Scalar.addi v157 c128_i32_158
  let v172 : BitVec 32 := Scalar.select v170 v171 v157
  let v173 : BitVec 32 := v172
  let c64_i32_165 : BitVec 32 := 64#32
  let v187 : BitVec 32 := Scalar.addi v173 c64_i32_165
  let v188 : BitVec 32 := Scalar.select v186 v187 v173
  let v189 : BitVec 32 := v188
  let c1_i32_1187 : BitVec 32 := 1#32
  let v2219 : BitVec 32 := Scalar.andi v2 c1_i32_1187
  let c0_i32_1188 : BitVec 32 := 0#32
  let v2220 : BitVec 1 := Scalar.cmpi .ne v2219 c0_i32_1188
  let c64_i32_1189 : BitVec 32 := 64#32
  let v2221 : BitVec 32 := Scalar.subi v189 c64_i32_1189
  let c64_i32_1190 : BitVec 32 := 64#32
  let v2222 : BitVec 32 := Scalar.addi v189 c64_i32_1190
  let v2223 : BitVec 32 := Scalar.select v2220 v2221 v2222
  let v2224 : BitVec 32 := v2223
  let v2227 : BitVec 32 := Scalar.minsi v189 v2224
  let v2228 : BitVec 32 := v2227
  let c2_i32_1195 : BitVec 32 := 2#32
  let v2235 : BitVec 32 := Scalar.andi v2 c2_i32_1195
  let c0_i32_1196 : BitVec 32 := 0#32
  let v2236 : BitVec 1 := Scalar.cmpi .ne v2235 c0_i32_1196
  let c128_i32_1197 : BitVec 32 := 128#32
  let v2237 : BitVec 32 := Scalar.subi v2228 c128_i32_1197
  let c128_i32_1198 : BitVec 32 := 128#32
  let v2238 : BitVec 32 := Scalar.addi v2228 c128_i32_1198
  let v2239 : BitVec 32 := Scalar.select v2236 v2237 v2238
  let v2240 : BitVec 32 := v2239
  let v2243 : BitVec 32 := Scalar.minsi v2228 v2240
  v2243
def k0_mult91 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1199 : BitVec 32 := 2#32
  let v2245 : BitVec 32 := Scalar.andi v2 c2_i32_1199
  let c0_i32_1200 : BitVec 32 := 0#32
  let v2246 : BitVec 1 := Scalar.cmpi .ne v2245 c0_i32_1200
  let c8_i32_160 : BitVec 32 := 8#32
  let v177 : BitVec 32 := Scalar.andi v2 c8_i32_160
  let c0_i32_161 : BitVec 32 := 0#32
  let v178 : BitVec 1 := Scalar.cmpi .ne v177 c0_i32_161
  let c4_i32_153 : BitVec 32 := 4#32
  let v161 : BitVec 32 := Scalar.andi v2 c4_i32_153
  let c0_i32_154 : BitVec 32 := 0#32
  let v162 : BitVec 1 := Scalar.cmpi .ne v161 c0_i32_154
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let c8_i32_1183 : BitVec 32 := 8#32
  let v2213 : BitVec 32 := Scalar.andi v2 c8_i32_1183
  let c0_i32_1184 : BitVec 32 := 0#32
  let v2214 : BitVec 1 := Scalar.cmpi .ne v2213 c0_i32_1184
  let c64_i32_1185 : BitVec 32 := 64#32
  let v2215 : BitVec 32 := Scalar.subi v181 c64_i32_1185
  let c64_i32_1186 : BitVec 32 := 64#32
  let v2216 : BitVec 32 := Scalar.addi v181 c64_i32_1186
  let v2217 : BitVec 32 := Scalar.select v2214 v2215 v2216
  let v2218 : BitVec 32 := v2217
  let v2225 : BitVec 32 := Scalar.minsi v181 v2218
  let v2226 : BitVec 32 := v2225
  let c4_i32_1191 : BitVec 32 := 4#32
  let v2229 : BitVec 32 := Scalar.andi v2 c4_i32_1191
  let c0_i32_1192 : BitVec 32 := 0#32
  let v2230 : BitVec 1 := Scalar.cmpi .ne v2229 c0_i32_1192
  let c128_i32_1193 : BitVec 32 := 128#32
  let v2231 : BitVec 32 := Scalar.subi v2226 c128_i32_1193
  let c128_i32_1194 : BitVec 32 := 128#32
  let v2232 : BitVec 32 := Scalar.addi v2226 c128_i32_1194
  let v2233 : BitVec 32 := Scalar.select v2230 v2231 v2232
  let v2234 : BitVec 32 := v2233
  let v2241 : BitVec 32 := Scalar.minsi v2226 v2234
  let v2242 : BitVec 32 := v2241
  let c256_i32_1201 : BitVec 32 := 256#32
  let v2247 : BitVec 32 := Scalar.subi v2242 c256_i32_1201
  let c256_i32_1202 : BitVec 32 := 256#32
  let v2248 : BitVec 32 := Scalar.addi v2242 c256_i32_1202
  let v2249 : BitVec 32 := Scalar.select v2246 v2247 v2248
  v2249
def k0_mult92 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1203 : BitVec 32 := 8#32
  let v2251 : BitVec 32 := Scalar.andi v2 c8_i32_1203
  let c0_i32_1204 : BitVec 32 := 0#32
  let v2252 : BitVec 1 := Scalar.cmpi .ne v2251 c0_i32_1204
  let c1_i32_163 : BitVec 32 := 1#32
  let v185 : BitVec 32 := Scalar.andi v2 c1_i32_163
  let c0_i32_164 : BitVec 32 := 0#32
  let v186 : BitVec 1 := Scalar.cmpi .ne v185 c0_i32_164
  let c2_i32_156 : BitVec 32 := 2#32
  let v169 : BitVec 32 := Scalar.andi v2 c2_i32_156
  let c0_i32_157 : BitVec 32 := 0#32
  let v170 : BitVec 1 := Scalar.cmpi .ne v169 c0_i32_157
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  let v157 : BitVec 32 := v156
  let c128_i32_158 : BitVec 32 := 128#32
  let v171 : BitVec 32 := Scalar.addi v157 c128_i32_158
  let v172 : BitVec 32 := Scalar.select v170 v171 v157
  let v173 : BitVec 32 := v172
  let c64_i32_165 : BitVec 32 := 64#32
  let v187 : BitVec 32 := Scalar.addi v173 c64_i32_165
  let v188 : BitVec 32 := Scalar.select v186 v187 v173
  let v189 : BitVec 32 := v188
  let c1_i32_1187 : BitVec 32 := 1#32
  let v2219 : BitVec 32 := Scalar.andi v2 c1_i32_1187
  let c0_i32_1188 : BitVec 32 := 0#32
  let v2220 : BitVec 1 := Scalar.cmpi .ne v2219 c0_i32_1188
  let c64_i32_1189 : BitVec 32 := 64#32
  let v2221 : BitVec 32 := Scalar.subi v189 c64_i32_1189
  let c64_i32_1190 : BitVec 32 := 64#32
  let v2222 : BitVec 32 := Scalar.addi v189 c64_i32_1190
  let v2223 : BitVec 32 := Scalar.select v2220 v2221 v2222
  let v2224 : BitVec 32 := v2223
  let v2227 : BitVec 32 := Scalar.minsi v189 v2224
  let v2228 : BitVec 32 := v2227
  let c2_i32_1195 : BitVec 32 := 2#32
  let v2235 : BitVec 32 := Scalar.andi v2 c2_i32_1195
  let c0_i32_1196 : BitVec 32 := 0#32
  let v2236 : BitVec 1 := Scalar.cmpi .ne v2235 c0_i32_1196
  let c128_i32_1197 : BitVec 32 := 128#32
  let v2237 : BitVec 32 := Scalar.subi v2228 c128_i32_1197
  let c128_i32_1198 : BitVec 32 := 128#32
  let v2238 : BitVec 32 := Scalar.addi v2228 c128_i32_1198
  let v2239 : BitVec 32 := Scalar.select v2236 v2237 v2238
  let v2240 : BitVec 32 := v2239
  let v2243 : BitVec 32 := Scalar.minsi v2228 v2240
  let v2244 : BitVec 32 := v2243
  let c256_i32_1205 : BitVec 32 := 256#32
  let v2253 : BitVec 32 := Scalar.subi v2244 c256_i32_1205
  let c256_i32_1206 : BitVec 32 := 256#32
  let v2254 : BitVec 32 := Scalar.addi v2244 c256_i32_1206
  let v2255 : BitVec 32 := Scalar.select v2252 v2253 v2254
  v2255
def k0_mult93 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_160 : BitVec 32 := 8#32
  let v177 : BitVec 32 := Scalar.andi v2 c8_i32_160
  let c0_i32_161 : BitVec 32 := 0#32
  let v178 : BitVec 1 := Scalar.cmpi .ne v177 c0_i32_161
  let c4_i32_153 : BitVec 32 := 4#32
  let v161 : BitVec 32 := Scalar.andi v2 c4_i32_153
  let c0_i32_154 : BitVec 32 := 0#32
  let v162 : BitVec 1 := Scalar.cmpi .ne v161 c0_i32_154
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let c8_i32_1183 : BitVec 32 := 8#32
  let v2213 : BitVec 32 := Scalar.andi v2 c8_i32_1183
  let c0_i32_1184 : BitVec 32 := 0#32
  let v2214 : BitVec 1 := Scalar.cmpi .ne v2213 c0_i32_1184
  let c64_i32_1185 : BitVec 32 := 64#32
  let v2215 : BitVec 32 := Scalar.subi v181 c64_i32_1185
  let c64_i32_1186 : BitVec 32 := 64#32
  let v2216 : BitVec 32 := Scalar.addi v181 c64_i32_1186
  let v2217 : BitVec 32 := Scalar.select v2214 v2215 v2216
  let v2218 : BitVec 32 := v2217
  let v2225 : BitVec 32 := Scalar.minsi v181 v2218
  let v2226 : BitVec 32 := v2225
  let c4_i32_1191 : BitVec 32 := 4#32
  let v2229 : BitVec 32 := Scalar.andi v2 c4_i32_1191
  let c0_i32_1192 : BitVec 32 := 0#32
  let v2230 : BitVec 1 := Scalar.cmpi .ne v2229 c0_i32_1192
  let c128_i32_1193 : BitVec 32 := 128#32
  let v2231 : BitVec 32 := Scalar.subi v2226 c128_i32_1193
  let c128_i32_1194 : BitVec 32 := 128#32
  let v2232 : BitVec 32 := Scalar.addi v2226 c128_i32_1194
  let v2233 : BitVec 32 := Scalar.select v2230 v2231 v2232
  let v2234 : BitVec 32 := v2233
  let v2241 : BitVec 32 := Scalar.minsi v2226 v2234
  let v2242 : BitVec 32 := v2241
  let c2_i32_1199 : BitVec 32 := 2#32
  let v2245 : BitVec 32 := Scalar.andi v2 c2_i32_1199
  let c0_i32_1200 : BitVec 32 := 0#32
  let v2246 : BitVec 1 := Scalar.cmpi .ne v2245 c0_i32_1200
  let c256_i32_1201 : BitVec 32 := 256#32
  let v2247 : BitVec 32 := Scalar.subi v2242 c256_i32_1201
  let c256_i32_1202 : BitVec 32 := 256#32
  let v2248 : BitVec 32 := Scalar.addi v2242 c256_i32_1202
  let v2249 : BitVec 32 := Scalar.select v2246 v2247 v2248
  let v2250 : BitVec 32 := v2249
  let v2257 : BitVec 32 := Scalar.minsi v2242 v2250
  v2257
def k0_mult94 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_163 : BitVec 32 := 1#32
  let v185 : BitVec 32 := Scalar.andi v2 c1_i32_163
  let c0_i32_164 : BitVec 32 := 0#32
  let v186 : BitVec 1 := Scalar.cmpi .ne v185 c0_i32_164
  let c2_i32_156 : BitVec 32 := 2#32
  let v169 : BitVec 32 := Scalar.andi v2 c2_i32_156
  let c0_i32_157 : BitVec 32 := 0#32
  let v170 : BitVec 1 := Scalar.cmpi .ne v169 c0_i32_157
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  let v157 : BitVec 32 := v156
  let c128_i32_158 : BitVec 32 := 128#32
  let v171 : BitVec 32 := Scalar.addi v157 c128_i32_158
  let v172 : BitVec 32 := Scalar.select v170 v171 v157
  let v173 : BitVec 32 := v172
  let c64_i32_165 : BitVec 32 := 64#32
  let v187 : BitVec 32 := Scalar.addi v173 c64_i32_165
  let v188 : BitVec 32 := Scalar.select v186 v187 v173
  let v189 : BitVec 32 := v188
  let c1_i32_1187 : BitVec 32 := 1#32
  let v2219 : BitVec 32 := Scalar.andi v2 c1_i32_1187
  let c0_i32_1188 : BitVec 32 := 0#32
  let v2220 : BitVec 1 := Scalar.cmpi .ne v2219 c0_i32_1188
  let c64_i32_1189 : BitVec 32 := 64#32
  let v2221 : BitVec 32 := Scalar.subi v189 c64_i32_1189
  let c64_i32_1190 : BitVec 32 := 64#32
  let v2222 : BitVec 32 := Scalar.addi v189 c64_i32_1190
  let v2223 : BitVec 32 := Scalar.select v2220 v2221 v2222
  let v2224 : BitVec 32 := v2223
  let v2227 : BitVec 32 := Scalar.minsi v189 v2224
  let v2228 : BitVec 32 := v2227
  let c2_i32_1195 : BitVec 32 := 2#32
  let v2235 : BitVec 32 := Scalar.andi v2 c2_i32_1195
  let c0_i32_1196 : BitVec 32 := 0#32
  let v2236 : BitVec 1 := Scalar.cmpi .ne v2235 c0_i32_1196
  let c128_i32_1197 : BitVec 32 := 128#32
  let v2237 : BitVec 32 := Scalar.subi v2228 c128_i32_1197
  let c128_i32_1198 : BitVec 32 := 128#32
  let v2238 : BitVec 32 := Scalar.addi v2228 c128_i32_1198
  let v2239 : BitVec 32 := Scalar.select v2236 v2237 v2238
  let v2240 : BitVec 32 := v2239
  let v2243 : BitVec 32 := Scalar.minsi v2228 v2240
  let v2244 : BitVec 32 := v2243
  let c8_i32_1203 : BitVec 32 := 8#32
  let v2251 : BitVec 32 := Scalar.andi v2 c8_i32_1203
  let c0_i32_1204 : BitVec 32 := 0#32
  let v2252 : BitVec 1 := Scalar.cmpi .ne v2251 c0_i32_1204
  let c256_i32_1205 : BitVec 32 := 256#32
  let v2253 : BitVec 32 := Scalar.subi v2244 c256_i32_1205
  let c256_i32_1206 : BitVec 32 := 256#32
  let v2254 : BitVec 32 := Scalar.addi v2244 c256_i32_1206
  let v2255 : BitVec 32 := Scalar.select v2252 v2253 v2254
  let v2256 : BitVec 32 := v2255
  let v2259 : BitVec 32 := Scalar.minsi v2244 v2256
  v2259
def k0_mult95 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1207 : BitVec 32 := 1#32
  let v2261 : BitVec 32 := Scalar.andi v2 c1_i32_1207
  let c0_i32_1208 : BitVec 32 := 0#32
  let v2262 : BitVec 1 := Scalar.cmpi .ne v2261 c0_i32_1208
  let c8_i32_160 : BitVec 32 := 8#32
  let v177 : BitVec 32 := Scalar.andi v2 c8_i32_160
  let c0_i32_161 : BitVec 32 := 0#32
  let v178 : BitVec 1 := Scalar.cmpi .ne v177 c0_i32_161
  let c4_i32_153 : BitVec 32 := 4#32
  let v161 : BitVec 32 := Scalar.andi v2 c4_i32_153
  let c0_i32_154 : BitVec 32 := 0#32
  let v162 : BitVec 1 := Scalar.cmpi .ne v161 c0_i32_154
  let c2_i32_146 : BitVec 32 := 2#32
  let v145 : BitVec 32 := Scalar.andi v2 c2_i32_146
  let c0_i32_147 : BitVec 32 := 0#32
  let v146 : BitVec 1 := Scalar.cmpi .ne v145 c0_i32_147
  let c1_i32_131 : BitVec 32 := 1#32
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let c8_i32_1183 : BitVec 32 := 8#32
  let v2213 : BitVec 32 := Scalar.andi v2 c8_i32_1183
  let c0_i32_1184 : BitVec 32 := 0#32
  let v2214 : BitVec 1 := Scalar.cmpi .ne v2213 c0_i32_1184
  let c64_i32_1185 : BitVec 32 := 64#32
  let v2215 : BitVec 32 := Scalar.subi v181 c64_i32_1185
  let c64_i32_1186 : BitVec 32 := 64#32
  let v2216 : BitVec 32 := Scalar.addi v181 c64_i32_1186
  let v2217 : BitVec 32 := Scalar.select v2214 v2215 v2216
  let v2218 : BitVec 32 := v2217
  let v2225 : BitVec 32 := Scalar.minsi v181 v2218
  let v2226 : BitVec 32 := v2225
  let c4_i32_1191 : BitVec 32 := 4#32
  let v2229 : BitVec 32 := Scalar.andi v2 c4_i32_1191
  let c0_i32_1192 : BitVec 32 := 0#32
  let v2230 : BitVec 1 := Scalar.cmpi .ne v2229 c0_i32_1192
  let c128_i32_1193 : BitVec 32 := 128#32
  let v2231 : BitVec 32 := Scalar.subi v2226 c128_i32_1193
  let c128_i32_1194 : BitVec 32 := 128#32
  let v2232 : BitVec 32 := Scalar.addi v2226 c128_i32_1194
  let v2233 : BitVec 32 := Scalar.select v2230 v2231 v2232
  let v2234 : BitVec 32 := v2233
  let v2241 : BitVec 32 := Scalar.minsi v2226 v2234
  let v2242 : BitVec 32 := v2241
  let c2_i32_1199 : BitVec 32 := 2#32
  let v2245 : BitVec 32 := Scalar.andi v2 c2_i32_1199
  let c0_i32_1200 : BitVec 32 := 0#32
  let v2246 : BitVec 1 := Scalar.cmpi .ne v2245 c0_i32_1200
  let c256_i32_1201 : BitVec 32 := 256#32
  let v2247 : BitVec 32 := Scalar.subi v2242 c256_i32_1201
  let c256_i32_1202 : BitVec 32 := 256#32
  let v2248 : BitVec 32 := Scalar.addi v2242 c256_i32_1202
  let v2249 : BitVec 32 := Scalar.select v2246 v2247 v2248
  let v2250 : BitVec 32 := v2249
  let v2257 : BitVec 32 := Scalar.minsi v2242 v2250
  let v2258 : BitVec 32 := v2257
  let c512_i32_1209 : BitVec 32 := 512#32
  let v2263 : BitVec 32 := Scalar.subi v2258 c512_i32_1209
  let c512_i32_1210 : BitVec 32 := 512#32
  let v2264 : BitVec 32 := Scalar.addi v2258 c512_i32_1210
  let v2265 : BitVec 32 := Scalar.select v2262 v2263 v2264
  v2265
def k0_mult96 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1211 : BitVec 32 := 4#32
  let v2267 : BitVec 32 := Scalar.andi v2 c4_i32_1211
  let c0_i32_1212 : BitVec 32 := 0#32
  let v2268 : BitVec 1 := Scalar.cmpi .ne v2267 c0_i32_1212
  let c1_i32_163 : BitVec 32 := 1#32
  let v185 : BitVec 32 := Scalar.andi v2 c1_i32_163
  let c0_i32_164 : BitVec 32 := 0#32
  let v186 : BitVec 1 := Scalar.cmpi .ne v185 c0_i32_164
  let c2_i32_156 : BitVec 32 := 2#32
  let v169 : BitVec 32 := Scalar.andi v2 c2_i32_156
  let c0_i32_157 : BitVec 32 := 0#32
  let v170 : BitVec 1 := Scalar.cmpi .ne v169 c0_i32_157
  let c8_i32_149 : BitVec 32 := 8#32
  let v153 : BitVec 32 := Scalar.andi v2 c8_i32_149
  let c0_i32_150 : BitVec 32 := 0#32
  let v154 : BitVec 1 := Scalar.cmpi .ne v153 c0_i32_150
  let c4_i32_138 : BitVec 32 := 4#32
  let v137 : BitVec 32 := Scalar.andi v2 c4_i32_138
  let c0_i32_139 : BitVec 32 := 0#32
  let v138 : BitVec 1 := Scalar.cmpi .ne v137 c0_i32_139
  let c0_i32_140 : BitVec 32 := 0#32
  let c512_i32_141 : BitVec 32 := 512#32
  let v139 : BitVec 32 := Scalar.addi c0_i32_140 c512_i32_141
  let c0_i32_142 : BitVec 32 := 0#32
  let v140 : BitVec 32 := Scalar.select v138 v139 c0_i32_142
  let v141 : BitVec 32 := v140
  let c256_i32_151 : BitVec 32 := 256#32
  let v155 : BitVec 32 := Scalar.addi v141 c256_i32_151
  let v156 : BitVec 32 := Scalar.select v154 v155 v141
  let v157 : BitVec 32 := v156
  let c128_i32_158 : BitVec 32 := 128#32
  let v171 : BitVec 32 := Scalar.addi v157 c128_i32_158
  let v172 : BitVec 32 := Scalar.select v170 v171 v157
  let v173 : BitVec 32 := v172
  let c64_i32_165 : BitVec 32 := 64#32
  let v187 : BitVec 32 := Scalar.addi v173 c64_i32_165
  let v188 : BitVec 32 := Scalar.select v186 v187 v173
  let v189 : BitVec 32 := v188
  let c1_i32_1187 : BitVec 32 := 1#32
  let v2219 : BitVec 32 := Scalar.andi v2 c1_i32_1187
  let c0_i32_1188 : BitVec 32 := 0#32
  let v2220 : BitVec 1 := Scalar.cmpi .ne v2219 c0_i32_1188
  let c64_i32_1189 : BitVec 32 := 64#32
  let v2221 : BitVec 32 := Scalar.subi v189 c64_i32_1189
  let c64_i32_1190 : BitVec 32 := 64#32
  let v2222 : BitVec 32 := Scalar.addi v189 c64_i32_1190
  let v2223 : BitVec 32 := Scalar.select v2220 v2221 v2222
  let v2224 : BitVec 32 := v2223
  let v2227 : BitVec 32 := Scalar.minsi v189 v2224
  let v2228 : BitVec 32 := v2227
  let c2_i32_1195 : BitVec 32 := 2#32
  let v2235 : BitVec 32 := Scalar.andi v2 c2_i32_1195
  let c0_i32_1196 : BitVec 32 := 0#32
  let v2236 : BitVec 1 := Scalar.cmpi .ne v2235 c0_i32_1196
  let c128_i32_1197 : BitVec 32 := 128#32
  let v2237 : BitVec 32 := Scalar.subi v2228 c128_i32_1197
  let c128_i32_1198 : BitVec 32 := 128#32
  let v2238 : BitVec 32 := Scalar.addi v2228 c128_i32_1198
  let v2239 : BitVec 32 := Scalar.select v2236 v2237 v2238
  let v2240 : BitVec 32 := v2239
  let v2243 : BitVec 32 := Scalar.minsi v2228 v2240
  let v2244 : BitVec 32 := v2243
  let c8_i32_1203 : BitVec 32 := 8#32
  let v2251 : BitVec 32 := Scalar.andi v2 c8_i32_1203
  let c0_i32_1204 : BitVec 32 := 0#32
  let v2252 : BitVec 1 := Scalar.cmpi .ne v2251 c0_i32_1204
  let c256_i32_1205 : BitVec 32 := 256#32
  let v2253 : BitVec 32 := Scalar.subi v2244 c256_i32_1205
  let c256_i32_1206 : BitVec 32 := 256#32
  let v2254 : BitVec 32 := Scalar.addi v2244 c256_i32_1206
  let v2255 : BitVec 32 := Scalar.select v2252 v2253 v2254
  let v2256 : BitVec 32 := v2255
  let v2259 : BitVec 32 := Scalar.minsi v2244 v2256
  let v2260 : BitVec 32 := v2259
  let c512_i32_1213 : BitVec 32 := 512#32
  let v2269 : BitVec 32 := Scalar.subi v2260 c512_i32_1213
  let c512_i32_1214 : BitVec 32 := 512#32
  let v2270 : BitVec 32 := Scalar.addi v2260 c512_i32_1214
  let v2271 : BitVec 32 := Scalar.select v2268 v2269 v2270
  v2271
def k0_off60 (d0 : Dev nD) (c8_i32_160 : BitVec 32) (c4_i32_153 : BitVec 32) (c2_i32_146 : BitVec 32) (c1_i32_131 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v177 : BitVec 32 := Scalar.andi v2 c8_i32_160
  let c0_i32_161 : BitVec 32 := 0#32
  let v178 : BitVec 1 := Scalar.cmpi .ne v177 c0_i32_161
  let v161 : BitVec 32 := Scalar.andi v2 c4_i32_153
  let c0_i32_154 : BitVec 32 := 0#32
  let v162 : BitVec 1 := Scalar.cmpi .ne v161 c0_i32_154
  let v145 : BitVec 32 := Scalar.andi v2 c2_i32_146
  let c0_i32_147 : BitVec 32 := 0#32
  let v146 : BitVec 1 := Scalar.cmpi .ne v145 c0_i32_147
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let c0_i32_1221 : BitVec 32 := 0#32
  ![v181.toNat, 0]
def k0_off60_at (r : Fin 2) : BitVec 32 × BitVec 32 × BitVec 32 × BitVec 32 :=
  if r.val < 1 then
    (8#32, 4#32, 2#32, 1#32)
  else
    (1#32, 2#32, 8#32, 4#32)
def k0_dev13 (d0 : Dev nD) : Nat :=
  let c0_i32_1220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1215 : BitVec 32 := 8#32
  let v2273 : BitVec 32 := Scalar.xori v2 c8_i32_1215
  let c1_i32_1219 : BitVec 32 := 1#32
  let v2275 : BitVec 32 := Scalar.muli v2273 c1_i32_1219
  let v2276 : BitVec 32 := Scalar.addi c0_i32_1220 v2275
  v2276.toNat
def k0_dev14 (d0 : Dev nD) : Nat :=
  let c0_i32_1226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1216 : BitVec 32 := 1#32
  let v2274 : BitVec 32 := Scalar.xori v2 c1_i32_1216
  let c1_i32_1225 : BitVec 32 := 1#32
  let v2283 : BitVec 32 := Scalar.muli v2274 c1_i32_1225
  let v2284 : BitVec 32 := Scalar.addi c0_i32_1226 v2283
  v2284.toNat
def k0_off61 (d0 : Dev nD) (c8_i32_1183 : BitVec 32) (c8_i32_160 : BitVec 32) (c4_i32_153 : BitVec 32) (c2_i32_146 : BitVec 32) (c1_i32_131 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2213 : BitVec 32 := Scalar.andi v2 c8_i32_1183
  let c0_i32_1184 : BitVec 32 := 0#32
  let v2214 : BitVec 1 := Scalar.cmpi .ne v2213 c0_i32_1184
  let v177 : BitVec 32 := Scalar.andi v2 c8_i32_160
  let c0_i32_161 : BitVec 32 := 0#32
  let v178 : BitVec 1 := Scalar.cmpi .ne v177 c0_i32_161
  let v161 : BitVec 32 := Scalar.andi v2 c4_i32_153
  let c0_i32_154 : BitVec 32 := 0#32
  let v162 : BitVec 1 := Scalar.cmpi .ne v161 c0_i32_154
  let v145 : BitVec 32 := Scalar.andi v2 c2_i32_146
  let c0_i32_147 : BitVec 32 := 0#32
  let v146 : BitVec 1 := Scalar.cmpi .ne v145 c0_i32_147
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let c64_i32_1185 : BitVec 32 := 64#32
  let v2215 : BitVec 32 := Scalar.subi v181 c64_i32_1185
  let c64_i32_1186 : BitVec 32 := 64#32
  let v2216 : BitVec 32 := Scalar.addi v181 c64_i32_1186
  let v2217 : BitVec 32 := Scalar.select v2214 v2215 v2216
  let v2218 : BitVec 32 := v2217
  let c0_i32_1234 : BitVec 32 := 0#32
  ![v2218.toNat, 0]
def k0_off61_at (r : Fin 2) : BitVec 32 × BitVec 32 × BitVec 32 × BitVec 32 × BitVec 32 :=
  if r.val < 1 then
    (8#32, 8#32, 4#32, 2#32, 1#32)
  else
    (1#32, 1#32, 2#32, 8#32, 4#32)
def k0_off62 (d0 : Dev nD) (c8_i32_160 : BitVec 32) (c4_i32_153 : BitVec 32) (c2_i32_146 : BitVec 32) (c1_i32_131 : BitVec 32) (c8_i32_1183 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v177 : BitVec 32 := Scalar.andi v2 c8_i32_160
  let c0_i32_161 : BitVec 32 := 0#32
  let v178 : BitVec 1 := Scalar.cmpi .ne v177 c0_i32_161
  let v161 : BitVec 32 := Scalar.andi v2 c4_i32_153
  let c0_i32_154 : BitVec 32 := 0#32
  let v162 : BitVec 1 := Scalar.cmpi .ne v161 c0_i32_154
  let v145 : BitVec 32 := Scalar.andi v2 c2_i32_146
  let c0_i32_147 : BitVec 32 := 0#32
  let v146 : BitVec 1 := Scalar.cmpi .ne v145 c0_i32_147
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let v2213 : BitVec 32 := Scalar.andi v2 c8_i32_1183
  let c0_i32_1184 : BitVec 32 := 0#32
  let v2214 : BitVec 1 := Scalar.cmpi .ne v2213 c0_i32_1184
  let c64_i32_1185 : BitVec 32 := 64#32
  let v2215 : BitVec 32 := Scalar.subi v181 c64_i32_1185
  let c64_i32_1186 : BitVec 32 := 64#32
  let v2216 : BitVec 32 := Scalar.addi v181 c64_i32_1186
  let v2217 : BitVec 32 := Scalar.select v2214 v2215 v2216
  let v2218 : BitVec 32 := v2217
  let v2225 : BitVec 32 := Scalar.minsi v181 v2218
  let v2226 : BitVec 32 := v2225
  let c0_i32_1241 : BitVec 32 := 0#32
  ![v2226.toNat, 0]
def k0_off62_at (r : Fin 2) : BitVec 32 × BitVec 32 × BitVec 32 × BitVec 32 × BitVec 32 :=
  if r.val < 1 then
    (8#32, 4#32, 2#32, 1#32, 8#32)
  else
    (1#32, 2#32, 8#32, 4#32, 1#32)
def k0_dev15 (d0 : Dev nD) : Nat :=
  let c0_i32_1240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1236 : BitVec 32 := 4#32
  let v2298 : BitVec 32 := Scalar.xori v2 c4_i32_1236
  let c1_i32_1239 : BitVec 32 := 1#32
  let v2299 : BitVec 32 := Scalar.muli v2298 c1_i32_1239
  let v2300 : BitVec 32 := Scalar.addi c0_i32_1240 v2299
  v2300.toNat
def k0_dev16 (d0 : Dev nD) : Nat :=
  let c0_i32_1254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1250 : BitVec 32 := 2#32
  let v2314 : BitVec 32 := Scalar.xori v2 c2_i32_1250
  let c1_i32_1253 : BitVec 32 := 1#32
  let v2315 : BitVec 32 := Scalar.muli v2314 c1_i32_1253
  let v2316 : BitVec 32 := Scalar.addi c0_i32_1254 v2315
  v2316.toNat
def k0_off63 (d0 : Dev nD) (c4_i32_1191 : BitVec 32) (c8_i32_160 : BitVec 32) (c4_i32_153 : BitVec 32) (c2_i32_146 : BitVec 32) (c1_i32_131 : BitVec 32) (c8_i32_1183 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2229 : BitVec 32 := Scalar.andi v2 c4_i32_1191
  let c0_i32_1192 : BitVec 32 := 0#32
  let v2230 : BitVec 1 := Scalar.cmpi .ne v2229 c0_i32_1192
  let v177 : BitVec 32 := Scalar.andi v2 c8_i32_160
  let c0_i32_161 : BitVec 32 := 0#32
  let v178 : BitVec 1 := Scalar.cmpi .ne v177 c0_i32_161
  let v161 : BitVec 32 := Scalar.andi v2 c4_i32_153
  let c0_i32_154 : BitVec 32 := 0#32
  let v162 : BitVec 1 := Scalar.cmpi .ne v161 c0_i32_154
  let v145 : BitVec 32 := Scalar.andi v2 c2_i32_146
  let c0_i32_147 : BitVec 32 := 0#32
  let v146 : BitVec 1 := Scalar.cmpi .ne v145 c0_i32_147
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let v2213 : BitVec 32 := Scalar.andi v2 c8_i32_1183
  let c0_i32_1184 : BitVec 32 := 0#32
  let v2214 : BitVec 1 := Scalar.cmpi .ne v2213 c0_i32_1184
  let c64_i32_1185 : BitVec 32 := 64#32
  let v2215 : BitVec 32 := Scalar.subi v181 c64_i32_1185
  let c64_i32_1186 : BitVec 32 := 64#32
  let v2216 : BitVec 32 := Scalar.addi v181 c64_i32_1186
  let v2217 : BitVec 32 := Scalar.select v2214 v2215 v2216
  let v2218 : BitVec 32 := v2217
  let v2225 : BitVec 32 := Scalar.minsi v181 v2218
  let v2226 : BitVec 32 := v2225
  let c128_i32_1193 : BitVec 32 := 128#32
  let v2231 : BitVec 32 := Scalar.subi v2226 c128_i32_1193
  let c128_i32_1194 : BitVec 32 := 128#32
  let v2232 : BitVec 32 := Scalar.addi v2226 c128_i32_1194
  let v2233 : BitVec 32 := Scalar.select v2230 v2231 v2232
  let v2234 : BitVec 32 := v2233
  let c0_i32_1262 : BitVec 32 := 0#32
  ![v2234.toNat, 0]
def k0_off63_at (r : Fin 2) : BitVec 32 × BitVec 32 × BitVec 32 × BitVec 32 × BitVec 32 × BitVec 32 :=
  if r.val < 1 then
    (4#32, 8#32, 4#32, 2#32, 1#32, 8#32)
  else
    (2#32, 1#32, 2#32, 8#32, 4#32, 1#32)
def k0_off64 (d0 : Dev nD) (c8_i32_160 : BitVec 32) (c4_i32_153 : BitVec 32) (c2_i32_146 : BitVec 32) (c1_i32_131 : BitVec 32) (c8_i32_1183 : BitVec 32) (c4_i32_1191 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v177 : BitVec 32 := Scalar.andi v2 c8_i32_160
  let c0_i32_161 : BitVec 32 := 0#32
  let v178 : BitVec 1 := Scalar.cmpi .ne v177 c0_i32_161
  let v161 : BitVec 32 := Scalar.andi v2 c4_i32_153
  let c0_i32_154 : BitVec 32 := 0#32
  let v162 : BitVec 1 := Scalar.cmpi .ne v161 c0_i32_154
  let v145 : BitVec 32 := Scalar.andi v2 c2_i32_146
  let c0_i32_147 : BitVec 32 := 0#32
  let v146 : BitVec 1 := Scalar.cmpi .ne v145 c0_i32_147
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let v2213 : BitVec 32 := Scalar.andi v2 c8_i32_1183
  let c0_i32_1184 : BitVec 32 := 0#32
  let v2214 : BitVec 1 := Scalar.cmpi .ne v2213 c0_i32_1184
  let c64_i32_1185 : BitVec 32 := 64#32
  let v2215 : BitVec 32 := Scalar.subi v181 c64_i32_1185
  let c64_i32_1186 : BitVec 32 := 64#32
  let v2216 : BitVec 32 := Scalar.addi v181 c64_i32_1186
  let v2217 : BitVec 32 := Scalar.select v2214 v2215 v2216
  let v2218 : BitVec 32 := v2217
  let v2225 : BitVec 32 := Scalar.minsi v181 v2218
  let v2226 : BitVec 32 := v2225
  let v2229 : BitVec 32 := Scalar.andi v2 c4_i32_1191
  let c0_i32_1192 : BitVec 32 := 0#32
  let v2230 : BitVec 1 := Scalar.cmpi .ne v2229 c0_i32_1192
  let c128_i32_1193 : BitVec 32 := 128#32
  let v2231 : BitVec 32 := Scalar.subi v2226 c128_i32_1193
  let c128_i32_1194 : BitVec 32 := 128#32
  let v2232 : BitVec 32 := Scalar.addi v2226 c128_i32_1194
  let v2233 : BitVec 32 := Scalar.select v2230 v2231 v2232
  let v2234 : BitVec 32 := v2233
  let v2241 : BitVec 32 := Scalar.minsi v2226 v2234
  let v2242 : BitVec 32 := v2241
  let c0_i32_1269 : BitVec 32 := 0#32
  ![v2242.toNat, 0]
def k0_off64_at (r : Fin 2) : BitVec 32 × BitVec 32 × BitVec 32 × BitVec 32 × BitVec 32 × BitVec 32 :=
  if r.val < 1 then
    (8#32, 4#32, 2#32, 1#32, 8#32, 4#32)
  else
    (1#32, 2#32, 8#32, 4#32, 1#32, 2#32)
def k0_dev17 (d0 : Dev nD) : Nat :=
  let c0_i32_1268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1264 : BitVec 32 := 2#32
  let v2330 : BitVec 32 := Scalar.xori v2 c2_i32_1264
  let c1_i32_1267 : BitVec 32 := 1#32
  let v2331 : BitVec 32 := Scalar.muli v2330 c1_i32_1267
  let v2332 : BitVec 32 := Scalar.addi c0_i32_1268 v2331
  v2332.toNat
def k0_dev18 (d0 : Dev nD) : Nat :=
  let c0_i32_1282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1278 : BitVec 32 := 8#32
  let v2346 : BitVec 32 := Scalar.xori v2 c8_i32_1278
  let c1_i32_1281 : BitVec 32 := 1#32
  let v2347 : BitVec 32 := Scalar.muli v2346 c1_i32_1281
  let v2348 : BitVec 32 := Scalar.addi c0_i32_1282 v2347
  v2348.toNat
def k0_off65 (d0 : Dev nD) (c2_i32_1199 : BitVec 32) (c8_i32_160 : BitVec 32) (c4_i32_153 : BitVec 32) (c2_i32_146 : BitVec 32) (c1_i32_131 : BitVec 32) (c8_i32_1183 : BitVec 32) (c4_i32_1191 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2245 : BitVec 32 := Scalar.andi v2 c2_i32_1199
  let c0_i32_1200 : BitVec 32 := 0#32
  let v2246 : BitVec 1 := Scalar.cmpi .ne v2245 c0_i32_1200
  let v177 : BitVec 32 := Scalar.andi v2 c8_i32_160
  let c0_i32_161 : BitVec 32 := 0#32
  let v178 : BitVec 1 := Scalar.cmpi .ne v177 c0_i32_161
  let v161 : BitVec 32 := Scalar.andi v2 c4_i32_153
  let c0_i32_154 : BitVec 32 := 0#32
  let v162 : BitVec 1 := Scalar.cmpi .ne v161 c0_i32_154
  let v145 : BitVec 32 := Scalar.andi v2 c2_i32_146
  let c0_i32_147 : BitVec 32 := 0#32
  let v146 : BitVec 1 := Scalar.cmpi .ne v145 c0_i32_147
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let v2213 : BitVec 32 := Scalar.andi v2 c8_i32_1183
  let c0_i32_1184 : BitVec 32 := 0#32
  let v2214 : BitVec 1 := Scalar.cmpi .ne v2213 c0_i32_1184
  let c64_i32_1185 : BitVec 32 := 64#32
  let v2215 : BitVec 32 := Scalar.subi v181 c64_i32_1185
  let c64_i32_1186 : BitVec 32 := 64#32
  let v2216 : BitVec 32 := Scalar.addi v181 c64_i32_1186
  let v2217 : BitVec 32 := Scalar.select v2214 v2215 v2216
  let v2218 : BitVec 32 := v2217
  let v2225 : BitVec 32 := Scalar.minsi v181 v2218
  let v2226 : BitVec 32 := v2225
  let v2229 : BitVec 32 := Scalar.andi v2 c4_i32_1191
  let c0_i32_1192 : BitVec 32 := 0#32
  let v2230 : BitVec 1 := Scalar.cmpi .ne v2229 c0_i32_1192
  let c128_i32_1193 : BitVec 32 := 128#32
  let v2231 : BitVec 32 := Scalar.subi v2226 c128_i32_1193
  let c128_i32_1194 : BitVec 32 := 128#32
  let v2232 : BitVec 32 := Scalar.addi v2226 c128_i32_1194
  let v2233 : BitVec 32 := Scalar.select v2230 v2231 v2232
  let v2234 : BitVec 32 := v2233
  let v2241 : BitVec 32 := Scalar.minsi v2226 v2234
  let v2242 : BitVec 32 := v2241
  let c256_i32_1201 : BitVec 32 := 256#32
  let v2247 : BitVec 32 := Scalar.subi v2242 c256_i32_1201
  let c256_i32_1202 : BitVec 32 := 256#32
  let v2248 : BitVec 32 := Scalar.addi v2242 c256_i32_1202
  let v2249 : BitVec 32 := Scalar.select v2246 v2247 v2248
  let v2250 : BitVec 32 := v2249
  let c0_i32_1290 : BitVec 32 := 0#32
  ![v2250.toNat, 0]
def k0_off65_at (r : Fin 2) : BitVec 32 × BitVec 32 × BitVec 32 × BitVec 32 × BitVec 32 × BitVec 32 × BitVec 32 :=
  if r.val < 1 then
    (2#32, 8#32, 4#32, 2#32, 1#32, 8#32, 4#32)
  else
    (8#32, 1#32, 2#32, 8#32, 4#32, 1#32, 2#32)
def k0_off66 (d0 : Dev nD) (c8_i32_160 : BitVec 32) (c4_i32_153 : BitVec 32) (c2_i32_146 : BitVec 32) (c1_i32_131 : BitVec 32) (c8_i32_1183 : BitVec 32) (c4_i32_1191 : BitVec 32) (c2_i32_1199 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v177 : BitVec 32 := Scalar.andi v2 c8_i32_160
  let c0_i32_161 : BitVec 32 := 0#32
  let v178 : BitVec 1 := Scalar.cmpi .ne v177 c0_i32_161
  let v161 : BitVec 32 := Scalar.andi v2 c4_i32_153
  let c0_i32_154 : BitVec 32 := 0#32
  let v162 : BitVec 1 := Scalar.cmpi .ne v161 c0_i32_154
  let v145 : BitVec 32 := Scalar.andi v2 c2_i32_146
  let c0_i32_147 : BitVec 32 := 0#32
  let v146 : BitVec 1 := Scalar.cmpi .ne v145 c0_i32_147
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let v2213 : BitVec 32 := Scalar.andi v2 c8_i32_1183
  let c0_i32_1184 : BitVec 32 := 0#32
  let v2214 : BitVec 1 := Scalar.cmpi .ne v2213 c0_i32_1184
  let c64_i32_1185 : BitVec 32 := 64#32
  let v2215 : BitVec 32 := Scalar.subi v181 c64_i32_1185
  let c64_i32_1186 : BitVec 32 := 64#32
  let v2216 : BitVec 32 := Scalar.addi v181 c64_i32_1186
  let v2217 : BitVec 32 := Scalar.select v2214 v2215 v2216
  let v2218 : BitVec 32 := v2217
  let v2225 : BitVec 32 := Scalar.minsi v181 v2218
  let v2226 : BitVec 32 := v2225
  let v2229 : BitVec 32 := Scalar.andi v2 c4_i32_1191
  let c0_i32_1192 : BitVec 32 := 0#32
  let v2230 : BitVec 1 := Scalar.cmpi .ne v2229 c0_i32_1192
  let c128_i32_1193 : BitVec 32 := 128#32
  let v2231 : BitVec 32 := Scalar.subi v2226 c128_i32_1193
  let c128_i32_1194 : BitVec 32 := 128#32
  let v2232 : BitVec 32 := Scalar.addi v2226 c128_i32_1194
  let v2233 : BitVec 32 := Scalar.select v2230 v2231 v2232
  let v2234 : BitVec 32 := v2233
  let v2241 : BitVec 32 := Scalar.minsi v2226 v2234
  let v2242 : BitVec 32 := v2241
  let v2245 : BitVec 32 := Scalar.andi v2 c2_i32_1199
  let c0_i32_1200 : BitVec 32 := 0#32
  let v2246 : BitVec 1 := Scalar.cmpi .ne v2245 c0_i32_1200
  let c256_i32_1201 : BitVec 32 := 256#32
  let v2247 : BitVec 32 := Scalar.subi v2242 c256_i32_1201
  let c256_i32_1202 : BitVec 32 := 256#32
  let v2248 : BitVec 32 := Scalar.addi v2242 c256_i32_1202
  let v2249 : BitVec 32 := Scalar.select v2246 v2247 v2248
  let v2250 : BitVec 32 := v2249
  let v2257 : BitVec 32 := Scalar.minsi v2242 v2250
  let v2258 : BitVec 32 := v2257
  let c0_i32_1297 : BitVec 32 := 0#32
  ![v2258.toNat, 0]
def k0_off66_at (r : Fin 2) : BitVec 32 × BitVec 32 × BitVec 32 × BitVec 32 × BitVec 32 × BitVec 32 × BitVec 32 :=
  if r.val < 1 then
    (8#32, 4#32, 2#32, 1#32, 8#32, 4#32, 2#32)
  else
    (1#32, 2#32, 8#32, 4#32, 1#32, 2#32, 8#32)
def k0_dev19 (d0 : Dev nD) : Nat :=
  let c0_i32_1296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1292 : BitVec 32 := 1#32
  let v2362 : BitVec 32 := Scalar.xori v2 c1_i32_1292
  let c1_i32_1295 : BitVec 32 := 1#32
  let v2363 : BitVec 32 := Scalar.muli v2362 c1_i32_1295
  let v2364 : BitVec 32 := Scalar.addi c0_i32_1296 v2363
  v2364.toNat
def k0_dev20 (d0 : Dev nD) : Nat :=
  let c0_i32_1310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1306 : BitVec 32 := 4#32
  let v2378 : BitVec 32 := Scalar.xori v2 c4_i32_1306
  let c1_i32_1309 : BitVec 32 := 1#32
  let v2379 : BitVec 32 := Scalar.muli v2378 c1_i32_1309
  let v2380 : BitVec 32 := Scalar.addi c0_i32_1310 v2379
  v2380.toNat
def k0_off67 (d0 : Dev nD) (c1_i32_1207 : BitVec 32) (c8_i32_160 : BitVec 32) (c4_i32_153 : BitVec 32) (c2_i32_146 : BitVec 32) (c1_i32_131 : BitVec 32) (c8_i32_1183 : BitVec 32) (c4_i32_1191 : BitVec 32) (c2_i32_1199 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2261 : BitVec 32 := Scalar.andi v2 c1_i32_1207
  let c0_i32_1208 : BitVec 32 := 0#32
  let v2262 : BitVec 1 := Scalar.cmpi .ne v2261 c0_i32_1208
  let v177 : BitVec 32 := Scalar.andi v2 c8_i32_160
  let c0_i32_161 : BitVec 32 := 0#32
  let v178 : BitVec 1 := Scalar.cmpi .ne v177 c0_i32_161
  let v161 : BitVec 32 := Scalar.andi v2 c4_i32_153
  let c0_i32_154 : BitVec 32 := 0#32
  let v162 : BitVec 1 := Scalar.cmpi .ne v161 c0_i32_154
  let v145 : BitVec 32 := Scalar.andi v2 c2_i32_146
  let c0_i32_147 : BitVec 32 := 0#32
  let v146 : BitVec 1 := Scalar.cmpi .ne v145 c0_i32_147
  let v129 : BitVec 32 := Scalar.andi v2 c1_i32_131
  let c0_i32_132 : BitVec 32 := 0#32
  let v130 : BitVec 1 := Scalar.cmpi .ne v129 c0_i32_132
  let c0_i32_133 : BitVec 32 := 0#32
  let c512_i32 : BitVec 32 := 512#32
  let v131 : BitVec 32 := Scalar.addi c0_i32_133 c512_i32
  let c0_i32_134 : BitVec 32 := 0#32
  let v132 : BitVec 32 := Scalar.select v130 v131 c0_i32_134
  let v133 : BitVec 32 := v132
  let c256_i32 : BitVec 32 := 256#32
  let v147 : BitVec 32 := Scalar.addi v133 c256_i32
  let v148 : BitVec 32 := Scalar.select v146 v147 v133
  let v149 : BitVec 32 := v148
  let c128_i32 : BitVec 32 := 128#32
  let v163 : BitVec 32 := Scalar.addi v149 c128_i32
  let v164 : BitVec 32 := Scalar.select v162 v163 v149
  let v165 : BitVec 32 := v164
  let c64_i32 : BitVec 32 := 64#32
  let v179 : BitVec 32 := Scalar.addi v165 c64_i32
  let v180 : BitVec 32 := Scalar.select v178 v179 v165
  let v181 : BitVec 32 := v180
  let v2213 : BitVec 32 := Scalar.andi v2 c8_i32_1183
  let c0_i32_1184 : BitVec 32 := 0#32
  let v2214 : BitVec 1 := Scalar.cmpi .ne v2213 c0_i32_1184
  let c64_i32_1185 : BitVec 32 := 64#32
  let v2215 : BitVec 32 := Scalar.subi v181 c64_i32_1185
  let c64_i32_1186 : BitVec 32 := 64#32
  let v2216 : BitVec 32 := Scalar.addi v181 c64_i32_1186
  let v2217 : BitVec 32 := Scalar.select v2214 v2215 v2216
  let v2218 : BitVec 32 := v2217
  let v2225 : BitVec 32 := Scalar.minsi v181 v2218
  let v2226 : BitVec 32 := v2225
  let v2229 : BitVec 32 := Scalar.andi v2 c4_i32_1191
  let c0_i32_1192 : BitVec 32 := 0#32
  let v2230 : BitVec 1 := Scalar.cmpi .ne v2229 c0_i32_1192
  let c128_i32_1193 : BitVec 32 := 128#32
  let v2231 : BitVec 32 := Scalar.subi v2226 c128_i32_1193
  let c128_i32_1194 : BitVec 32 := 128#32
  let v2232 : BitVec 32 := Scalar.addi v2226 c128_i32_1194
  let v2233 : BitVec 32 := Scalar.select v2230 v2231 v2232
  let v2234 : BitVec 32 := v2233
  let v2241 : BitVec 32 := Scalar.minsi v2226 v2234
  let v2242 : BitVec 32 := v2241
  let v2245 : BitVec 32 := Scalar.andi v2 c2_i32_1199
  let c0_i32_1200 : BitVec 32 := 0#32
  let v2246 : BitVec 1 := Scalar.cmpi .ne v2245 c0_i32_1200
  let c256_i32_1201 : BitVec 32 := 256#32
  let v2247 : BitVec 32 := Scalar.subi v2242 c256_i32_1201
  let c256_i32_1202 : BitVec 32 := 256#32
  let v2248 : BitVec 32 := Scalar.addi v2242 c256_i32_1202
  let v2249 : BitVec 32 := Scalar.select v2246 v2247 v2248
  let v2250 : BitVec 32 := v2249
  let v2257 : BitVec 32 := Scalar.minsi v2242 v2250
  let v2258 : BitVec 32 := v2257
  let c512_i32_1209 : BitVec 32 := 512#32
  let v2263 : BitVec 32 := Scalar.subi v2258 c512_i32_1209
  let c512_i32_1210 : BitVec 32 := 512#32
  let v2264 : BitVec 32 := Scalar.addi v2258 c512_i32_1210
  let v2265 : BitVec 32 := Scalar.select v2262 v2263 v2264
  let v2266 : BitVec 32 := v2265
  let c0_i32_1318 : BitVec 32 := 0#32
  ![v2266.toNat, 0]
def k0_off67_at (r : Fin 2) : BitVec 32 × BitVec 32 × BitVec 32 × BitVec 32 × BitVec 32 × BitVec 32 × BitVec 32 × BitVec 32 :=
  if r.val < 1 then
    (1#32, 8#32, 4#32, 2#32, 1#32, 8#32, 4#32, 2#32)
  else
    (4#32, 1#32, 2#32, 8#32, 4#32, 1#32, 2#32, 8#32)
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S1x1024x16384 : Shape := ⟨3, ![1, 1024, 16384]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x128x1024x1024 : Shape := ⟨4, ![1, 128, 1024, 1024]⟩
abbrev S1x1x1024x1024 : Shape := ⟨4, ![1, 1, 1024, 1024]⟩
abbrev S1x128x1024 : Shape := ⟨3, ![1, 128, 1024]⟩
abbrev S1x128x1024x1 : Shape := ⟨4, ![1, 128, 1024, 1]⟩
abbrev S1x1x1024x1 : Shape := ⟨4, ![1, 1, 1024, 1]⟩
abbrev S1x128x128x1024 : Shape := ⟨4, ![1, 128, 128, 1024]⟩

abbrev nBuf : Space → Nat
  | .hbm => 62
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x16384, .bf16⟩
  | .hbm, ⟨2, _⟩ => ⟨S1x1024x128x128, .f32⟩
  | .hbm, ⟨3, _⟩ => ⟨S1x1024x128x128, .f32⟩
  | .hbm, ⟨4, _⟩ => ⟨S16384x1024, .bf16⟩
  | .hbm, ⟨5, _⟩ => ⟨S1x1024x1024, .f32⟩
  | .hbm, ⟨6, _⟩ => ⟨S1024x16384, .f32⟩
  | .hbm, ⟨7, _⟩ => ⟨S16384x1024, .f32⟩
  | .hbm, ⟨8, _⟩ => ⟨S1x1024x16384, .f32⟩
  | .hbm, ⟨9, _⟩ => ⟨S1x1024x128x128, .f32⟩
  | .hbm, ⟨10, _⟩ => ⟨S1024, .i32⟩
  | .hbm, ⟨11, _⟩ => ⟨S1024x1, .i32⟩
  | .hbm, ⟨12, _⟩ => ⟨S1024, .i32⟩
  | .hbm, ⟨13, _⟩ => ⟨S1x1024, .i32⟩
  | .hbm, ⟨14, _⟩ => ⟨S1024x1024, .i32⟩
  | .hbm, ⟨15, _⟩ => ⟨S1024x1024, .i32⟩
  | .hbm, ⟨16, _⟩ => ⟨S1024x1024, .i32⟩
  | .hbm, ⟨17, _⟩ => ⟨S1024x1024, .i32⟩
  | .hbm, ⟨18, _⟩ => ⟨S_, .i32⟩
  | .hbm, ⟨19, _⟩ => ⟨S1024x1024, .i32⟩
  | .hbm, ⟨20, _⟩ => ⟨S1024x1024, .i1⟩
  | .hbm, ⟨21, _⟩ => ⟨S1x128x1024x1024, .f32⟩
  | .hbm, ⟨22, _⟩ => ⟨S_, .f32⟩
  | .hbm, ⟨23, _⟩ => ⟨S1x128x1024x1024, .f32⟩
  | .hbm, ⟨24, _⟩ => ⟨S1x128x1024x1024, .f32⟩
  | .hbm, ⟨25, _⟩ => ⟨S1x1x1024x1024, .i1⟩
  | .hbm, ⟨26, _⟩ => ⟨S_, .f32⟩
  | .hbm, ⟨27, _⟩ => ⟨S_, .f32⟩
  | .hbm, ⟨28, _⟩ => ⟨S1x128x1024x1024, .i1⟩
  | .hbm, ⟨29, _⟩ => ⟨S1x128x1024x1024, .f32⟩
  | .hbm, ⟨30, _⟩ => ⟨S1x128x1024x1024, .f32⟩
  | .hbm, ⟨31, _⟩ => ⟨S_, .f32⟩
  | .hbm, ⟨32, _⟩ => ⟨S1x128x1024, .f32⟩
  | .hbm, ⟨33, _⟩ => ⟨S1x128x1024x1, .f32⟩
  | .hbm, ⟨34, _⟩ => ⟨S1x128x1024x1024, .f32⟩
  | .hbm, ⟨35, _⟩ => ⟨S1x128x1024x1024, .f32⟩
  | .hbm, ⟨36, _⟩ => ⟨S1x128x1024x1024, .f32⟩
  | .hbm, ⟨37, _⟩ => ⟨S_, .i1⟩
  | .hbm, ⟨38, _⟩ => ⟨S1024, .i1⟩
  | .hbm, ⟨39, _⟩ => ⟨S1x1x1024x1, .i1⟩
  | .hbm, ⟨40, _⟩ => ⟨S_, .f32⟩
  | .hbm, ⟨41, _⟩ => ⟨S1x128x1024, .f32⟩
  | .hbm, ⟨42, _⟩ => ⟨S1x128x1024x1, .f32⟩
  | .hbm, ⟨43, _⟩ => ⟨S_, .f32⟩
  | .hbm, ⟨44, _⟩ => ⟨S_, .f32⟩
  | .hbm, ⟨45, _⟩ => ⟨S1x128x1024x1, .i1⟩
  | .hbm, ⟨46, _⟩ => ⟨S1x128x1024x1, .f32⟩
  | .hbm, ⟨47, _⟩ => ⟨S1x128x1024x1, .f32⟩
  | .hbm, ⟨48, _⟩ => ⟨S1x128x1024x1024, .f32⟩
  | .hbm, ⟨49, _⟩ => ⟨S1x128x1024x1024, .f32⟩
  | .hbm, ⟨50, _⟩ => ⟨S1x1x1024x1, .i1⟩
  | .hbm, ⟨51, _⟩ => ⟨S_, .f32⟩
  | .hbm, ⟨52, _⟩ => ⟨S_, .f32⟩
  | .hbm, ⟨53, _⟩ => ⟨S1x128x1024x1024, .i1⟩
  | .hbm, ⟨54, _⟩ => ⟨S1x128x1024x1024, .f32⟩
  | .hbm, ⟨55, _⟩ => ⟨S1x128x1024x1024, .f32⟩
  | .hbm, ⟨56, _⟩ => ⟨S1x128x128x1024, .f32⟩
  | .hbm, ⟨57, _⟩ => ⟨S1x1024x128x128, .f32⟩
  | .hbm, ⟨58, _⟩ => ⟨S1x1024x16384, .f32⟩
  | .hbm, ⟨59, _⟩ => ⟨S1x1024x1024, .f32⟩
  | .hbm, ⟨60, _⟩ => ⟨S1024x1024, .f32⟩
  | .hbm, ⟨61, _⟩ => ⟨S1024x1024, .bf16⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]

def κ : String → Option EReal := fun
  | "mask" => some ⊥
  | _ => none
-- ==== Proof.Body.lean ====
/- The kernel's body written as a sequence of named steps, equal to the printed body by computation: the copies in
   of K and V, the barrier, the attention blocks, the row-half products with Wo, the steps of the two reduce-scatters
   and of the two all-gathers, and the write of the result. -/
module

public import proofs.«01_k».proof.Proof.Gen.KernelIdeal.Skeleton
public import proofs.«01_k».proof.Proof.Gen.KernelIdeal.Points

@[expose] public section

set_option maxRecDepth 100000

noncomputable section

namespace Cert.KernelIdeal.Att

open Idealize.ShloMosaic Idealize.ShloMosaic.TcCoe
open Idealize.SL Idealize.SL.Sem
open Cert.KernelIdeal Cert.KernelIdeal.Gen

variable {F : FTy → Type} [FloatOps F] [Named F]

/-- A program of a TensorCore without a result. -/
abbrev Tp (F : FTy → Type) : Type 1 := Prog (TpuEff nD τ sig (Elt F) Λ₀ .tc) PUnit

/-! ## The buffers -/

abbrev xM : Memref sig .tc .vmem S1x1024x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev oM : Memref sig .tc .vmem S1024x1024 .bf16 := Memref.whole cc0_stg3_0
abbrev kM : Memref sig .tc .hbm S1x1024x128x128 .f32 := Memref.whole main_arg2
abbrev vM : Memref sig .tc .hbm S1x1024x128x128 .f32 := Memref.whole main_arg3
abbrev qM : Memref sig .tc .vmem S1024x1024 .bf16 := Memref.whole cc0_scratch0
abbrev cM : Memref sig .tc .vmem S1024x1024 .bf16 := Memref.whole cc0_scratch1
abbrev aM : Memref sig .tc .vmem S1024x1024 .f32 := Memref.whole cc0_scratch2
abbrev ktM : Memref sig .tc .vmem S8x1024x128 .bf16 := Memref.whole cc0_scratch3
abbrev vtM : Memref sig .tc .vmem S8x1024x128 .bf16 := Memref.whole cc0_scratch4
abbrev kfM : Memref sig .tc .vmem S8x1024x128 .f32 := Memref.whole cc0_scratch5
abbrev vfM : Memref sig .tc .vmem S8x1024x128 .f32 := Memref.whole cc0_scratch6
abbrev bM : Memref sig .tc .vmem S1024x1024 .bf16 := Memref.whole cc0_scratch8
/-- The landing buffer of the reduce-scatter of the left (`false`) or right (`true`) half of the columns. -/
abbrev rM : Bool → Memref sig .tc .vmem S4x512x512 .bf16
  | false => Memref.whole cc0_scratch9
  | true => Memref.whole cc0_scratch10
/-- The gathered half of the columns. -/
abbrev gM : Bool → Memref sig .tc .vmem S1024x512 .bf16
  | false => Memref.whole cc0_scratch11
  | true => Memref.whole cc0_scratch12

theorem rM_whole : ∀ s, (rM s).IsWhole
  | false => Memref.isWhole_whole _
  | true => Memref.isWhole_whole _
theorem gM_whole : ∀ s, (gM s).IsWhole
  | false => Memref.isWhole_whole _
  | true => Memref.isWhole_whole _

/-! ## The semaphores -/

/-- Cell `i` of the sixteen semaphores of the copies in. -/
abbrev kvSem (i : Fin 16) : DmaSem sig :=
  ((cc0_scratch7.slice (Rect.unit (s := S16) ![i.val] S1.size (fun a => by fin_cases a; have := i.isLt; show i.val + 1 ≤ 16; omega))).squeeze S_ squeezes_S1_S_).sem
/-- Cell `k` of an array of four semaphores. -/
abbrev four (A : DmaSems sig S4) (k : Fin 4) : DmaSem sig :=
  ((A.slice (Rect.unit (s := S4) ![k.val] S1.size (fun a => by fin_cases a; have := k.isLt; show k.val + 1 ≤ 4; omega))).squeeze S_ squeezes_S1_S_).sem
abbrev rsS : Bool → DmaSems sig S4 | false => cc0_scratch13 | true => cc0_scratch15
abbrev rsR : Bool → DmaSems sig S4 | false => cc0_scratch14 | true => cc0_scratch16
abbrev dbS : Bool → DmaSems sig S4 | false => cc0_scratch17 | true => cc0_scratch19
abbrev dbR : Bool → DmaSems sig S4 | false => cc0_scratch18 | true => cc0_scratch20

/-! ## Rectangles -/

theorem slab_inb (h : Fin 8) : ∀ a, (![h.val, 0, 0] : Fin 3 → ℕ) a + S1x1024x128.size a ≤ S8x1024x128.size a := by
  revert h; decide
/-- Head `h`'s slab of a buffer of eight heads. -/
abbrev slab (h : Fin 8) : Rect S8x1024x128 := Rect.unit (s := S8x1024x128) ![h.val, 0, 0] S1x1024x128.size (slab_inb h)
theorem slab_packed (h : Fin 8) : (slab h).PackedRows (EltTy.packing .bf16) := by revert h; decide +kernel

/-- Head `h`'s column of K and V at device `d`. -/
abbrev headR (d : Dev nD) (h : Fin 8) : Rect S1x1024x128x128 :=
  Rect.unit (s := S1x1024x128x128) (k0_off1 d (BitVec.ofNat 32 h.val)) S1x1024x1x128.size (k0_off1_inb d h)

abbrev slabM (m : Memref sig .tc .vmem S8x1024x128 .f32) (h : Fin 8) : Memref sig .tc .vmem S1024x128 .f32 :=
  (m.slice (slab h) (fun _ => rfl)).squeeze S1024x128 squeezes_S1x1024x128_S1024x128
abbrev headM (m : Memref sig .tc .hbm S1x1024x128x128 .f32) (d : Dev nD) (h : Fin 8) : Memref sig .tc .hbm S1024x128 .f32 :=
  (m.slice (headR d h) (fun _ => rfl)).squeeze S1024x128 squeezes_S1x1024x1x128_S1024x128

/-! ## The steps -/

/-- Start the copies in of head `h` of K and V. -/
def copyIn (d : Dev nD) (h : Fin 8) : Tp F := do
  Prog.lift (.enqueueDma (headM kM d h) (.here (slabM kfM h)) (.dma <| kvSem ⟨h.val, by omega⟩) ((View.wordExact_bits rfl).reshape _ _) ((View.wordExact_bits rfl).reshape _ _) ⟨Or.inl rfl, trivial⟩)
  Prog.lift (.enqueueDma (headM vM d h) (.here (slabM vfM h)) (.dma <| kvSem ⟨8 + h.val, by omega⟩) ((View.wordExact_bits rfl).reshape _ _) ((View.wordExact_bits rfl).reshape _ _) ⟨Or.inl rfl, trivial⟩)

/-- Wait for the copies in of head `h` and round them into the working copies. -/
def takeHead (d : Dev nD) (h : Fin 8) : Tp F := do
  Prog.lift (.waitDma2 (kvSem ⟨h.val, by omega⟩) (headM kM d h) (slabM kfM h) ((View.wordExact_bits rfl).reshape _ _) ((View.wordExact_bits rfl).reshape _ _))
  Prog.lift (.waitDma2 (kvSem ⟨8 + h.val, by omega⟩) (headM vM d h) (slabM vfM h) ((View.wordExact_bits rfl).reshape _ _) ((View.wordExact_bits rfl).reshape _ _))
  let kf ← Prog.lift (.load kfM (slab h).toLoadRect (View.loadsAt_vmem h_S1x1024x128))
  let _ ← Prog.lift (.load ktM (slab h).toLoadRect (View.loadsAt_vmem h_S1x1024x128))
  Prog.lift (.store ktM (slab h) (k0_pay3 kf) Finset.univ (View.stores_vmem h_S1x1024x128 ((Memref.isWhole_whole _).storeExact_slice rfl _ (slab_packed h)) (fun _ => rfl)) (.inl rfl))
  let vf ← Prog.lift (.load vfM (slab h).toLoadRect (View.loadsAt_vmem h_S1x1024x128))
  let _ ← Prog.lift (.load vtM (slab h).toLoadRect (View.loadsAt_vmem h_S1x1024x128))
  Prog.lift (.store vtM (slab h) (k0_pay3 vf) Finset.univ (View.stores_vmem h_S1x1024x128 ((Memref.isWhole_whole _).storeExact_slice rfl _ (slab_packed h)) (fun _ => rfl)) (.inl rfl))

/-- The queries of half of the rows. -/
def queries (ox : Fin 3 → ℕ) (hx : ∀ a, ox a + S1x512x1024.size a ≤ S1x1024x1024.size a)
    (oq : Fin 2 → ℕ) (hq : ∀ a, oq a + S512x1024.size a ≤ S1024x1024.size a)
    (pq : (Rect.unit (s := S1024x1024) oq S512x1024.size hq).PackedRows (EltTy.packing .bf16)) : Tp F := do
  let x ← Prog.lift (.load xM (Rect.unit (s := S1x1024x1024) ox S1x512x1024.size hx).toLoadRect (View.loadsAt_vmem h_S1x512x1024))
  let w ← Prog.lift (.load wqM (Rect.unit (s := S1024x1024) ![0, 0] S1024x1024.size inb_S1024x1024_S1024x1024_0_0).toLoadRect (View.loadsAt_vmem h_S1024x1024))
  let _ ← Prog.lift (.load qM (Rect.unit (s := S1024x1024) oq S512x1024.size hq).toLoadRect (View.loadsAt_vmem h_S512x1024))
  Prog.lift (.store qM (Rect.unit (s := S1024x1024) oq S512x1024.size hq) (k0_pay2 (k0_pay1 x w)) Finset.univ (View.stores_vmem h_S512x1024 ((Memref.isWhole_whole _).storeExact_slice rfl _ pq) (fun _ => rfl)) (.inl rfl))

/-- One attention block: 256 rows of one head against a window of 512 keys, the rows from the word `r0` on. -/
def attn (r0 : BitVec 32) (oq : Fin 2 → ℕ) (hq : ∀ a, oq a + S256x128.size a ≤ S1024x1024.size a)
    (pq : (Rect.unit (s := S1024x1024) oq S256x128.size hq).PackedRows (EltTy.packing .bf16))
    (ok : Fin 3 → ℕ) (hk : ∀ a, ok a + S1x512x128.size a ≤ S8x1024x128.size a) : Tp F := do
  let q ← Prog.lift (.load qM (Rect.unit (s := S1024x1024) oq S256x128.size hq).toLoadRect (View.loadsAt_vmem h_S256x128))
  let k ← Prog.lift (.load ktM (Rect.unit (s := S8x1024x128) ok S1x512x128.size hk).toLoadRect (View.loadsAt_vmem h_S1x512x128))
  let v ← Prog.lift (.load vtM (Rect.unit (s := S8x1024x128) ok S1x512x128.size hk).toLoadRect (View.loadsAt_vmem h_S1x512x128))
  let _ ← Prog.lift (.load cM (Rect.unit (s := S1024x1024) oq S256x128.size hq).toLoadRect (View.loadsAt_vmem h_S256x128))
  Prog.lift (.store cM (Rect.unit (s := S1024x1024) oq S256x128.size hq) (k0_pay5 r0 q k v) Finset.univ (View.stores_vmem h_S256x128 ((Memref.isWhole_whole _).storeExact_slice rfl _ pq) (fun _ => rfl)) (.inl rfl))

/-- The two attention blocks of one head in one half of the rows. -/
def attn2 (b : BitVec 32) (oq : BitVec 32 → Fin 2 → ℕ)
    (hq : ∀ (r : Fin 2) a, oq (BitVec.ofNat 32 (256 * r.val)) a + S256x128.size a ≤ S1024x1024.size a)
    (pq : ∀ r : Fin 2, (Rect.unit (s := S1024x1024) (oq (BitVec.ofNat 32 (256 * r.val))) S256x128.size (hq r)).PackedRows (EltTy.packing .bf16))
    (ok : BitVec 32 → Fin 3 → ℕ)
    (hk : ∀ (r : Fin 2) a, ok (BitVec.ofNat 32 (256 * r.val)) a + S1x512x128.size a ≤ S8x1024x128.size a) : Tp F := do
  attn (Scalar.addi b 0#32) _ (hq 0) (pq 0) _ (hk 0)
  attn (Scalar.addi b 256#32) _ (hq 1) (pq 1) _ (hk 1)

/-- The product of half of the rows of the context with the half of Wo's columns from column `co` on, and its rounded copy. -/
def quad (oc : Fin 2 → ℕ) (hc : ∀ a, oc a + S512x1024.size a ≤ S1024x1024.size a)
    (ow : Fin 2 → ℕ) (hw : ∀ a, ow a + S1024x512.size a ≤ S1024x1024.size a)
    (oa : Fin 2 → ℕ) (ha : ∀ a, oa a + S512x512.size a ≤ S1024x1024.size a)
    (pa : (Rect.unit (s := S1024x1024) oa S512x512.size ha).PackedRows (EltTy.packing .bf16)) : Tp F := do
  let x ← Prog.lift (.load cM (Rect.unit (s := S1024x1024) oc S512x1024.size hc).toLoadRect (View.loadsAt_vmem h_S512x1024))
  let w ← Prog.lift (.load woM (Rect.unit (s := S1024x1024) ow S1024x512.size hw).toLoadRect (View.loadsAt_vmem h_S1024x512))
  let _ ← Prog.lift (.load aM (Rect.unit (s := S1024x1024) oa S512x512.size ha).toLoadRect (View.loadsAt_vmem h_S512x512))
  Prog.lift (.store aM (Rect.unit (s := S1024x1024) oa S512x512.size ha) (k0_pay44 x w) Finset.univ (View.stores_vmem_bits_univ h_S512x512 rfl) (.inl rfl))
  let _ ← Prog.lift (.load bM (Rect.unit (s := S1024x1024) oa S512x512.size ha).toLoadRect (View.loadsAt_vmem h_S512x512))
  Prog.lift (.store bM (Rect.unit (s := S1024x1024) oa S512x512.size ha) (k0_pay45 x w) Finset.univ (View.stores_vmem h_S512x512 ((Memref.isWhole_whole _).storeExact_slice rfl _ pa) (fun _ => rfl)) (.inl rfl))

/-- `n` rows of 512 columns, and the same behind a unit axis. -/
abbrev SR (n : ℕ) : Shape := ⟨2, ![n, 512]⟩
abbrev SR1 (n : ℕ) : Shape := ⟨3, ![1, n, 512]⟩

/-- Rows of the rounded partial sums. -/
abbrev srcR {n : ℕ} (o : Fin 2 → ℕ) (h : ∀ a, o a + (SR n).size a ≤ S1024x1024.size a) : Rect S1024x1024 := Rect.unit (s := S1024x1024) o (SR n).size h
/-- The first `n` rows of landing slot `k`. -/
abbrev slotR {n : ℕ} (k : Fin 4) (h : ∀ a, (![k.val, 0, 0] : Fin 3 → ℕ) a + (SR1 n).size a ≤ S4x512x512.size a) : Rect S4x512x512 :=
  Rect.unit (s := S4x512x512) ![k.val, 0, 0] (SR1 n).size h
/-- Rows of the gathered half. -/
abbrev gatR {n : ℕ} (o : Fin 2 → ℕ) (h : ∀ a, o a + (SR n).size a ≤ S1024x512.size a) : Rect S1024x512 := Rect.unit (s := S1024x512) o (SR n).size h

/-- Landing slot `k` cut to `n` rows. -/
abbrev slotM (s : Bool) {n : ℕ} (k : Fin 4) (h : ∀ a, (![k.val, 0, 0] : Fin 3 → ℕ) a + (SR1 n).size a ≤ S4x512x512.size a) (sq : (SR1 n).Squeezes (SR n)) :
    Memref sig .tc .vmem (SR n) .bf16 := ((rM s).slice (slotR k h) (fun _ => rfl)).squeeze (SR n) sq

/-- Send rows of the rounded partial sums into slot `k` of device `e`. -/
def rsSend (s : Bool) (k : Fin 4) {n : ℕ} (e : Dev nD) (o : Fin 2 → ℕ) (h : ∀ a, o a + (SR n).size a ≤ S1024x1024.size a)
    (w : (srcR o h).WholeWords (EltTy.packing .bf16)) (h' : ∀ a, (![k.val, 0, 0] : Fin 3 → ℕ) a + (SR1 n).size a ≤ S4x512x512.size a)
    (sq : (SR1 n).Squeezes (SR n)) (w' : (slotR k h').WholeWords (EltTy.packing .bf16)) : Tp F :=
  Prog.lift (.enqueueDma (bM.slice (srcR o h) (fun _ => rfl)) (.remote (Dev.tc e) (slotM s k h' sq) (.dma (four (rsS s) k))) (.dma (four (rsR s) k))
    ((Memref.isWhole_whole _).wordExact_slice rfl _ w) (((rM_whole s).wordExact_slice rfl _ w').reshape _ _) ⟨⟨rfl, Or.inl rfl⟩, trivial⟩)

/-- Wait for slot `k` to be filled. -/
def rsWait (s : Bool) (k : Fin 4) {n : ℕ} (o : Fin 2 → ℕ) (h : ∀ a, o a + (SR n).size a ≤ S1024x1024.size a)
    (w : (srcR o h).WholeWords (EltTy.packing .bf16)) (h' : ∀ a, (![k.val, 0, 0] : Fin 3 → ℕ) a + (SR1 n).size a ≤ S4x512x512.size a)
    (sq : (SR1 n).Squeezes (SR n)) (w' : (slotR k h').WholeWords (EltTy.packing .bf16)) : Tp F :=
  Prog.lift (.waitDma2 (four (rsR s) k) (bM.slice (srcR o h) (fun _ => rfl)) (slotM s k h' sq)
    ((Memref.isWhole_whole _).wordExact_slice rfl _ w) (((rM_whole s).wordExact_slice rfl _ w').reshape _ _))

/-- Wait for the rows sent from to be free again. -/
def rsDone (s : Bool) (k : Fin 4) {n : ℕ} (o : Fin 2 → ℕ) (h : ∀ a, o a + (SR n).size a ≤ S1024x1024.size a)
    (w : (srcR o h).WholeWords (EltTy.packing .bf16)) (h' : ∀ a, (![k.val, 0, 0] : Fin 3 → ℕ) a + (SR1 n).size a ≤ S4x512x512.size a)
    (sq : (SR1 n).Squeezes (SR n)) (w' : (slotR k h').WholeWords (EltTy.packing .bf16)) : Tp F :=
  Prog.lift (.waitDma2 (four (rsS s) k) (slotM s k h' sq) (bM.slice (srcR o h) (fun _ => rfl))
    (((rM_whole s).wordExact_slice rfl _ w').reshape _ _) ((Memref.isWhole_whole _).wordExact_slice rfl _ w))

/-- Add slot `k` to the rows kept, and round the sum. -/
def rsAdd (s : Bool) (k : Fin 4) {n : ℕ} (hn : 0 < (SR n).numel) (hn1 : 0 < (SR1 n).numel) (o : Fin 2 → ℕ) (h : ∀ a, o a + (SR n).size a ≤ S1024x1024.size a)
    (p : (srcR o h).PackedRows (EltTy.packing .bf16)) (h' : ∀ a, (![k.val, 0, 0] : Fin 3 → ℕ) a + (SR1 n).size a ≤ S4x512x512.size a)
    (sum : Vec F (SR n) .f32 → Vec F (SR1 n) .bf16 → FVec F (SR n) .f32) (rnd : Vec F (SR n) .f32 → Vec F (SR1 n) .bf16 → FVec F (SR n) .bf16) : Tp F := do
  let a ← Prog.lift (.load aM (srcR o h).toLoadRect (View.loadsAt_vmem hn))
  let b ← Prog.lift (.load (rM s) (slotR k h').toLoadRect (View.loadsAt_vmem hn1))
  let _ ← Prog.lift (.load aM (srcR o h).toLoadRect (View.loadsAt_vmem hn))
  Prog.lift (.store aM (srcR o h) (sum a b) Finset.univ (View.stores_vmem_bits_univ hn rfl) (.inl rfl))
  let _ ← Prog.lift (.load bM (srcR o h).toLoadRect (View.loadsAt_vmem hn))
  Prog.lift (.store bM (srcR o h) (rnd a b) Finset.univ (View.stores_vmem hn ((Memref.isWhole_whole _).storeExact_slice rfl _ p) (fun _ => rfl)) (.inl rfl))

/-- Put the rows reduced here into the gathered half. -/
def place (s : Bool) (o : Fin 2 → ℕ) (h : ∀ a, o a + (SR 64).size a ≤ S1024x1024.size a) (og : Fin 2 → ℕ) (hg : ∀ a, og a + (SR 64).size a ≤ S1024x512.size a)
    (p : (gatR og hg).PackedRows (EltTy.packing .bf16)) : Tp F := do
  let b ← Prog.lift (.load bM (srcR o h).toLoadRect (View.loadsAt_vmem h_S64x512))
  let _ ← Prog.lift (.load (gM s) (gatR og hg).toLoadRect (View.loadsAt_vmem h_S64x512))
  Prog.lift (.store (gM s) (gatR og hg) (k0_pay118 b) Finset.univ (View.stores_vmem h_S64x512 ((gM_whole s).storeExact_slice rfl _ p) (fun _ => rfl)) (.inl rfl))

/-- Send the rows gathered so far to device `e`, into the same rows. -/
def dbSend (s : Bool) (k : Fin 4) {n : ℕ} (e : Dev nD) (o : Fin 2 → ℕ) (h : ∀ a, o a + (SR n).size a ≤ S1024x512.size a)
    (w : (gatR o h).WholeWords (EltTy.packing .bf16)) : Tp F :=
  Prog.lift (.enqueueDma ((gM s).slice (gatR o h) (fun _ => rfl)) (.remote (Dev.tc e) ((gM s).slice (gatR o h) (fun _ => rfl)) (.dma (four (dbS s) k))) (.dma (four (dbR s) k))
    ((gM_whole s).wordExact_slice rfl _ w) ((gM_whole s).wordExact_slice rfl _ w) ⟨⟨rfl, Or.inl rfl⟩, trivial⟩)

/-- Wait on a semaphore of the gathering, the amount that of the given rows. -/
def dbWait (s : Bool) (A : DmaSems sig S4) (k : Fin 4) {n : ℕ} (o : Fin 2 → ℕ) (h : ∀ a, o a + (SR n).size a ≤ S1024x512.size a)
    (w : (gatR o h).WholeWords (EltTy.packing .bf16)) : Tp F :=
  Prog.lift (.waitDma2 (four A k) ((gM s).slice (gatR o h) (fun _ => rfl)) ((gM s).slice (gatR o h) (fun _ => rfl))
    ((gM_whole s).wordExact_slice rfl _ w) ((gM_whole s).wordExact_slice rfl _ w))

/-- Write one half of the columns of the result. -/
def emit (s : Bool) (o : Fin 2 → ℕ) (h : ∀ a, o a + S1024x512.size a ≤ S1024x1024.size a)
    (p : (Rect.unit (s := S1024x1024) o S1024x512.size h).PackedRows (EltTy.packing .bf16)) : Tp F := do
  let g ← Prog.lift (.load (gM s) (Rect.unit (s := S1024x512) ![0, 0] S1024x512.size inb_S1024x512_S1024x512_0_0).toLoadRect (View.loadsAt_vmem h_S1024x512))
  let _ ← Prog.lift (.load oM (Rect.unit (s := S1024x1024) o S1024x512.size h).toLoadRect (View.loadsAt_vmem h_S1024x512))
  Prog.lift (.store oM (Rect.unit (s := S1024x1024) o S1024x512.size h) g Finset.univ (View.stores_vmem h_S1024x512 ((Memref.isWhole_whole _).storeExact_slice rfl _ p) (fun _ => rfl)) (.inl rfl))

/-! ## The phases -/

def copies (d : Dev nD) : Tp F := do
  copyIn d 0; copyIn d 1; copyIn d 2; copyIn d 3; copyIn d 4; copyIn d 5; copyIn d 6; copyIn d 7

/-- The barrier semaphore. -/
abbrev barS : Sems sig S_ := SemArray.scalar (sig.barrier 0 rfl)

def barrier (d : Dev nD) : Tp F := do
  semSignalWord (⟨k0_dev1 d, k0_dev1_lt d⟩ : Dev nD) barS.sem 1#32
  semSignalWord (⟨k0_dev2 d, k0_dev2_lt d⟩ : Dev nD) barS.sem 1#32
  semSignalWord (⟨k0_dev3 d, k0_dev3_lt d⟩ : Dev nD) barS.sem 1#32
  semSignalWord (⟨k0_dev4 d, k0_dev4_lt d⟩ : Dev nD) barS.sem 1#32
  semWaitWord barS.sem 4#32

/-- The device's number as a word, and the row at which each half of the rows starts. -/
abbrev me (d : Dev nD) : BitVec 32 := Scalar.remsi (Scalar.divsi (Dev.word d) 1#32) 16#32
abbrev base1 (d : Dev nD) : BitVec 32 := Scalar.select (Scalar.cmpi .ne (Scalar.andi (me d) 1#32) 0#32) 0#32 (Scalar.addi 0#32 512#32)
abbrev base2 (d : Dev nD) : BitVec 32 := Scalar.select (Scalar.cmpi .ne (Scalar.andi (me d) 1#32) 0#32) (Scalar.addi 0#32 512#32) 0#32

/-- The attention of the half of the rows that is sent away first, every head taken in as it is needed. -/
def half1 (d : Dev nD) : Tp F := do
  queries _ (k0_off2_inb d) _ (k0_off3_inb d) (k0_off3_packedbf16 d)
  takeHead d 0
  attn2 (base1 d) (k0_off4 d) (k0_off4_inb d) (k0_off4_packedbf16 d) (k0_off5 d) (k0_off5_inb d)
  takeHead d 1
  attn2 (base1 d) (k0_off6 d) (k0_off6_inb d) (k0_off6_packedbf16 d) (k0_off7 d) (k0_off7_inb d)
  takeHead d 2
  attn2 (base1 d) (k0_off8 d) (k0_off8_inb d) (k0_off8_packedbf16 d) (k0_off9 d) (k0_off9_inb d)
  takeHead d 3
  attn2 (base1 d) (k0_off10 d) (k0_off10_inb d) (k0_off10_packedbf16 d) (k0_off11 d) (k0_off11_inb d)
  takeHead d 4
  attn2 (base1 d) (k0_off12 d) (k0_off12_inb d) (k0_off12_packedbf16 d) (k0_off13 d) (k0_off13_inb d)
  takeHead d 5
  attn2 (base1 d) (k0_off14 d) (k0_off14_inb d) (k0_off14_packedbf16 d) (k0_off15 d) (k0_off15_inb d)
  takeHead d 6
  attn2 (base1 d) (k0_off16 d) (k0_off16_inb d) (k0_off16_packedbf16 d) (k0_off17 d) (k0_off17_inb d)
  takeHead d 7
  attn2 (base1 d) (k0_off18 d) (k0_off18_inb d) (k0_off18_packedbf16 d) (k0_off19 d) (k0_off19_inb d)

/-- The product of that half with the left half of Wo's columns, sent away at once. -/
def first (d : Dev nD) : Tp F := do
  quad _ (k0_off3_inb d) _ inb_S1024x1024_S1024x512_0_0 _ (k0_off20_inb d) (k0_off20_packedbf16 d)
  rsSend false 0 ⟨k0_dev5 d, k0_dev5_lt d⟩ _ (k0_off21_inb d) (k0_off21_wordsbf16 d) inb_S4x512x512_S1x512x512_0_0_0 squeezes_S1x512x512_S512x512 wordsbf16_S4x512x512_S1x512x512_0_0_0

/-- The attention of the other half of the rows. -/
def half2 (d : Dev nD) : Tp F := do
  queries _ (k0_off22_inb d) _ (k0_off23_inb d) (k0_off23_packedbf16 d)
  attn2 (base2 d) (k0_off24 d) (k0_off24_inb d) (k0_off24_packedbf16 d) (k0_off25 d) (k0_off25_inb d)
  attn2 (base2 d) (k0_off26 d) (k0_off26_inb d) (k0_off26_packedbf16 d) (k0_off27 d) (k0_off27_inb d)
  attn2 (base2 d) (k0_off28 d) (k0_off28_inb d) (k0_off28_packedbf16 d) (k0_off29 d) (k0_off29_inb d)
  attn2 (base2 d) (k0_off30 d) (k0_off30_inb d) (k0_off30_packedbf16 d) (k0_off31 d) (k0_off31_inb d)
  attn2 (base2 d) (k0_off32 d) (k0_off32_inb d) (k0_off32_packedbf16 d) (k0_off33 d) (k0_off33_inb d)
  attn2 (base2 d) (k0_off34 d) (k0_off34_inb d) (k0_off34_packedbf16 d) (k0_off35 d) (k0_off35_inb d)
  attn2 (base2 d) (k0_off36 d) (k0_off36_inb d) (k0_off36_packedbf16 d) (k0_off37 d) (k0_off37_inb d)
  attn2 (base2 d) (k0_off38 d) (k0_off38_inb d) (k0_off38_packedbf16 d) (k0_off39 d) (k0_off39_inb d)

/-- The other three products of a half of the rows with a half of Wo's columns. -/
def rest (d : Dev nD) : Tp F := do
  quad _ (k0_off40_inb d) _ inb_S1024x1024_S1024x512_0_512 _ (k0_off41_inb d) (k0_off41_packedbf16 d)
  rsSend true 0 ⟨k0_dev6 d, k0_dev6_lt d⟩ _ (k0_off42_inb d) (k0_off42_wordsbf16 d) inb_S4x512x512_S1x512x512_0_0_0 squeezes_S1x512x512_S512x512 wordsbf16_S4x512x512_S1x512x512_0_0_0
  quad _ (k0_off23_inb d) _ inb_S1024x1024_S1024x512_0_0 _ (k0_off43_inb d) (k0_off43_packedbf16 d)
  quad _ (k0_off44_inb d) _ inb_S1024x1024_S1024x512_0_512 _ (k0_off45_inb d) (k0_off45_packedbf16 d)

/-- The two reduce-scatters. -/
def reduce (d : Dev nD) : Tp F := do
  rsWait false 0 _ (k0_off21_inb d) (k0_off21_wordsbf16 d) inb_S4x512x512_S1x512x512_0_0_0 squeezes_S1x512x512_S512x512 wordsbf16_S4x512x512_S1x512x512_0_0_0
  rsAdd false 0 h_S512x512 h_S1x512x512 _ (k0_off46_inb d) (k0_off46_packedbf16 d) inb_S4x512x512_S1x512x512_0_0_0 k0_pay95 k0_pay96
  rsSend false 1 ⟨k0_dev7 d, k0_dev7_lt d⟩ _ (k0_off47_inb d) (k0_off47_wordsbf16 d) inb_S4x512x512_S1x256x512_1_0_0 squeezes_S1x256x512_S256x512 wordsbf16_S4x512x512_S1x256x512_1_0_0
  rsWait true 0 _ (k0_off42_inb d) (k0_off42_wordsbf16 d) inb_S4x512x512_S1x512x512_0_0_0 squeezes_S1x512x512_S512x512 wordsbf16_S4x512x512_S1x512x512_0_0_0
  rsAdd true 0 h_S512x512 h_S1x512x512 _ (k0_off45_inb d) (k0_off45_packedbf16 d) inb_S4x512x512_S1x512x512_0_0_0 k0_pay98 k0_pay99
  rsSend true 1 ⟨k0_dev8 d, k0_dev8_lt d⟩ _ (k0_off48_inb d) (k0_off48_wordsbf16 d) inb_S4x512x512_S1x256x512_1_0_0 squeezes_S1x256x512_S256x512 wordsbf16_S4x512x512_S1x256x512_1_0_0
  rsWait false 1 _ (k0_off47_inb d) (k0_off47_wordsbf16 d) inb_S4x512x512_S1x256x512_1_0_0 squeezes_S1x256x512_S256x512 wordsbf16_S4x512x512_S1x256x512_1_0_0
  rsAdd false 1 h_S256x512 h_S1x256x512 _ (k0_off49_inb d) (k0_off49_packedbf16 d) inb_S4x512x512_S1x256x512_1_0_0 k0_pay101 k0_pay102
  rsSend false 2 ⟨k0_dev9 d, k0_dev9_lt d⟩ _ (k0_off50_inb d) (k0_off50_wordsbf16 d) inb_S4x512x512_S1x128x512_2_0_0 squeezes_S1x128x512_S128x512 wordsbf16_S4x512x512_S1x128x512_2_0_0
  rsWait true 1 _ (k0_off48_inb d) (k0_off48_wordsbf16 d) inb_S4x512x512_S1x256x512_1_0_0 squeezes_S1x256x512_S256x512 wordsbf16_S4x512x512_S1x256x512_1_0_0
  rsAdd true 1 h_S256x512 h_S1x256x512 _ (k0_off51_inb d) (k0_off51_packedbf16 d) inb_S4x512x512_S1x256x512_1_0_0 k0_pay104 k0_pay105
  rsSend true 2 ⟨k0_dev10 d, k0_dev10_lt d⟩ _ (k0_off52_inb d) (k0_off52_wordsbf16 d) inb_S4x512x512_S1x128x512_2_0_0 squeezes_S1x128x512_S128x512 wordsbf16_S4x512x512_S1x128x512_2_0_0
  rsWait false 2 _ (k0_off50_inb d) (k0_off50_wordsbf16 d) inb_S4x512x512_S1x128x512_2_0_0 squeezes_S1x128x512_S128x512 wordsbf16_S4x512x512_S1x128x512_2_0_0
  rsAdd false 2 h_S128x512 h_S1x128x512 _ (k0_off53_inb d) (k0_off53_packedbf16 d) inb_S4x512x512_S1x128x512_2_0_0 k0_pay107 k0_pay108
  rsSend false 3 ⟨k0_dev11 d, k0_dev11_lt d⟩ _ (k0_off54_inb d) (k0_off54_wordsbf16 d) inb_S4x512x512_S1x64x512_3_0_0 squeezes_S1x64x512_S64x512 wordsbf16_S4x512x512_S1x64x512_3_0_0
  rsWait true 2 _ (k0_off52_inb d) (k0_off52_wordsbf16 d) inb_S4x512x512_S1x128x512_2_0_0 squeezes_S1x128x512_S128x512 wordsbf16_S4x512x512_S1x128x512_2_0_0
  rsAdd true 2 h_S128x512 h_S1x128x512 _ (k0_off55_inb d) (k0_off55_packedbf16 d) inb_S4x512x512_S1x128x512_2_0_0 k0_pay110 k0_pay111
  rsSend true 3 ⟨k0_dev12 d, k0_dev12_lt d⟩ _ (k0_off56_inb d) (k0_off56_wordsbf16 d) inb_S4x512x512_S1x64x512_3_0_0 squeezes_S1x64x512_S64x512 wordsbf16_S4x512x512_S1x64x512_3_0_0
  rsWait false 3 _ (k0_off54_inb d) (k0_off54_wordsbf16 d) inb_S4x512x512_S1x64x512_3_0_0 squeezes_S1x64x512_S64x512 wordsbf16_S4x512x512_S1x64x512_3_0_0
  rsAdd false 3 h_S64x512 h_S1x64x512 _ (k0_off57_inb d) (k0_off57_packedbf16 d) inb_S4x512x512_S1x64x512_3_0_0 k0_pay113 k0_pay114
  rsWait true 3 _ (k0_off56_inb d) (k0_off56_wordsbf16 d) inb_S4x512x512_S1x64x512_3_0_0 squeezes_S1x64x512_S64x512 wordsbf16_S4x512x512_S1x64x512_3_0_0
  rsAdd true 3 h_S64x512 h_S1x64x512 _ (k0_off58_inb d) (k0_off58_packedbf16 d) inb_S4x512x512_S1x64x512_3_0_0 k0_pay116 k0_pay117

/-- The sends of the reduce-scatters are over. -/
def reduced (d : Dev nD) : Tp F := do
  rsDone false 0 _ (k0_off21_inb d) (k0_off21_wordsbf16 d) inb_S4x512x512_S1x512x512_0_0_0 squeezes_S1x512x512_S512x512 wordsbf16_S4x512x512_S1x512x512_0_0_0
  rsDone true 0 _ (k0_off42_inb d) (k0_off42_wordsbf16 d) inb_S4x512x512_S1x512x512_0_0_0 squeezes_S1x512x512_S512x512 wordsbf16_S4x512x512_S1x512x512_0_0_0
  rsDone false 1 _ (k0_off47_inb d) (k0_off47_wordsbf16 d) inb_S4x512x512_S1x256x512_1_0_0 squeezes_S1x256x512_S256x512 wordsbf16_S4x512x512_S1x256x512_1_0_0
  rsDone true 1 _ (k0_off48_inb d) (k0_off48_wordsbf16 d) inb_S4x512x512_S1x256x512_1_0_0 squeezes_S1x256x512_S256x512 wordsbf16_S4x512x512_S1x256x512_1_0_0
  rsDone false 2 _ (k0_off50_inb d) (k0_off50_wordsbf16 d) inb_S4x512x512_S1x128x512_2_0_0 squeezes_S1x128x512_S128x512 wordsbf16_S4x512x512_S1x128x512_2_0_0
  rsDone true 2 _ (k0_off52_inb d) (k0_off52_wordsbf16 d) inb_S4x512x512_S1x128x512_2_0_0 squeezes_S1x128x512_S128x512 wordsbf16_S4x512x512_S1x128x512_2_0_0
  rsDone false 3 _ (k0_off54_inb d) (k0_off54_wordsbf16 d) inb_S4x512x512_S1x64x512_3_0_0 squeezes_S1x64x512_S64x512 wordsbf16_S4x512x512_S1x64x512_3_0_0
  rsDone true 3 _ (k0_off56_inb d) (k0_off56_wordsbf16 d) inb_S4x512x512_S1x64x512_3_0_0 squeezes_S1x64x512_S64x512 wordsbf16_S4x512x512_S1x64x512_3_0_0

/-- The two all-gathers. -/
def gather (d : Dev nD) : Tp F := do
  place false _ (k0_off57_inb d) _ (k0_off59_inb d 0) (k0_off59_packedbf16 d 0)
  place true _ (k0_off58_inb d) _ (k0_off59_inb d 1) (k0_off59_packedbf16 d 1)
  dbSend false 0 ⟨k0_dev13 d, k0_dev13_lt d⟩ _ (k0_off60_inb d 0) (k0_off60_wordsbf16 d 0)
  dbSend true 0 ⟨k0_dev14 d, k0_dev14_lt d⟩ _ (k0_off60_inb d 1) (k0_off60_wordsbf16 d 1)
  dbWait false (dbR false) 0 _ (k0_off61_inb d 0) (k0_off61_wordsbf16 d 0)
  dbSend false 1 ⟨k0_dev15 d, k0_dev15_lt d⟩ _ (k0_off62_inb d 0) (k0_off62_wordsbf16 d 0)
  dbWait true (dbR true) 0 _ (k0_off61_inb d 1) (k0_off61_wordsbf16 d 1)
  dbSend true 1 ⟨k0_dev16 d, k0_dev16_lt d⟩ _ (k0_off62_inb d 1) (k0_off62_wordsbf16 d 1)
  dbWait false (dbR false) 1 _ (k0_off63_inb d 0) (k0_off63_wordsbf16 d 0)
  dbSend false 2 ⟨k0_dev17 d, k0_dev17_lt d⟩ _ (k0_off64_inb d 0) (k0_off64_wordsbf16 d 0)
  dbWait true (dbR true) 1 _ (k0_off63_inb d 1) (k0_off63_wordsbf16 d 1)
  dbSend true 2 ⟨k0_dev18 d, k0_dev18_lt d⟩ _ (k0_off64_inb d 1) (k0_off64_wordsbf16 d 1)
  dbWait false (dbR false) 2 _ (k0_off65_inb d 0) (k0_off65_wordsbf16 d 0)
  dbSend false 3 ⟨k0_dev19 d, k0_dev19_lt d⟩ _ (k0_off66_inb d 0) (k0_off66_wordsbf16 d 0)
  dbWait true (dbR true) 2 _ (k0_off65_inb d 1) (k0_off65_wordsbf16 d 1)
  dbSend true 3 ⟨k0_dev20 d, k0_dev20_lt d⟩ _ (k0_off66_inb d 1) (k0_off66_wordsbf16 d 1)
  dbWait false (dbR false) 3 _ (k0_off67_inb d 0) (k0_off67_wordsbf16 d 0)
  dbWait true (dbR true) 3 _ (k0_off67_inb d 1) (k0_off67_wordsbf16 d 1)

/-- The sends of the all-gathers are over. -/
def gathered (d : Dev nD) : Tp F := do
  dbWait false (dbS false) 0 _ (k0_off60_inb d 0) (k0_off60_wordsbf16 d 0)
  dbWait true (dbS true) 0 _ (k0_off60_inb d 1) (k0_off60_wordsbf16 d 1)
  dbWait false (dbS false) 1 _ (k0_off62_inb d 0) (k0_off62_wordsbf16 d 0)
  dbWait true (dbS true) 1 _ (k0_off62_inb d 1) (k0_off62_wordsbf16 d 1)
  dbWait false (dbS false) 2 _ (k0_off64_inb d 0) (k0_off64_wordsbf16 d 0)
  dbWait true (dbS true) 2 _ (k0_off64_inb d 1) (k0_off64_wordsbf16 d 1)
  dbWait false (dbS false) 3 _ (k0_off66_inb d 0) (k0_off66_wordsbf16 d 0)
  dbWait true (dbS true) 3 _ (k0_off66_inb d 1) (k0_off66_wordsbf16 d 1)

/-- The write of the result. -/
def write : Tp F := do
  emit false ![0, 0] inb_S1024x1024_S1024x512_0_0 packedbf16_S1024x1024_S1024x512_0_0
  emit true ![0, 512] inb_S1024x1024_S1024x512_0_512 packedbf16_S1024x1024_S1024x512_0_512

/-- The kernel's body. -/
def body : Tp F := do
  let d ← Prog.lift .deviceId
  copies d
  barrier d
  half1 d
  first d
  half2 d
  rest d
  reduce d
  reduced d
  gather d
  gathered d
  write

end Cert.KernelIdeal.Att
end
-- ==== Proof.Part.lean ====
/- Ownership of a part of a buffer, named by a predicate on its indices, with known contents on a second such part;
   the rules for loads, stores and copies in these terms. -/
module

public import proofs.«01_k».proof.Proof.Body
public import Idealize.ShloMosaic.Lib.Pipeline.Launch
public import Idealize.ShloMosaic.Lib.Pipeline.Kit
public import Idealize.ShloMosaic.Lib.Tactic

@[expose] public section

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a TensorCore's program at device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Parts of buffers -/

variable {sp : Space} {sh : Shape} {e : EltTy}

open Classical in
/-- The indices a predicate holds of. -/
def fs {sh : Shape} (O : sh.Idx → Prop) : Finset sh.Idx := Finset.univ.filter O

theorem mem_fs {sh : Shape} {O : sh.Idx → Prop} {x : sh.Idx} : x ∈ fs O ↔ O x := by simp [fs]

/-- Device `c` owns share `q` of the elements `O` of `m`, and those in `K` hold `X`. -/
def part (c : Dev nD) (m : Memref sig .tc sp sh e) (q : PosShare TreeShare) (O K : sh.Idx → Prop) (X : sh.Idx → Elt F e) : sProp 𝕄 :=
  iprop(∃ f, ⌜∀ x, K x → m.view.read (Elt F) f x = X x⌝ ∗ (m.view.loc (c : Thread nD τ) ↦[m.view.setOn (fs O)]{q} f))

/-- The same at the full share, nothing known of the contents. -/
def some (c : Dev nD) (m : Memref sig .tc sp sh e) (O : sh.Idx → Prop) : sProp 𝕄 :=
  iprop(∃ f : Buf (Elt F) (m.view.loc (c : Thread nD τ)), (m.view.loc (c : Thread nD τ) ↦[m.view.setOn (fs O)]{fullShare} f))

instance part_storable (c : Dev nD) (m : Memref sig .tc sp sh e) (q : PosShare TreeShare) (O K : sh.Idx → Prop) (X : sh.Idx → Elt F e) :
    BI.Storable (upEmb : UEmb _ 𝕄) (part c m q O K X) := by unfold part; infer_instance
instance some_storable (c : Dev nD) (m : Memref sig .tc sp sh e) (O : sh.Idx → Prop) :
    BI.Storable (upEmb : UEmb _ 𝕄) (some (F := F) c m O) := by unfold some; infer_instance

variable (c : Dev nD) (m : Memref sig .tc sp sh e) (q : PosShare TreeShare)

theorem some_intro (O K : sh.Idx → Prop) (X : sh.Idx → Elt F e) : part c m fullShare O K X ⊢ some (F := F) c m O := by
  unfold part some; iintro ⟨%f, -, H⟩; iexists f; iexact H

theorem some_elim (O K : sh.Idx → Prop) (X : sh.Idx → Elt F e) (hK : ∀ x, ¬ K x) : some (F := F) c m O ⊢ part c m fullShare O K X := by
  unfold part some; iintro ⟨%f, H⟩; iexists f; isplitr
  · ipureintro; exact fun x h => absurd h (hK x)
  · iexact H

theorem part_mono {O K K' : sh.Idx → Prop} {X X' : sh.Idx → Elt F e} (h : ∀ x, K' x → K x ∧ X x = X' x) :
    part c m q O K X ⊢ part c m q O K' X' := by
  unfold part; iintro ⟨%f, %hf, H⟩; iexists f; isplitr
  · ipureintro; exact fun x hx => (hf x (h x hx).1).trans (h x hx).2
  · iexact H

theorem part_congr {O O' : sh.Idx → Prop} (h : ∀ x, O x ↔ O' x) {K : sh.Idx → Prop} {X : sh.Idx → Elt F e} :
    part c m q O K X ⊢ part c m q O' K X := by
  rw [show O = O' from funext fun x => propext (h x)]

theorem part_split {O O₁ O₂ K : sh.Idx → Prop} {X : sh.Idx → Elt F e} (h : ∀ x, O x ↔ O₁ x ∨ O₂ x) (hd : ∀ x, O₁ x → ¬ O₂ x) :
    part c m q O K X ⊢ iprop(part c m q O₁ K X ∗ part c m q O₂ K X) := by
  unfold part; iintro ⟨%f, %hf, H⟩
  have hu : m.view.setOn (fs O) = m.view.setOn (fs O₁) ∪ m.view.setOn (fs O₂) := by
    unfold View.setOn; rw [← Finset.map_union]; congr 1; ext x; simp only [mem_fs, Finset.mem_union, h]
  have hdis : Disjoint (m.view.setOn (fs O₁)) (m.view.setOn (fs O₂)) := by
    unfold View.setOn; rw [Finset.disjoint_map, Finset.disjoint_left]
    intro x; simp only [mem_fs]; exact hd x
  rw [hu]
  ihave H' := (pointsTo_union hdis).1 $$ H
  icases H' with ⟨H1, H2⟩
  isplitl [H1]
  · iexists f; isplitr
    · ipureintro; exact hf
    · iexact H1
  · iexists f; isplitr
    · ipureintro; exact hf
    · iexact H2

open Classical in
theorem part_join {O O₁ O₂ K₁ K₂ K : sh.Idx → Prop} {X : sh.Idx → Elt F e} (h : ∀ x, O x ↔ O₁ x ∨ O₂ x) (hd : ∀ x, O₁ x → ¬ O₂ x)
    (hK : ∀ x, K x → (O₁ x ∧ K₁ x) ∨ (O₂ x ∧ K₂ x)) :
    iprop(part c m q O₁ K₁ X ∗ part c m q O₂ K₂ X) ⊢ part c m q O K X := by
  unfold part; iintro ⟨⟨%f, %hf, H⟩, ⟨%g, %hg, G⟩⟩
  have hu : m.view.setOn (fs O) = m.view.setOn (fs O₁) ∪ m.view.setOn (fs O₂) := by
    unfold View.setOn; rw [← Finset.map_union]; congr 1; ext x; simp only [mem_fs, Finset.mem_union, h]
  have hdis : Disjoint (m.view.setOn (fs O₁)) (m.view.setOn (fs O₂)) := by
    unfold View.setOn; rw [Finset.disjoint_map, Finset.disjoint_left]
    intro x; simp only [mem_fs]; exact hd x
  iexists (fun i => if i ∈ m.view.setOn (fs O₁) then f i else g i)
  isplitr
  · ipureintro
    intro x hx
    rcases hK x hx with ⟨ho, hk⟩ | ⟨ho, hk⟩
    · rw [View.read_congr_at (g := f) x (by rw [if_pos (m.view.mem_setOn.mpr (mem_fs.mpr ho))])]
      exact hf x hk
    · rw [View.read_congr_at (g := g) x (by rw [if_neg (fun h' => hd x (mem_fs.mp (m.view.mem_setOn.mp h')) ho)])]
      exact hg x hk
  · rw [hu]
    iapply (pointsTo_union hdis).2
    isplitl [H]
    · rw [show (m.view.loc (c : Thread nD τ) ↦[m.view.setOn (fs O₁)]{q} (fun i => if i ∈ m.view.setOn (fs O₁) then f i else g i) : sProp 𝕄) = m.view.loc (c : Thread nD τ) ↦[m.view.setOn (fs O₁)]{q} f from
        pointsTo_congr fun i hi => if_pos hi]
      iexact H
    · rw [show (m.view.loc (c : Thread nD τ) ↦[m.view.setOn (fs O₂)]{q} (fun i => if i ∈ m.view.setOn (fs O₁) then f i else g i) : sProp 𝕄) = m.view.loc (c : Thread nD τ) ↦[m.view.setOn (fs O₂)]{q} g from
        pointsTo_congr fun i hi => if_neg fun h' => Finset.disjoint_left.mp hdis h' hi]
      iexact G

/-- The whole of a buffer. -/
theorem part_whole (b : Ref sig .tc) (X : b.ty.Contents (Elt F)) :
    (part c (Memref.whole b) q (fun _ => True) (fun _ => True) X : sProp 𝕄) = (((c : Thread nD τ).loc b) ↦{q} X) := by
  have hs : (Memref.whole b).view.setOn (fs fun _ => True) = Finset.univ := by
    rw [show (fs fun _ => True : Finset b.ty.shape.Idx) = Finset.univ from Finset.ext fun x => by simp [mem_fs]]
    exact View.setOn_whole_univ b
  unfold part
  have h₁ : iprop(∃ f, ⌜∀ x : b.ty.shape.Idx, True → (Memref.whole b).view.read (Elt F) f x = X x⌝
      ∗ ((Memref.whole b).view.loc (c : Thread nD τ) ↦[(Memref.whole b).view.setOn (fs fun _ => True)]{q} f)) ⊢ (((c : Thread nD τ).loc b) ↦{q} X : sProp 𝕄) := by
    iintro ⟨%f, %hf, H⟩
    have : f = X := funext fun x => hf x trivial
    subst this; rw [hs]; iexact H
  have h₂ : (((c : Thread nD τ).loc b) ↦{q} X : sProp 𝕄) ⊢ iprop(∃ f, ⌜∀ x : b.ty.shape.Idx, True → (Memref.whole b).view.read (Elt F) f x = X x⌝
      ∗ ((Memref.whole b).view.loc (c : Thread nD τ) ↦[(Memref.whole b).view.setOn (fs fun _ => True)]{q} f)) := by
    iintro H; iexists X; isplitr
    · ipureintro; exact fun _ _ => rfl
    · rw [hs]; iexact H
  exact BI.equiv_iff.mp ⟨h₁, h₂⟩

theorem some_whole (b : Ref sig .tc) :
    (some (F := F) c (Memref.whole b) (fun _ => True) : sProp 𝕄) = iprop(∃ f : Buf (Elt F) ((c : Thread nD τ).loc b), ((c : Thread nD τ).loc b) ↦{fullShare} f) := by
  have hs : (Memref.whole b).view.setOn (fs fun _ => True) = Finset.univ := by
    rw [show (fs fun _ => True : Finset b.ty.shape.Idx) = Finset.univ from Finset.ext fun x => by simp [mem_fs]]
    exact View.setOn_whole_univ b
  unfold some; rw [hs]

/-! ## Loads and stores -/

theorem part_load {cs : CoreSpace} {m : Memref sig .tc cs sh e} (O K : sh.Idx → Prop) (X : sh.Idx → Elt F e)
    {α : Type} {Q : α → sProp 𝕄} {r : Rect sh} {hl : m.view.LoadsAt r.toLoadRect}
    {k : (r.shape.Idx → Elt F e) → Prog (TpuEff nD τ sig (Elt F) Λ₀ .tc) α}
    (hO : ∀ j, O (r.emb j)) (hK : ∀ j, K (r.emb j)) :
    part c m q O K X ⊢ iprop((part c m q O K X -∗ run c (k fun j => X (r.emb j)) Q) -∗ run c (.op (.load m r.toLoadRect hl) k) Q) := by
  unfold part run
  iintro ⟨%f, %hf, H⟩ Hk
  have hr : m.view.readAt (Elt F) r.toLoadRect f = fun j => X (r.emb j) := funext fun j => hf _ (hK j)
  iapply (wp_load 𝒱₀ (c : Thread nD τ) none Set.univ (m := m) (by
    unfold View.setOn
    refine Finset.map_subset_map.mpr fun x hx => ?_
    have hx' : x ∈ r.set := hx
    rw [← Rect.map_emb_univ, Finset.mem_map] at hx'
    obtain ⟨j, -, rfl⟩ := hx'
    exact mem_fs.mpr (hO j))) $$ H
  iintro H
  rw [hr]
  iapply Hk
  iexists f; isplitr
  · ipureintro; exact hf
  · iexact H

/-- A load whose result is of no use. -/
theorem part_load_any {cs : CoreSpace} {m : Memref sig .tc cs sh e} (O K : sh.Idx → Prop) (X : sh.Idx → Elt F e)
    {α : Type} {Q : α → sProp 𝕄} {r : Rect sh} {hl : m.view.LoadsAt r.toLoadRect}
    {p : Prog (TpuEff nD τ sig (Elt F) Λ₀ .tc) α} (hO : ∀ j, O (r.emb j)) :
    part c m q O K X ⊢ iprop((part c m q O K X -∗ run c p Q) -∗ run c (.op (.load m r.toLoadRect hl) fun _ => p) Q) := by
  unfold part run
  iintro ⟨%f, %hf, H⟩ Hk
  iapply (wp_load 𝒱₀ (c : Thread nD τ) none Set.univ (m := m) (by
    unfold View.setOn
    refine Finset.map_subset_map.mpr fun x hx => ?_
    have hx' : x ∈ r.set := hx
    rw [← Rect.map_emb_univ, Finset.mem_map] at hx'
    obtain ⟨j, -, rfl⟩ := hx'
    exact mem_fs.mpr (hO j))) $$ H
  iintro H
  iapply Hk
  iexists f; isplitr
  · ipureintro; exact hf
  · iexact H

/-- A store of known contents: what was known outside of the rectangle stays, if it agrees with the new account. -/
theorem part_store {cs : CoreSpace} {m : Memref sig .tc cs sh e} (O K K' : sh.Idx → Prop) (X X' : sh.Idx → Elt F e)
    {α : Type} {Q : α → sProp 𝕄} {r : Rect sh} {w : r.shape.Idx → Elt F e} {hx : (m.access r).Stores Finset.univ}
    {hm : Finset.univ = Finset.univ ∨ ∀ a, r.stride a = 1}
    {k : PUnit → Prog (TpuEff nD τ sig (Elt F) Λ₀ .tc) α}
    (hO : ∀ j, O (r.emb j)) (hw : ∀ j, w j = X' (r.emb j)) (hK : ∀ x, K' x → (∃ j, x = r.emb j) ∨ (K x ∧ X x = X' x)) :
    part c m fullShare O K X ⊢ iprop((part c m fullShare O K' X' -∗ run c (k ⟨⟩) Q) -∗ run c (.op (.store m r w Finset.univ hx hm) k) Q) := by
  unfold part run
  iintro ⟨%f, %hf, H⟩ Hk
  iapply (wp_store 𝒱₀ (c : Thread nD τ) none Set.univ (m := m) (r := r) (Mk := Finset.univ) (by
    rw [View.setOn_univ, show (m.access r).set = (m.view.slice r).set from rfl, View.set_slice]
    unfold View.setOn
    refine Finset.map_subset_map.mpr fun x hx => ?_
    rw [← Rect.map_emb_univ, Finset.mem_map] at hx
    obtain ⟨j, -, rfl⟩ := hx
    exact mem_fs.mpr (hO j))) $$ H
  iintro H
  iapply Hk
  iexists _; isplitr
  rotate_left
  · iexact H
  · ipureintro
    intro x hx'
    by_cases hr : ∃ j, x = r.emb j
    · obtain ⟨j, rfl⟩ := hr
      rw [← hw j]
      exact congrFun (View.read_write_univ (v := m.access r) f w) j
    · have hx2 := (hK x hx').resolve_left hr
      rw [← hx2.2, ← hf x hx2.1]
      refine View.read_congr_at x ?_
      refine View.write_of_not_mem _ _ _ fun hmem => hr ?_
      rw [View.setOn_univ, show (m.access r).set = (m.view.slice r).set from rfl, View.set_slice, Finset.mem_map] at hmem
      obtain ⟨y, hy, hyx⟩ := hmem
      have := m.view.emb.injective hyx
      subst this
      rw [← Rect.map_emb_univ, Finset.mem_map] at hy
      obtain ⟨j, -, rfl⟩ := hy
      exact ⟨j, rfl⟩

/-! ## A rectangle as a memref of its own -/

theorem part_owns (O K : sh.Idx → Prop) (X : sh.Idx → Elt F e) (r : Rect sh) (hr : ∀ a, r.stride a = 1)
    (hO : ∀ x, O x ↔ ∃ j, x = r.emb j) (hK : ∀ j, K (r.emb j)) :
    part c m q O K X ⊢ owns (c : Thread nD τ) (m.slice r hr) q fun j => X (r.emb j) := by
  have hs : m.view.setOn (fs O) = (m.view.slice r).set := by
    rw [View.set_slice]; unfold View.setOn; congr 1; ext x
    rw [mem_fs, hO, ← Rect.map_emb_univ, Finset.mem_map]
    exact ⟨fun ⟨j, h⟩ => ⟨j, Finset.mem_univ _, h.symm⟩, fun ⟨j, _, h⟩ => ⟨j, h.symm⟩⟩
  unfold part owns
  iintro ⟨%f, %hf, H⟩
  iexists f; isplitr
  · ipureintro; exact funext fun j => hf _ (hK j)
  · rw [hs]; iexact H

theorem owns_part (O K : sh.Idx → Prop) (X : sh.Idx → Elt F e) (r : Rect sh) (hr : ∀ a, r.stride a = 1) (Y : r.shape.Idx → Elt F e)
    (hO : ∀ x, O x ↔ ∃ j, x = r.emb j) (hK : ∀ x, K x → O x) (hY : ∀ j, K (r.emb j) → Y j = X (r.emb j)) :
    owns (c : Thread nD τ) (m.slice r hr) q Y ⊢ part c m q O K X := by
  have hs : m.view.setOn (fs O) = (m.view.slice r).set := by
    rw [View.set_slice]; unfold View.setOn; congr 1; ext x
    rw [mem_fs, hO, ← Rect.map_emb_univ, Finset.mem_map]
    exact ⟨fun ⟨j, h⟩ => ⟨j, Finset.mem_univ _, h.symm⟩, fun ⟨j, _, h⟩ => ⟨j, h.symm⟩⟩
  unfold part owns
  iintro ⟨%f, %hf, H⟩
  iexists f; isplitr
  · ipureintro
    intro x hx
    obtain ⟨j, rfl⟩ := (hO x).mp (hK x hx)
    exact (congrFun hf j).trans (hY j hx)
  · rw [hs]; iexact H

theorem some_owns (O : sh.Idx → Prop) (r : Rect sh) (hr : ∀ a, r.stride a = 1) (hO : ∀ x, O x ↔ ∃ j, x = r.emb j) :
    some (F := F) c m O ⊢ iprop(∃ Y, owns (c : Thread nD τ) (m.slice r hr) fullShare Y) := by
  have hs : m.view.setOn (fs O) = (m.view.slice r).set := by
    rw [View.set_slice]; unfold View.setOn; congr 1; ext x
    rw [mem_fs, hO, ← Rect.map_emb_univ, Finset.mem_map]
    exact ⟨fun ⟨j, h⟩ => ⟨j, Finset.mem_univ _, h.symm⟩, fun ⟨j, _, h⟩ => ⟨j, h.symm⟩⟩
  unfold some owns
  iintro ⟨%f, H⟩
  iexists _, f; isplitr
  · ipureintro; rfl
  · rw [hs]; iexact H

/-- Dropping unit axes re-indexes what is read. -/
theorem owns_squeeze (s' : Shape) (h : sh.Squeezes s') (Y : s'.Idx → Elt F e) (X : sh.Idx → Elt F e)
    (hY : ∀ j, Y j = X (Shape.reshapeEquiv h.numel_eq j)) :
    (owns (c : Thread nD τ) (m.squeeze s' h) q Y : sProp 𝕄) ⊢ owns (c : Thread nD τ) m q X := by
  unfold owns
  iintro ⟨%f, %hf, H⟩
  iexists f; isplitr
  · ipureintro
    funext x
    have := congrFun hf ((Shape.reshapeEquiv h.numel_eq).symm x)
    rw [hY, Equiv.apply_symm_apply] at this
    rw [← this]
    show _ = m.view.read (Elt F) f (Shape.reshapeEquiv h.numel_eq ((Shape.reshapeEquiv h.numel_eq).symm x))
    rw [Equiv.apply_symm_apply]
  · rw [show (m.squeeze s' h).view.set = m.view.set from View.set_reshape m.view h.numel_eq]; iexact H

theorem squeeze_owns (s' : Shape) (h : sh.Squeezes s') (X : sh.Idx → Elt F e) :
    (owns (c : Thread nD τ) m q X : sProp 𝕄) ⊢ owns (c : Thread nD τ) (m.squeeze s' h) q fun j => X (Shape.reshapeEquiv h.numel_eq j) := by
  unfold owns
  iintro ⟨%f, %hf, H⟩
  iexists f; isplitr
  · ipureintro; subst hf; rfl
  · rw [show (m.squeeze s' h).view.set = m.view.set from View.set_reshape m.view h.numel_eq]; iexact H

/-! ## Copies -/

variable (Rd : Rounds.Schedule (GSem nD τ sig) (Fin 4) (MT nD τ sig Unit (Elt F) ℕ UU ℕ))

/-- A transfer from device `c` to device `c'`. -/
theorem send_owns {sp sp' : Space} {s : Shape} {e : EltTy} (c c' e' : Dev nD) (he : e' = c') {src : Memref sig .tc sp s e} {dst : Memref sig .tc sp' s e}
    {hsc : dst.view.ref.isScScratch = false} {sS sem : SemLoc sig} {hsrc : src.view.WordExact} {hdst : dst.view.WordExact}
    {hsem : DmaTarget.Typed sp sem (.remote (Dev.tc e' : Thread nD τ) dst sS hsc)} {α : Type} {Q : α → sProp 𝕄}
    {k : PUnit → Prog (TpuEff nD τ sig (Elt F) Λ₀ .tc) α} {q : PosShare TreeShare} {Y : s.Idx → Elt F e} {d₁ d₂ : Fin 4} {κ₁ κ₂ : ℕ}
    (hd₁ : d₁ ∈ Rd.duties ((c : Thread nD τ), sS) 0) (hd₂ : d₂ ∈ Rd.duties ((c' : Thread nD τ), sem) 0) (N : ℕ) (hN : dst.view.amount sem = N)
    (hk₁ : Rd.amount ((c : Thread nD τ), sS) 0 d₁ = N) (hk₂ : Rd.amount ((c' : Thread nD τ), sem) 0 d₂ = N)
    {O₀ : CellTallies nD τ sig Unit} (O : CellTallies nD τ sig Unit) (hO : O₀ = O + tallyAt ((c' : Thread nD τ), sem) () N) {W : Waits sig Unit}
    (hpay₁ : owns (c : Thread nD τ) src q Y ⊢ Rd.payload ((c : Thread nD τ), sS) 0 d₁)
    (hpay₂ : owns (c' : Thread nD τ) dst fullShare Y ⊢ Rd.payload ((c' : Thread nD τ), sem) 0 d₂) :
    iprop(cellInv ER Rd κ₁ ((c : Thread nD τ), sS) ∗ cellInv ER Rd κ₂ ((c' : Thread nD τ), sem)
        ∗ owns (c : Thread nD τ) src q Y ∗ (∃ Z, owns (c' : Thread nD τ) dst fullShare Z) ∗ owes (c : Thread nD τ) O₀ W
        ∗ dutyTok ER ((c : Thread nD τ), sS) 0 d₁ ∗ reached ER ((c : Thread nD τ), sS) 0
        ∗ dutyTok ER ((c' : Thread nD τ), sem) 0 d₂ ∗ reached ER ((c' : Thread nD τ), sem) 0)
      ⊢ iprop(((cred (tallyAt ((c : Thread nD τ), sS) () N) ∗ owes (c : Thread nD τ) O W) -∗ run c (k ⟨⟩) Q)
          -∗ run c (.op (.enqueueDma src (.remote (Dev.tc e' : Thread nD τ) dst sS hsc) sem hsrc hdst hsem) k) Q) := by
  subst he
  unfold run
  iintro ⟨H1, H2, Hs, ⟨%Z, Hd⟩, H3⟩
  unfold owns
  icases Hs with ⟨%f, %hf, Hs⟩
  icases Hd with ⟨%g, -, Hd⟩
  iapply (Rounds.wp_send_pointsTo 𝒱₀ ER Rd (c : Thread nD τ) none (c' := (e' : Thread nD τ)) (src := src) (dst := dst) (κ₁ := κ₁) (κ₂ := κ₂)
    (fs := f) (fd := g) hd₁ hd₂ () () N hN hk₁ hk₂ O hO
    (by refine BIBase.Entails.trans ?_ hpay₁; rw [← hf]; exact owns_intro (c : Thread nD τ) src q f)
    (by refine BIBase.Entails.trans ?_ hpay₂; rw [← hf]
        refine (owns_intro (e' : Thread nD τ) dst fullShare (dst.view.write (Elt F) g (src.view.read (Elt F) f) Finset.univ)).trans ?_
        rw [View.read_write_univ]))
  isplitl [H1]; · iexact H1
  isplitl [H2]; · iexact H2
  isplitl [Hs]; · iexact Hs
  isplitl [Hd]; · iexact Hd
  iexact H3

/-- A copy within device `c`. -/
theorem copy_owns {sp sp' : Space} {s : Shape} {e : EltTy} (c : Dev nD) {src : Memref sig .tc sp s e} {dst : Memref sig .tc sp' s e}
    {sem : SemLoc sig} {hsrc : src.view.WordExact} {hdst : dst.view.WordExact}
    {hsem : DmaTarget.Typed (nD := nD) sp sem (.here (p := (c : Thread nD τ).2) dst)} {α : Type} {Q : α → sProp 𝕄}
    {k : PUnit → Prog (TpuEff nD τ sig (Elt F) Λ₀ .tc) α} {q : PosShare TreeShare} {Y : s.Idx → Elt F e} {d : Fin 4} {κ : ℕ}
    (hd : d ∈ Rd.duties ((c : Thread nD τ), sem) 0) (N : ℕ) (hN : dst.view.amount sem = N)
    (hk : Rd.amount ((c : Thread nD τ), sem) 0 d = N)
    (hpay : iprop(owns (c : Thread nD τ) dst fullShare Y ∗ owns (c : Thread nD τ) src q Y) ⊢ Rd.payload ((c : Thread nD τ), sem) 0 d) :
    iprop(cellInv ER Rd κ ((c : Thread nD τ), sem)
        ∗ owns (c : Thread nD τ) src q Y ∗ (∃ Z, owns (c : Thread nD τ) dst fullShare Z)
        ∗ dutyTok ER ((c : Thread nD τ), sem) 0 d ∗ reached ER ((c : Thread nD τ), sem) 0)
      ⊢ iprop((cred (tallyAt ((c : Thread nD τ), sem) () N) -∗ run c (k ⟨⟩) Q)
          -∗ run c (.op (.enqueueDma src (.here dst) sem hsrc hdst hsem) k) Q) := by
  unfold run
  iintro ⟨H1, Hs, ⟨%Z, Hd⟩, H3⟩
  unfold owns
  icases Hs with ⟨%f, %hf, Hs⟩
  icases Hd with ⟨%g, -, Hd⟩
  iapply (Rounds.wp_copy_pointsTo 𝒱₀ ER Rd (c : Thread nD τ) none (src := src) (dst := dst) (κ := κ) (fs := f) (fd := g) hd () N hN hk
    (by refine BIBase.Entails.trans (BI.sep_mono ?_ ?_) hpay
        · rw [← hf]
          refine (owns_intro (c : Thread nD τ) dst fullShare (dst.view.write (Elt F) g (src.view.read (Elt F) f) Finset.univ)).trans ?_
          rw [View.read_write_univ]
        · rw [← hf]; exact owns_intro (c : Thread nD τ) src q f))
  isplitl [H1]; · iexact H1
  isplitl [Hs]; · iexact Hs
  isplitl [Hd]; · iexact Hd
  iexact H3

end Cert.KernelIdeal.Att
end
-- ==== Proof.Geom.lean ====
/- The exchange's geometry: which device each step of a reduce-scatter pairs a device with, which rows it keeps and
   which it gives away; and the offsets and devices of the printed body in these terms. -/
module

public import proofs.«01_k».proof.Proof.Body

@[expose] public section

set_option maxRecDepth 100000

noncomputable section

namespace Cert.KernelIdeal.Att

open Cert.KernelIdeal Cert.KernelIdeal.Gen
open Idealize.ShloMosaic Idealize.ShloMosaic.TcCoe

/-- The bit of the device's number that step `k` flips, for the left (`false`) and for the right half of the columns. -/
def mask (s : Bool) (k : ℕ) : ℕ := if s then (if k = 0 then 4 else if k = 1 then 8 else if k = 2 then 2 else 1) else 2 ^ k

theorem mask_lt (s : Bool) (k : Fin 4) (d : Dev nD) : d.val ^^^ mask s k.val < nD := by revert s k d; decide

/-- The device that step `k` exchanges with. -/
def peer (s : Bool) (k : Fin 4) (d : Dev nD) : Dev nD := ⟨d.val ^^^ mask s k.val, mask_lt s k d⟩

theorem peer_peer : ∀ (s : Bool) (k : Fin 4) (d : Dev nD), peer s k (peer s k d) = d := by decide +kernel

/-- The rows that step `k` moves: 512, 256, 128, 64. -/
def half (k : ℕ) : ℕ := 512 / 2 ^ k

/-- Whether device `d` keeps the upper part in step `k`. -/
def up (s : Bool) (k d : ℕ) : Bool := d / mask s k % 2 == 1

/-- The first row that device `d` still reduces after `j` steps. -/
def start (s : Bool) (j d : ℕ) : ℕ :=
  (if 0 < j ∧ up s 0 d then 512 else 0) + (if 1 < j ∧ up s 1 d then 256 else 0) + (if 2 < j ∧ up s 2 d then 128 else 0) + (if 3 < j ∧ up s 3 d then 64 else 0)

/-- The first row that device `d` keeps in step `k`, and the first one that it gives away. -/
def keep (s : Bool) (k : Fin 4) (d : Dev nD) : ℕ := start s (k.val + 1) d.val
def give (s : Bool) (k : Fin 4) (d : Dev nD) : ℕ := start s (k.val + 1) (peer s k d).val

theorem give_peer : ∀ (s : Bool) (k : Fin 4) (d : Dev nD), give s k (peer s k d) = keep s k d := by decide +kernel
theorem keep_peer : ∀ (s : Bool) (k : Fin 4) (d : Dev nD), keep s k (peer s k d) = give s k d := by decide +kernel
theorem keep_last (s : Bool) (k : Fin 4) (d : Dev nD) (h : k.val < 3) : start s (k.val + 1) d = keep s k d := rfl

/-- The rows held before a step are the two parts. -/
theorem keep_give : ∀ (s : Bool) (k : Fin 4) (d : Dev nD),
    (keep s k d = start s k.val d.val ∧ give s k d = start s k.val d.val + half k.val)
      ∨ (keep s k d = start s k.val d.val + half k.val ∧ give s k d = start s k.val d.val) := by decide +kernel

theorem start_zero (s : Bool) (d : ℕ) : start s 0 d = 0 := by simp [start]
theorem start_le : ∀ (s : Bool) (j : Fin 5) (d : Dev nD), start s j.val d.val + 1024 / 2 ^ j.val ≤ 1024 := by decide +kernel

/-- The device that reduces row `r`. -/
def owner (s : Bool) (r : ℕ) : ℕ :=
  (r / 512 % 2 * mask s 0) + (r / 256 % 2 * mask s 1) + (r / 128 % 2 * mask s 2) + (r / 64 % 2 * mask s 3)

theorem owner_lt (s : Bool) (r : ℕ) : owner s r < nD := by
  have h1 : r / 512 % 2 < 2 := Nat.mod_lt _ (by decide)
  have h2 : r / 256 % 2 < 2 := Nat.mod_lt _ (by decide)
  have h3 : r / 128 % 2 < 2 := Nat.mod_lt _ (by decide)
  have h4 : r / 64 % 2 < 2 := Nat.mod_lt _ (by decide)
  show owner s r < 16
  unfold owner
  cases s
  · show r / 512 % 2 * 1 + r / 256 % 2 * 2 + r / 128 % 2 * 4 + r / 64 % 2 * 8 < 16; omega
  · show r / 512 % 2 * 4 + r / 256 % 2 * 8 + r / 128 % 2 * 2 + r / 64 % 2 * 1 < 16; omega

def ownerD (s : Bool) (r : ℕ) : Dev nD := ⟨owner s r, owner_lt s r⟩

theorem owner_start : ∀ (s : Bool) (d : Dev nD) (i : Fin 64), ownerD s (start s 4 d.val + i.val) = d := by decide +kernel

/-- The device that step `k` of a reduce-scatter (`false`) or of an all-gather (`true`) exchanges with; an all-gather
    takes the steps in reverse. -/
def rv (g : Bool) (k : Fin 4) : Fin 4 := if g then ⟨3 - k.val, by omega⟩ else k
theorem rv_rv : ∀ g k, rv g (rv g k) = k := by decide

/-- Which step of the reduce-scatter of the right columns flips the bit that step `k` of the left one flips. -/
def alt (k : Fin 4) : Fin 4 := ![3, 2, 0, 1] k
theorem peer_alt : ∀ (k : Fin 4) (d : Dev nD), peer true (alt k) d = peer false k d := by decide +kernel

/-! ## Devices and offsets of the printed body -/

theorem dev1_eq : ∀ d : Dev nD, (⟨k0_dev1 d, k0_dev1_lt d⟩ : Dev nD) = peer false 0 d := by decide +kernel
theorem dev2_eq : ∀ d : Dev nD, (⟨k0_dev2 d, k0_dev2_lt d⟩ : Dev nD) = peer false 1 d := by decide +kernel
theorem dev3_eq : ∀ d : Dev nD, (⟨k0_dev3 d, k0_dev3_lt d⟩ : Dev nD) = peer false 2 d := by decide +kernel
theorem dev4_eq : ∀ d : Dev nD, (⟨k0_dev4 d, k0_dev4_lt d⟩ : Dev nD) = peer false 3 d := by decide +kernel
theorem dev5_eq : ∀ d : Dev nD, (⟨k0_dev5 d, k0_dev5_lt d⟩ : Dev nD) = peer false 0 d := by decide +kernel
theorem dev6_eq : ∀ d : Dev nD, (⟨k0_dev6 d, k0_dev6_lt d⟩ : Dev nD) = peer true 0 d := by decide +kernel
theorem dev7_eq : ∀ d : Dev nD, (⟨k0_dev7 d, k0_dev7_lt d⟩ : Dev nD) = peer false 1 d := by decide +kernel
theorem dev8_eq : ∀ d : Dev nD, (⟨k0_dev8 d, k0_dev8_lt d⟩ : Dev nD) = peer true 1 d := by decide +kernel
theorem dev9_eq : ∀ d : Dev nD, (⟨k0_dev9 d, k0_dev9_lt d⟩ : Dev nD) = peer false 2 d := by decide +kernel
theorem dev10_eq : ∀ d : Dev nD, (⟨k0_dev10 d, k0_dev10_lt d⟩ : Dev nD) = peer true 2 d := by decide +kernel
theorem dev11_eq : ∀ d : Dev nD, (⟨k0_dev11 d, k0_dev11_lt d⟩ : Dev nD) = peer false 3 d := by decide +kernel
theorem dev12_eq : ∀ d : Dev nD, (⟨k0_dev12 d, k0_dev12_lt d⟩ : Dev nD) = peer true 3 d := by decide +kernel
theorem dev13_eq : ∀ d : Dev nD, (⟨k0_dev13 d, k0_dev13_lt d⟩ : Dev nD) = peer false (rv true 0) d := by decide +kernel
theorem dev14_eq : ∀ d : Dev nD, (⟨k0_dev14 d, k0_dev14_lt d⟩ : Dev nD) = peer true (rv true 0) d := by decide +kernel
theorem dev15_eq : ∀ d : Dev nD, (⟨k0_dev15 d, k0_dev15_lt d⟩ : Dev nD) = peer false (rv true 1) d := by decide +kernel
theorem dev16_eq : ∀ d : Dev nD, (⟨k0_dev16 d, k0_dev16_lt d⟩ : Dev nD) = peer true (rv true 1) d := by decide +kernel
theorem dev17_eq : ∀ d : Dev nD, (⟨k0_dev17 d, k0_dev17_lt d⟩ : Dev nD) = peer false (rv true 2) d := by decide +kernel
theorem dev18_eq : ∀ d : Dev nD, (⟨k0_dev18 d, k0_dev18_lt d⟩ : Dev nD) = peer true (rv true 2) d := by decide +kernel
theorem dev19_eq : ∀ d : Dev nD, (⟨k0_dev19 d, k0_dev19_lt d⟩ : Dev nD) = peer false (rv true 3) d := by decide +kernel
theorem dev20_eq : ∀ d : Dev nD, (⟨k0_dev20 d, k0_dev20_lt d⟩ : Dev nD) = peer true (rv true 3) d := by decide +kernel

/-- The half of the rows given away first, and the half kept. -/
abbrev lo1 (d : Dev nD) : ℕ := give false 0 d
abbrev lo2 (d : Dev nD) : ℕ := keep false 0 d

theorem off1_eq : ∀ (d : Dev nD) (h : Fin 8), k0_off1 d (BitVec.ofNat 32 h.val) = ![0, 0, 8 * d.val + h.val, 0] := by decide +kernel
theorem off2_eq : ∀ d : Dev nD, k0_off2 d = ![0, lo1 d, 0] := by decide +kernel
theorem off3_eq : ∀ d : Dev nD, k0_off3 d = ![lo1 d, 0] := by decide +kernel
theorem off22_eq : ∀ d : Dev nD, k0_off22 d = ![0, lo2 d, 0] := by decide +kernel
theorem off23_eq : ∀ d : Dev nD, k0_off23 d = ![lo2 d, 0] := by decide +kernel

/-- The first key of the window of block `b` of 256 rows. -/
def win (b : ℕ) : ℕ := min 512 (256 * b - 128)

abbrev qoff (lo h : ℕ) (r : Fin 2) : Fin 2 → ℕ := ![lo + 256 * r.val, 128 * h]
abbrev koff (lo h : ℕ) (r : Fin 2) : Fin 3 → ℕ := ![h, win (lo / 256 + r.val), 0]

theorem off4_eq : ∀ (d : Dev nD) (r : Fin 2), k0_off4 d (BitVec.ofNat 32 (256 * r.val)) = qoff (lo1 d) 0 r := by decide +kernel
theorem off5_eq : ∀ (d : Dev nD) (r : Fin 2), k0_off5 d (BitVec.ofNat 32 (256 * r.val)) = koff (lo1 d) 0 r := by decide +kernel
theorem off6_eq : ∀ (d : Dev nD) (r : Fin 2), k0_off6 d (BitVec.ofNat 32 (256 * r.val)) = qoff (lo1 d) 1 r := by decide +kernel
theorem off7_eq : ∀ (d : Dev nD) (r : Fin 2), k0_off7 d (BitVec.ofNat 32 (256 * r.val)) = koff (lo1 d) 1 r := by decide +kernel
theorem off8_eq : ∀ (d : Dev nD) (r : Fin 2), k0_off8 d (BitVec.ofNat 32 (256 * r.val)) = qoff (lo1 d) 2 r := by decide +kernel
theorem off9_eq : ∀ (d : Dev nD) (r : Fin 2), k0_off9 d (BitVec.ofNat 32 (256 * r.val)) = koff (lo1 d) 2 r := by decide +kernel
theorem off10_eq : ∀ (d : Dev nD) (r : Fin 2), k0_off10 d (BitVec.ofNat 32 (256 * r.val)) = qoff (lo1 d) 3 r := by decide +kernel
theorem off11_eq : ∀ (d : Dev nD) (r : Fin 2), k0_off11 d (BitVec.ofNat 32 (256 * r.val)) = koff (lo1 d) 3 r := by decide +kernel
theorem off12_eq : ∀ (d : Dev nD) (r : Fin 2), k0_off12 d (BitVec.ofNat 32 (256 * r.val)) = qoff (lo1 d) 4 r := by decide +kernel
theorem off13_eq : ∀ (d : Dev nD) (r : Fin 2), k0_off13 d (BitVec.ofNat 32 (256 * r.val)) = koff (lo1 d) 4 r := by decide +kernel
theorem off14_eq : ∀ (d : Dev nD) (r : Fin 2), k0_off14 d (BitVec.ofNat 32 (256 * r.val)) = qoff (lo1 d) 5 r := by decide +kernel
theorem off15_eq : ∀ (d : Dev nD) (r : Fin 2), k0_off15 d (BitVec.ofNat 32 (256 * r.val)) = koff (lo1 d) 5 r := by decide +kernel
theorem off16_eq : ∀ (d : Dev nD) (r : Fin 2), k0_off16 d (BitVec.ofNat 32 (256 * r.val)) = qoff (lo1 d) 6 r := by decide +kernel
theorem off17_eq : ∀ (d : Dev nD) (r : Fin 2), k0_off17 d (BitVec.ofNat 32 (256 * r.val)) = koff (lo1 d) 6 r := by decide +kernel
theorem off18_eq : ∀ (d : Dev nD) (r : Fin 2), k0_off18 d (BitVec.ofNat 32 (256 * r.val)) = qoff (lo1 d) 7 r := by decide +kernel
theorem off19_eq : ∀ (d : Dev nD) (r : Fin 2), k0_off19 d (BitVec.ofNat 32 (256 * r.val)) = koff (lo1 d) 7 r := by decide +kernel
theorem off24_eq : ∀ (d : Dev nD) (r : Fin 2), k0_off24 d (BitVec.ofNat 32 (256 * r.val)) = qoff (lo2 d) 0 r := by decide +kernel
theorem off25_eq : ∀ (d : Dev nD) (r : Fin 2), k0_off25 d (BitVec.ofNat 32 (256 * r.val)) = koff (lo2 d) 0 r := by decide +kernel
theorem off26_eq : ∀ (d : Dev nD) (r : Fin 2), k0_off26 d (BitVec.ofNat 32 (256 * r.val)) = qoff (lo2 d) 1 r := by decide +kernel
theorem off27_eq : ∀ (d : Dev nD) (r : Fin 2), k0_off27 d (BitVec.ofNat 32 (256 * r.val)) = koff (lo2 d) 1 r := by decide +kernel
theorem off28_eq : ∀ (d : Dev nD) (r : Fin 2), k0_off28 d (BitVec.ofNat 32 (256 * r.val)) = qoff (lo2 d) 2 r := by decide +kernel
theorem off29_eq : ∀ (d : Dev nD) (r : Fin 2), k0_off29 d (BitVec.ofNat 32 (256 * r.val)) = koff (lo2 d) 2 r := by decide +kernel
theorem off30_eq : ∀ (d : Dev nD) (r : Fin 2), k0_off30 d (BitVec.ofNat 32 (256 * r.val)) = qoff (lo2 d) 3 r := by decide +kernel
theorem off31_eq : ∀ (d : Dev nD) (r : Fin 2), k0_off31 d (BitVec.ofNat 32 (256 * r.val)) = koff (lo2 d) 3 r := by decide +kernel
theorem off32_eq : ∀ (d : Dev nD) (r : Fin 2), k0_off32 d (BitVec.ofNat 32 (256 * r.val)) = qoff (lo2 d) 4 r := by decide +kernel
theorem off33_eq : ∀ (d : Dev nD) (r : Fin 2), k0_off33 d (BitVec.ofNat 32 (256 * r.val)) = koff (lo2 d) 4 r := by decide +kernel
theorem off34_eq : ∀ (d : Dev nD) (r : Fin 2), k0_off34 d (BitVec.ofNat 32 (256 * r.val)) = qoff (lo2 d) 5 r := by decide +kernel
theorem off35_eq : ∀ (d : Dev nD) (r : Fin 2), k0_off35 d (BitVec.ofNat 32 (256 * r.val)) = koff (lo2 d) 5 r := by decide +kernel
theorem off36_eq : ∀ (d : Dev nD) (r : Fin 2), k0_off36 d (BitVec.ofNat 32 (256 * r.val)) = qoff (lo2 d) 6 r := by decide +kernel
theorem off37_eq : ∀ (d : Dev nD) (r : Fin 2), k0_off37 d (BitVec.ofNat 32 (256 * r.val)) = koff (lo2 d) 6 r := by decide +kernel
theorem off38_eq : ∀ (d : Dev nD) (r : Fin 2), k0_off38 d (BitVec.ofNat 32 (256 * r.val)) = qoff (lo2 d) 7 r := by decide +kernel
theorem off39_eq : ∀ (d : Dev nD) (r : Fin 2), k0_off39 d (BitVec.ofNat 32 (256 * r.val)) = koff (lo2 d) 7 r := by decide +kernel

/-- The word of a block's first row. -/
theorem base1_eq : ∀ d : Dev nD, Scalar.addi (base1 d) 0#32 = BitVec.ofNat 32 (lo1 d) ∧ Scalar.addi (base1 d) 256#32 = BitVec.ofNat 32 (lo1 d + 256) := by decide +kernel
theorem base2_eq : ∀ d : Dev nD, Scalar.addi (base2 d) 0#32 = BitVec.ofNat 32 (lo2 d) ∧ Scalar.addi (base2 d) 256#32 = BitVec.ofNat 32 (lo2 d + 256) := by decide +kernel

theorem off20_eq : ∀ d : Dev nD, k0_off20 d = ![lo1 d, 0] := by decide +kernel
theorem off40_eq : ∀ d : Dev nD, k0_off40 d = ![give true 0 d, 0] := by decide +kernel
theorem off41_eq : ∀ d : Dev nD, k0_off41 d = ![give true 0 d, 512] := by decide +kernel
theorem off43_eq : ∀ d : Dev nD, k0_off43 d = ![lo2 d, 0] := by decide +kernel
theorem off44_eq : ∀ d : Dev nD, k0_off44 d = ![keep true 0 d, 0] := by decide +kernel
theorem off45_eq : ∀ d : Dev nD, k0_off45 d = ![keep true 0 d, 512] := by decide +kernel

theorem off21_eq : ∀ d : Dev nD, k0_off21 d = ![give false 0 d, 0] := by decide +kernel
theorem off42_eq : ∀ d : Dev nD, k0_off42 d = ![give true 0 d, 512] := by decide +kernel
theorem off46_eq : ∀ d : Dev nD, k0_off46 d = ![keep false 0 d, 0] := by decide +kernel
theorem off47_eq : ∀ d : Dev nD, k0_off47 d = ![give false 1 d, 0] := by decide +kernel
theorem off48_eq : ∀ d : Dev nD, k0_off48 d = ![give true 1 d, 512] := by decide +kernel
theorem off49_eq : ∀ d : Dev nD, k0_off49 d = ![keep false 1 d, 0] := by decide +kernel
theorem off50_eq : ∀ d : Dev nD, k0_off50 d = ![give false 2 d, 0] := by decide +kernel
theorem off51_eq : ∀ d : Dev nD, k0_off51 d = ![keep true 1 d, 512] := by decide +kernel
theorem off52_eq : ∀ d : Dev nD, k0_off52 d = ![give true 2 d, 512] := by decide +kernel
theorem off53_eq : ∀ d : Dev nD, k0_off53 d = ![keep false 2 d, 0] := by decide +kernel
theorem off54_eq : ∀ d : Dev nD, k0_off54 d = ![give false 3 d, 0] := by decide +kernel
theorem off55_eq : ∀ d : Dev nD, k0_off55 d = ![keep true 2 d, 512] := by decide +kernel
theorem off56_eq : ∀ d : Dev nD, k0_off56 d = ![give true 3 d, 512] := by decide +kernel
theorem off57_eq : ∀ d : Dev nD, k0_off57 d = ![keep false 3 d, 0] := by decide +kernel
theorem off58_eq : ∀ d : Dev nD, k0_off58 d = ![keep true 3 d, 512] := by decide +kernel
theorem off59_eq : ∀ (d : Dev nD) (r : Fin 2), k0_off59 d (k0_off59_at r).1 (k0_off59_at r).2.1 (k0_off59_at r).2.2.1 (k0_off59_at r).2.2.2 = ![start (r == 1) 4 d.val, 0] := by decide +kernel
theorem off60_eq : ∀ (d : Dev nD) (r : Fin 2), k0_off60 d (k0_off60_at r).1 (k0_off60_at r).2.1 (k0_off60_at r).2.2.1 (k0_off60_at r).2.2.2 = ![start (r == 1) 4 d.val, 0] := by decide +kernel
theorem off62_eq : ∀ (d : Dev nD) (r : Fin 2), k0_off62 d (k0_off62_at r).1 (k0_off62_at r).2.1 (k0_off62_at r).2.2.1 (k0_off62_at r).2.2.2.1 (k0_off62_at r).2.2.2.2 = ![start (r == 1) 3 d.val, 0] := by decide +kernel
theorem off64_eq : ∀ (d : Dev nD) (r : Fin 2), k0_off64 d (k0_off64_at r).1 (k0_off64_at r).2.1 (k0_off64_at r).2.2.1 (k0_off64_at r).2.2.2.1 (k0_off64_at r).2.2.2.2.1 (k0_off64_at r).2.2.2.2.2 = ![start (r == 1) 2 d.val, 0] := by decide +kernel
theorem off66_eq : ∀ (d : Dev nD) (r : Fin 2), k0_off66 d (k0_off66_at r).1 (k0_off66_at r).2.1 (k0_off66_at r).2.2.1 (k0_off66_at r).2.2.2.1 (k0_off66_at r).2.2.2.2.1 (k0_off66_at r).2.2.2.2.2.1 (k0_off66_at r).2.2.2.2.2.2 = ![start (r == 1) 1 d.val, 0] := by decide +kernel

end Cert.KernelIdeal.Att
end
-- ==== Proof.Contents.lean ====
/- What every buffer holds: the queries, the keys and values, the context, the partial products and their partial sums
   over the devices, as functions of natural coordinates; and the payloads of the body as their values. -/
module

public import proofs.«01_k».proof.Proof.Geom
public import Idealize.ShloMosaic.Lib.Pipeline.ValueKit
public import Idealize.ShloMosaic.Lib.ValueLayout
public import Idealize.ShloMosaic.Lib.Pointwise.Index
public import Idealize.ShloMosaic.Lib.Pointwise.Reshape

@[expose] public section

noncomputable section

namespace Cert.KernelIdeal.Att

open Cert.KernelIdeal Cert.KernelIdeal.Gen
open Idealize.ShloMosaic Idealize.ShloMosaic.TcCoe

variable {F : FTy → Type} [FloatOps F] [Named F]

/-! ## Functions of coordinates -/

abbrev nat2 {α : Type} {a b : ℕ} (f : ℕ → ℕ → α) : (⟨2, ![a, b]⟩ : Shape).Idx → α := fun i => f (i 0).val (i 1).val
abbrev nat3 {α : Type} {a b c : ℕ} (f : ℕ → ℕ → ℕ → α) : (⟨3, ![a, b, c]⟩ : Shape).Idx → α := fun i => f (i 0).val (i 1).val (i 2).val
abbrev nat4 {α : Type} {a b c e : ℕ} (f : ℕ → ℕ → ℕ → ℕ → α) : (⟨4, ![a, b, c, e]⟩ : Shape).Idx → α :=
  fun i => f (i 0).val (i 1).val (i 2).val (i 3).val

/-- The index with the given coordinates. -/
abbrev i2 {a b : ℕ} [NeZero a] [NeZero b] (x y : ℕ) : (⟨2, ![a, b]⟩ : Shape).Idx := ix2 (Fin.ofNat a x) (Fin.ofNat b y)
abbrev i3 {a b c : ℕ} [NeZero a] [NeZero b] [NeZero c] (x y z : ℕ) : (⟨3, ![a, b, c]⟩ : Shape).Idx :=
  ix3 (Fin.ofNat a x) (Fin.ofNat b y) (Fin.ofNat c z)

theorem i2_val {a b : ℕ} [NeZero a] [NeZero b] (j : (⟨2, ![a, b]⟩ : Shape).Idx) (x y : ℕ) (hx : x = (j 0).val) (hy : y = (j 1).val) :
    (i2 x y : (⟨2, ![a, b]⟩ : Shape).Idx) = j := by
  subst hx hy
  rw [eq_ix2 j]
  exact (ix2_inj _ _ _ _).mpr ⟨Fin.ext (Nat.mod_eq_of_lt (j 0).isLt), Fin.ext (Nat.mod_eq_of_lt (j 1).isLt)⟩
theorem i3_val {a b c : ℕ} [NeZero a] [NeZero b] [NeZero c] (j : (⟨3, ![a, b, c]⟩ : Shape).Idx) (x y z : ℕ) (hx : x = (j 0).val) (hy : y = (j 1).val)
    (hz : z = (j 2).val) : (i3 x y z : (⟨3, ![a, b, c]⟩ : Shape).Idx) = j := by
  subst hx hy hz
  rw [eq_ix3 j]
  exact (ix3_inj _ _ _ _ _ _).mpr ⟨Fin.ext (Nat.mod_eq_of_lt (j 0).isLt), Fin.ext (Nat.mod_eq_of_lt (j 1).isLt), Fin.ext (Nat.mod_eq_of_lt (j 2).isLt)⟩

/-! ## The contents -/

/-- The inputs of every device by their coordinates: the rows of `x`, the device's columns of Wq, K and V by row, head
    and column, the device's rows of Wo. -/
structure Ins (F : FTy → Type) where
  x : Dev nD → ℕ → ℕ → F .bf16
  wq : Dev nD → ℕ → ℕ → F .bf16
  ka : Dev nD → ℕ → ℕ → ℕ → F .f32
  va : Dev nD → ℕ → ℕ → ℕ → F .f32
  wo : Dev nD → ℕ → ℕ → F .bf16

variable (I : Ins F)

/-- The queries. -/
def Qn (c : Dev nD) (x y : ℕ) : F .bf16 :=
  k0_pay2 (k0_pay1 (nat3 fun _ a b => I.x c (512 * (x / 512) + a) b) (nat2 (I.wq c))) (i2 (x % 512) y)

/-- The rounded head `h` of an array of heads. -/
def hd (f : ℕ → ℕ → ℕ → F .f32) (h x y : ℕ) : F .bf16 := k0_pay3 (F := F) (nat3 fun _ a b => f a h b) (i3 0 x y)

/-- The device's heads of K and of V. -/
def Kn (c : Dev nD) (h x y : ℕ) : F .bf16 := hd (I.ka c) (8 * c.val + h) x y
def Vn (c : Dev nD) (h x y : ℕ) : F .bf16 := hd (I.va c) (8 * c.val + h) x y

/-- The context. -/
def Cn (c : Dev nD) (x y : ℕ) : F .bf16 :=
  k0_pay5 (BitVec.ofNat 32 (256 * (x / 256))) (nat2 fun a b => Qn I c (256 * (x / 256) + a) (128 * (y / 128) + b))
    (nat3 fun _ a b => Kn I c (y / 128) (win (x / 256) + a) b) (nat3 fun _ a b => Vn I c (y / 128) (win (x / 256) + a) b) (i2 (x % 256) (y % 128))

/-- The device's product. -/
def Pn (c : Dev nD) (x y : ℕ) : F .f32 :=
  k0_pay44 (nat2 fun a b => Cn I c (512 * (x / 512) + a) b) (nat2 fun a b => I.wo c a (512 * (y / 512) + b)) (i2 (x % 512) (y % 512))

/-- The step of a sum over the devices: the neighbour's rounded sum is added. -/
def add1 (a : F .f32) (b : F .bf16) : F .f32 := FloatOps.addf a (FloatOps.extf .f32 bitsLt_bf16_f32 b)
def rnd1 (a : F .f32) : F .bf16 := FloatOps.truncf .bf16 bitsLt_bf16_f32 a

/-- The half of the columns that column `y` lies in. -/
def col (y : ℕ) : Bool := decide (512 ≤ y)

/-- The partial sum that device `d` has after `k` steps. -/
def An : ℕ → Dev nD → ℕ → ℕ → F .f32
  | 0, d, x, y => Pn I d x y
  | k + 1, d, x, y => add1 (An k d x y) (rnd1 (An k (peer (col y) (Fin.ofNat 4 k) d) x y))

/-- The rounded partial sum. -/
def Rn (k : ℕ) (d : Dev nD) (x y : ℕ) : F .bf16 := rnd1 (An I k d x y)

/-- The first column of a half. -/
abbrev c0 (s : Bool) : ℕ := if s then 512 else 0

theorem col_add (s : Bool) (y : ℕ) (h : y < 512) : col (c0 s + y) = s := by
  cases s
  · simp [col, c0]; omega
  · simp [col, c0]

/-- A half of the columns of the result. -/
def Gn (s : Bool) (x y : ℕ) : F .bf16 := Rn I 4 (ownerD s x) x (c0 s + y)

/-- The result. -/
def On (x y : ℕ) : F .bf16 := Rn I 4 (ownerD (col y) x) x y

/-- What step `k` of a reduce-scatter lands in slot `k` of device `e`. -/
def Ln (s : Bool) (k : Fin 4) (e : Dev nD) (x y : ℕ) : F .bf16 := Rn I k.val (peer s k e) (keep s k e + x) (c0 s + y)

/-! ## The payloads -/

theorem pay44_eq (x : Vec F S512x1024 .bf16) (w : Vec F S1024x512 .bf16) (j : S512x512.Idx) : k0_pay45 x w j = rnd1 (k0_pay44 x w j) := by
  unfold k0_pay45 k0_pay44 rnd1
  simp only [shapeCast_id]; rfl

/-- An element of a landing slot behind its unit axis. -/
theorem cast_slot {α : Type} {n : ℕ} (b : (SR1 n).Idx → α) (h : (SR1 n).ShapeCasts (SR n)) (j : (SR n).Idx) (hn : 0 < 1) :
    shapeCast (SR n) b h j = b (ix3 (n0 := 1) (n1 := n) (n2 := 512) ⟨0, hn⟩ (j 0) (j 1)) := by
  show b (Shape.reshapeEquiv h _) = _
  refine congrArg b (Shape.reshapeEquiv_eq_of_rowMajor h ?_)
  rw [Shape.rowMajor_val_three, Shape.rowMajor_val_two]
  show ((0 * n + (j 0).val) * 512 + (j 1).val) = (j 0).val * 512 + (j 1).val
  simp only [Nat.zero_mul, Nat.zero_add]

/-- The sum and the rounded sum of a step. -/
structure IsAdd {n : ℕ} (sum : Vec F (SR n) .f32 → Vec F (SR1 n) .bf16 → FVec F (SR n) .f32)
    (rnd : Vec F (SR n) .f32 → Vec F (SR1 n) .bf16 → FVec F (SR n) .bf16) : Prop where
  sum_eq : ∀ a b j, sum a b j = add1 (a j) (b (ix3 (n0 := 1) (n1 := n) (n2 := 512) 0 (j 0) (j 1)))
  rnd_eq : ∀ a b j, rnd a b j = rnd1 (add1 (a j) (b (ix3 (n0 := 1) (n1 := n) (n2 := 512) 0 (j 0) (j 1))))

theorem add_step {n : ℕ} (h : (SR1 n).ShapeCasts (SR n)) (h' : (SR n).ShapeCasts (SR n)) :
    IsAdd (F := F) (n := n) (fun a b => shapeCast (SR n) (addf a (extf .f32 (shapeCast (SR n) b h) bitsLt_bf16_f32)) h')
      (fun a b => shapeCast (SR n) (truncf .bf16 (addf a (extf .f32 (shapeCast (SR n) b h) bitsLt_bf16_f32)) bitsLt_bf16_f32) h') where
  sum_eq a b j := by
    rw [shapeCast_id]
    exact congrArg (fun z => add1 (a j) z) (cast_slot b h j Nat.one_pos)
  rnd_eq a b j := by
    rw [shapeCast_id]
    exact congrArg (fun z => rnd1 (add1 (a j) z)) (cast_slot b h j Nat.one_pos)

theorem addA0 : IsAdd (F := F) k0_pay95 k0_pay96 := add_step (n := 512) _ _
theorem addB0 : IsAdd (F := F) k0_pay98 k0_pay99 := add_step (n := 512) _ _
theorem addA1 : IsAdd (F := F) k0_pay101 k0_pay102 := add_step (n := 256) _ _
theorem addB1 : IsAdd (F := F) k0_pay104 k0_pay105 := add_step (n := 256) _ _
theorem addA2 : IsAdd (F := F) k0_pay107 k0_pay108 := add_step (n := 128) _ _
theorem addB2 : IsAdd (F := F) k0_pay110 k0_pay111 := add_step (n := 128) _ _
theorem addA3 : IsAdd (F := F) k0_pay113 k0_pay114 := add_step (n := 64) _ _
theorem addB3 : IsAdd (F := F) k0_pay116 k0_pay117 := add_step (n := 64) _ _

theorem pay118_eq (b : Vec F S64x512 .bf16) : k0_pay118 b = b := shapeCast_id _ _

/-! ## The stores of the body -/

theorem queries_eq (c : Dev nD) (lo : ℕ) (hlo : 512 ∣ lo) (j : S512x1024.Idx) :
    k0_pay2 (k0_pay1 (nat3 fun _ a b => I.x c (lo + a) b) (nat2 (I.wq c))) j = Qn I c (lo + (j 0).val) (j 1).val := by
  have h0 : (j 0).val < 512 := (j 0).isLt
  unfold Qn
  rw [show 512 * ((lo + (j 0).val) / 512) = lo by omega, i2_val j _ _ (by omega) rfl]

theorem head_eq (f : ℕ → ℕ → ℕ → F .f32) (h : ℕ) (j : S1x1024x128.Idx) :
    k0_pay3 (F := F) (nat3 fun _ a b => f a h b) j = hd f h (j 1).val (j 2).val := by
  have h0 : (j 0).val < 1 := (j 0).isLt
  unfold hd
  rw [i3_val j _ _ _ (by omega) rfl rfl]

theorem attn_eq (c : Dev nD) (lo h : ℕ) (hlo : 256 ∣ lo) (j : S256x128.Idx) :
    k0_pay5 (BitVec.ofNat 32 lo) (nat2 fun a b => Qn I c (lo + a) (128 * h + b)) (nat3 fun _ a b => Kn I c h (win (lo / 256) + a) b)
      (nat3 fun _ a b => Vn I c h (win (lo / 256) + a) b) j = Cn I c (lo + (j 0).val) (128 * h + (j 1).val) := by
  have h0 : (j 0).val < 256 := (j 0).isLt
  have h1 : (j 1).val < 128 := (j 1).isLt
  unfold Cn
  rw [show (lo + (j 0).val) / 256 = lo / 256 by omega, show 256 * (lo / 256) = lo by omega, show (128 * h + (j 1).val) / 128 = h by omega,
    i2_val j _ _ (by omega) (by omega)]

theorem quad_eq (c : Dev nD) (lo : ℕ) (hlo : 512 ∣ lo) (s : Bool) (j : S512x512.Idx) :
    k0_pay44 (nat2 fun a b => Cn I c (lo + a) b) (nat2 fun a b => I.wo c a (c0 s + b)) j = Pn I c (lo + (j 0).val) (c0 s + (j 1).val) := by
  have h0 : (j 0).val < 512 := (j 0).isLt
  have h1 : (j 1).val < 512 := (j 1).isLt
  have hs : 512 * ((c0 s + (j 1).val) / 512) = c0 s := by cases s <;> simp [c0] <;> omega
  have hs' : (c0 s + (j 1).val) % 512 = (j 1).val := by cases s <;> simp [c0] <;> omega
  unfold Pn
  rw [show 512 * ((lo + (j 0).val) / 512) = lo by omega, hs, i2_val j _ _ (by omega) hs']

theorem An_succ (s : Bool) (k : Fin 4) (d : Dev nD) (x y : ℕ) (hy : y < 512) :
    An I (k.val + 1) d x (c0 s + y) = add1 (An I k.val d x (c0 s + y)) (Rn I k.val (peer s k d) x (c0 s + y)) := by
  show add1 _ (rnd1 (An I k.val (peer (col (c0 s + y)) (Fin.ofNat 4 k.val) d) x (c0 s + y))) = _
  rw [col_add s y hy, show (Fin.ofNat 4 k.val) = k from Fin.ext (Nat.mod_eq_of_lt k.isLt)]
  rfl

theorem On_eq (s : Bool) (x y : ℕ) (hy : y < 512) : Gn I s x y = On I x (c0 s + y) := by
  unfold Gn On; rw [col_add s y hy]

theorem Gn_start (s : Bool) (d : Dev nD) (i y : ℕ) (hi : i < 64) : Gn I s (start s 4 d.val + i) y = Rn I 4 d (start s 4 d.val + i) (c0 s + y) := by
  unfold Gn; rw [owner_start s d ⟨i, hi⟩]

end Cert.KernelIdeal.Att
end
-- ==== Proof.Sched.lean ====
/- The exchange's protocol: the semaphore cells of every device, who pays each, how much, and the contents that each
   payment hands over; what a device owes at launch, and the order in which cells may be waited for. -/
module

public import proofs.«01_k».proof.Proof.Part
public import proofs.«01_k».proof.Proof.Contents

@[expose] public section

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The cells -/

/-- The cells of a device: the barrier's; one for each copy in of K (`false`) and V (`true`); and for each step of the
    reduce-scatters (`false`) and all-gathers (`true`) of either half of the columns the one of the sender (`false`) and
    the one of the receiver (`true`). -/
abbrev CK : Type := Option ((Bool × Fin 8) ⊕ (Bool × Bool × Bool × Fin 4))

instance : DecidableEq CK := inferInstanceAs (DecidableEq (Option ((Bool × Fin 8) ⊕ (Bool × Bool × Bool × Fin 4))))
instance : Fintype CK := inferInstanceAs (Fintype (Option ((Bool × Fin 8) ⊕ (Bool × Bool × Bool × Fin 4))))

abbrev bar : CK := none
abbrev kv (v : Bool) (h : Fin 8) : CK := Option.some (.inl (v, h))
abbrev xfer (g s r : Bool) (k : Fin 4) : CK := Option.some (.inr (g, s, r, k))

abbrev kvIx : Bool → Fin 8 → Fin 16
  | false, h => ⟨h.val, by omega⟩
  | true, h => ⟨8 + h.val, by omega⟩

abbrev sems : Bool → Bool → Bool → DmaSems sig S4
  | false, s, false => rsS s
  | false, s, true => rsR s
  | true, s, false => dbS s
  | true, s, true => dbR s

/-- The semaphore of a cell other than the barrier's. -/
abbrev dq : (Bool × Fin 8) ⊕ (Bool × Bool × Bool × Fin 4) → DmaSem sig
  | .inl (v, h) => kvSem (kvIx v h)
  | .inr (g, s, r, k) => four (sems g s r) k
abbrev semOf : CK → SemLoc sig
  | none => .reg barS.sem
  | Option.some κ => .dma (dq κ)

set_option maxRecDepth 100000 in
theorem semOf_inj : Function.Injective semOf := by
  have h : ∀ a b : CK, semOf a = semOf b → a = b := by decide +kernel
  exact fun a b => h a b

abbrev cell (c : Dev nD) (κ : CK) : GSem nD τ sig := ((c : Thread nD τ), semOf κ)

open Classical in
/-- Which cell a semaphore is. -/
def kindOf (sm : SemLoc sig) : Option CK := if h : ∃ κ, semOf κ = sm then Option.some h.choose else none

theorem kindOf_semOf (κ : CK) : kindOf (semOf κ) = Option.some κ := by
  have h : ∃ κ', semOf κ' = semOf κ := ⟨κ, rfl⟩
  unfold kindOf; rw [dif_pos h]; exact congrArg _ (semOf_inj h.choose_spec)

/-! ## The amounts -/

/-- The credit of `n` rows of 512 rounded sums, and of one head. -/
def crd (n : ℕ) : ℕ := sig.dmaCredit .tc (Kind.tc.table .vmem) bM.view.buf (SR n) .bf16
def hcrd : ℕ := (slabM kfM 0).view.dmaCredit

theorem crd_pos (n : ℕ) (h : 0 < n) : 0 < crd n := sig.dmaCredit_pos _ _ _ _ _ (by
  rw [show (SR n).numel = n * 512 from by simp [Shape.numel, Fin.prod_univ_two]]; omega)
theorem hcrd_pos : 0 < hcrd := View.dmaCredit_pos _ (by decide)

def amt : CK → ℕ
  | none => 1
  | Option.some (.inl _) => hcrd
  | Option.some (.inr (g, _, _, k)) => crd (half (rv g k).val)

theorem half_pos : ∀ k : Fin 4, 0 < half k.val := by decide
theorem amt_pos : ∀ κ, 0 < amt κ
  | none => Nat.one_pos
  | Option.some (.inl _) => hcrd_pos
  | Option.some (.inr (_, _, _, _)) => crd_pos _ (half_pos _)

/-! ## Regions -/

def slabP (h : ℕ) : S8x1024x128.Idx → Prop := fun x => (x 0).val = h
def headP (c : Dev nD) (h : ℕ) : S1x1024x128x128.Idx → Prop := fun x => (x 2).val = 8 * c.val + h
/-- `n` rows from row `lo` on, in one half of the columns. -/
def rowP (s : Bool) (lo n : ℕ) : S1024x1024.Idx → Prop := fun x => lo ≤ (x 0).val ∧ (x 0).val < lo + n ∧ c0 s ≤ (x 1).val ∧ (x 1).val < c0 s + 512
def slotP (k n : ℕ) : S4x512x512.Idx → Prop := fun x => (x 0).val = k ∧ (x 1).val < n
def gatP (lo n : ℕ) : S1024x512.Idx → Prop := fun x => lo ≤ (x 0).val ∧ (x 0).val < lo + n

/-! ## Shares -/

/-- Four shares that make up the whole: one is lent in each step of an all-gather. -/
def qq (k : Fin 4) : PosShare TreeShare := ![fullShare.left.left, fullShare.left.right, fullShare.right.left, fullShare.right.right] k

/-! ## The payloads -/

abbrev fM : Bool → Memref sig .tc .vmem S8x1024x128 .f32 | false => kfM | true => vfM
abbrev inM : Bool → Memref sig .tc .hbm S1x1024x128x128 .f32 | false => kM | true => vM
abbrev tM : Bool → Memref sig .tc .vmem S8x1024x128 .bf16 | false => ktM | true => vtM

variable (I : Ins F)

def kvIn : Bool → Dev nD → ℕ → ℕ → ℕ → F .f32 | false => I.ka | true => I.va

/-- The landing regions of device `p` that its neighbour across bit `j` writes. -/
def barPay (p : Dev nD) (j : Fin 4) : sProp 𝕄 :=
  iprop(some (F := F) p (rM false) (slotP j.val (half j.val)) ∗ some (F := F) p (rM true) (slotP (alt j).val (half (alt j).val))
    ∗ some (F := F) p (gM false) (gatP (give false j p) (half j.val)) ∗ some (F := F) p (gM true) (gatP (give true (alt j) p) (half (alt j).val)))

/-- A head landed, and its source back. -/
def kvPay (v : Bool) (c : Dev nD) (h : Fin 8) : sProp 𝕄 :=
  iprop(part c (fM v) fullShare (slabP h.val) (slabP h.val) (nat3 fun h x y => kvIn I v c x (8 * c.val + h) y)
    ∗ part c (inM v) fullShare (headP c h.val) (headP c h.val) (nat4 fun _ x h y => kvIn I v c x h y))

def rsRecvPay (s : Bool) (k : Fin 4) (c : Dev nD) : sProp 𝕄 :=
  part c (rM s) fullShare (slotP k.val (half k.val)) (slotP k.val (half k.val)) (nat3 fun _ x y => Ln I s k c x y)
def rsSendPay (s : Bool) (k : Fin 4) (c : Dev nD) : sProp 𝕄 := some (F := F) c bM (rowP s (give s k c) (half k.val))

def dbRecvPay (s : Bool) (k : Fin 4) (c : Dev nD) : sProp 𝕄 :=
  part c (gM s) fullShare (gatP (give s (rv true k) c) (half (rv true k).val)) (gatP (give s (rv true k) c) (half (rv true k).val)) (nat2 (Gn I s))
def dbSendPay (s : Bool) (k : Fin 4) (c : Dev nD) : sProp 𝕄 :=
  part c (gM s) (qq k) (gatP (keep s (rv true k) c) (half (rv true k).val)) (gatP (keep s (rv true k) c) (half (rv true k).val)) (nat2 (Gn I s))

def pay (c : Dev nD) : CK → Fin 4 → sProp 𝕄
  | none, j => barPay (F := F) (peer false j c) j
  | Option.some (.inl (v, h)), _ => kvPay I v c h
  | Option.some (.inr (false, s, false, k)), _ => rsSendPay (F := F) s k c
  | Option.some (.inr (false, s, true, k)), _ => rsRecvPay I s k c
  | Option.some (.inr (true, s, false, k)), _ => dbSendPay I s k c
  | Option.some (.inr (true, s, true, k)), _ => dbRecvPay I s k c

instance pay_storable (c : Dev nD) (κ : CK) (j : Fin 4) : BI.Storable (upEmb : UEmb _ 𝕄) (pay I c κ j) := by
  rcases κ with _ | ⟨⟨v, h⟩ | ⟨_ | _, s, _ | _, k⟩⟩ <;>
    (simp only [pay]; first | unfold barPay | unfold kvPay | unfold rsSendPay | unfold rsRecvPay | unfold dbSendPay | unfold dbRecvPay) <;> infer_instance

/-! ## The schedule -/

/-- One round: a barrier cell has four duties of one unit, one for each neighbour; every other cell one duty. -/
def dut : CK → Finset (Fin 4)
  | none => Finset.univ
  | Option.some _ => {0}

open Classical in
def Rd : Rounds.Schedule (GSem nD τ sig) (Fin 4) 𝕄 where
  duties g r := if r = 0 ∧ g.1.2 = .tc then (match kindOf g.2 with | none => ∅ | Option.some κ => dut κ) else ∅
  unitless _ := False
  amount g _ _ := match kindOf g.2 with | none => 1 | Option.some κ => amt κ
  payload g _ d := match kindOf g.2 with | none => iprop(emp) | Option.some κ => pay I g.1.1 κ d
  amount_pos g _ _ _ := by
    rcases h : kindOf g.2 with _ | κ
    · exact Nat.one_pos
    · exact amt_pos κ

instance Rd_storable (g : GSem nD τ sig) (r : ℕ) (d : Fin 4) : BI.Storable (upEmb : UEmb _ 𝕄) ((Rd I).payload g r d) := by
  show BI.Storable upEmb (match kindOf g.2 with | none => iprop(emp) | Option.some κ => pay I g.1.1 κ d)
  split <;> infer_instance

theorem duties_eq (c : Dev nD) (κ : CK) : (Rd I).duties (cell c κ) 0 = dut κ := by
  dsimp only [Rd]; rw [if_pos ⟨rfl, rfl⟩, kindOf_semOf]
theorem duties_later (g : GSem nD τ sig) : ∀ r, 1 ≤ r → (Rd I).duties g r = ∅ := fun r hr => by
  dsimp only [Rd]; rw [if_neg fun h => by omega]
theorem amount_eq (c : Dev nD) (κ : CK) (d : Fin 4) : (Rd I).amount (cell c κ) 0 d = amt κ := by
  dsimp only [Rd]; rw [kindOf_semOf]
theorem payload_eq (c : Dev nD) (κ : CK) (d : Fin 4) : (Rd I).payload (cell c κ) 0 d = pay I c κ d := by
  dsimp only [Rd]; rw [kindOf_semOf]

/-- What a cell expects: four units, or the amount of its one duty. -/
def need : CK → ℕ
  | none => 4
  | κ@(Option.some _) => amt κ

theorem expect_eq (c : Dev nD) (κ : CK) : (Rd I).expect (cell c κ) 0 = need κ := by
  unfold Schedule.expect Schedule.amountOf
  rw [duties_eq, Finset.sum_congr rfl fun d _ => amount_eq I c κ d]
  rcases κ with _ | κ
  · simp [dut, amt, need]
  · simp [dut, need]

theorem rest_eq (c : Dev nD) (κ : CK) :
    bigSep ((Rd I).duties (cell c κ) 0 \ ∅) (fun d => (Rd I).payload (cell c κ) 0 d) = bigSep (dut κ) (fun d => pay I c κ d) := by
  rw [Finset.sdiff_empty, duties_eq]; exact bigSep_congr fun d _ => payload_eq I c κ d

/-! ## What is owed -/

/-- A device's payments to its neighbours in program order: four signals, eight landings of the reduce-scatters and
    eight of the all-gathers, the left and the right half of the columns in turn. -/
def dueTo (c : Dev nD) (i : ℕ) : Dev nD :=
  if i < 4 then peer false (Fin.ofNat 4 i) c else peer (i % 2 == 1) (rv (12 ≤ i) (Fin.ofNat 4 ((i - 4) / 2))) c
def dueK (i : ℕ) : CK := if i < 4 then bar else xfer (12 ≤ i) (i % 2 == 1) true (Fin.ofNat 4 ((i - 4) / 2))

def owed (c : Dev nD) (n : ℕ) : CellTallies nD τ sig Unit := ∑ i ∈ Finset.Ico n 20, tallyAt (cell (dueTo c i) (dueK i)) () (amt (dueK i))

theorem owed_succ (c : Dev nD) (n : ℕ) (h : n < 20) : owed c n = owed c (n + 1) + tallyAt (cell (dueTo c n) (dueK n)) () (amt (dueK n)) := by
  unfold owed; rw [Finset.sum_eq_sum_Ico_succ_bot h, add_comm]
theorem owed_end (c : Dev nD) : owed c 20 = 0 := by unfold owed; simp

theorem owed_pos {c : Dev nD} {n : ℕ} {g : GSem nD τ sig} {u : Unit} (h : 0 < owed c n g u) : ∃ i, n ≤ i ∧ i < 20 ∧ g = cell (dueTo c i) (dueK i) := by
  by_contra hn
  push Not at hn
  unfold owed at h
  rw [Finset.sum_apply, Finsupp.finset_sum_apply] at h
  refine absurd h (Nat.not_lt.mpr (Nat.le_of_eq (Finset.sum_eq_zero fun i hi => ?_)))
  rw [Finset.mem_Ico] at hi
  rw [tallyAt_apply, if_neg fun h' => hn i hi.1 hi.2 h'.1]

/-! ## The order of the waits -/

def L (g : GSem nD τ sig) : Finset Unit := if g.1.2 = .tc then {()} else ∅
def lvK : CK → ℕ
  | none => 1
  | Option.some (.inl _) => 0
  | Option.some (.inr (g, s, r, k)) => if r then 2 + 8 * g.toNat + 2 * k.val + s.toNat else 0
def lv (g : GSem nD τ sig) (_ : Unit) : ℕ := match kindOf g.2 with | none => 0 | Option.some κ => lvK κ

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (κ : CK) (u : Unit) : lv (cell c κ) u = lvK κ := by unfold lv; rw [kindOf_semOf]

theorem mayWait (c : Dev nD) (sm : SemLoc sig) (n l : ℕ) (hl : ∀ u, lv ((c : Thread nD τ), sm) u ≤ l) (h : ∀ i, n ≤ i → i < 20 → l < lvK (dueK i)) :
    (levAts L lv : sProp 𝕄) ⊢ MayWait (c : Thread nD τ) sm () (owed c n) :=
  MayOwe.of_cut (L := L) (lev := lv) l (fun p hp => by rw [Finset.mem_singleton.mp hp, L_tc]; exact Finset.mem_singleton_self _)
    (fun g u hg => by obtain ⟨i, -, -, rfl⟩ := owed_pos hg; rw [L_tc]; exact Finset.mem_singleton_self _)
    (fun p hp => by rw [Finset.mem_singleton.mp hp]; exact hl _)
    (fun g u hg => by obtain ⟨i, h1, h2, rfl⟩ := owed_pos hg; rw [lv_cell]; exact h i h1 h2)

theorem due_levels : ∀ i < 20, 0 < lvK (dueK i) := by decide

/-! ## What the body starts from -/

/-- Every cell's invariant, and that it is in its round. -/
def records (K : Dev nD × CK → ℕ) : sProp 𝕄 :=
  iprop((bigSep Finset.univ fun ck : Dev nD × CK => cellInv ER (Rd I) (K ck) (cell ck.1 ck.2))
    ∗ bigSep Finset.univ fun ck : Dev nD × CK => reached ER (cell ck.1 ck.2) 0)
instance records_persistent (K : Dev nD × CK → ℕ) : BI.Persistent (records I K) := by unfold records; infer_instance

def env (K : Dev nD × CK → ℕ) : sProp 𝕄 := iprop(records I K ∗ levAts L lv)
instance env_persistent (K : Dev nD × CK → ℕ) : BI.Persistent (env I K) := by unfold env; infer_instance

theorem inv_at (K : Dev nD × CK → ℕ) (ck : Dev nD × CK) :
    (bigSep Finset.univ fun ck : Dev nD × CK => (cellInv ER (Rd I) (K ck) (cell ck.1 ck.2) : sProp 𝕄)) ⊢ cellInv ER (Rd I) (K ck) (cell ck.1 ck.2) :=
  bigSep_elim (Finset.mem_univ ck)
theorem reached_at (ck : Dev nD × CK) :
    (bigSep Finset.univ fun ck : Dev nD × CK => (reached ER (cell ck.1 ck.2) 0 : sProp 𝕄)) ⊢ reached ER (cell ck.1 ck.2) 0 :=
  bigSep_elim (Finset.mem_univ ck)

theorem env_inv (K : Dev nD × CK → ℕ) (c : Dev nD) (κ : CK) : env I K ⊢ cellInv ER (Rd I) (K (c, κ)) (cell c κ) := by
  unfold env records
  iintro ⟨⟨H, -⟩, -⟩
  iapply (inv_at I K (c, κ)); iexact H
theorem env_reached (K : Dev nD × CK → ℕ) (c : Dev nD) (κ : CK) : env I K ⊢ reached ER (cell c κ) 0 := by
  unfold env records
  iintro ⟨⟨-, H⟩, -⟩
  iapply (reached_at (F := F) (c, κ)); iexact H
theorem env_lev (K : Dev nD × CK → ℕ) : env I K ⊢ levAts L lv := by unfold env; iintro ⟨-, H⟩; iexact H

/-- What device `c` still owes from its `n`-th payment on. -/
def ow (c : Dev nD) (n : ℕ) : sProp 𝕄 := iprop(∃ W, owes (c : Thread nD τ) (owed c n) W)

/-- Before a transfer: its two duties, and the position on the sender's cell. -/
def toSend (g s : Bool) (k : Fin 4) (c : Dev nD) : sProp 𝕄 :=
  iprop(dutyTok ER (cell c (xfer g s false k)) 0 0 ∗ dutyTok ER (cell (peer s (rv g k) c) (xfer g s true k)) 0 0 ∗ atPos ER (cell c (xfer g s false k)) 0 ∅ 0)
/-- Before the wait on a cell: the position, and its credit. -/
def waiting (κ : CK) (c : Dev nD) : sProp 𝕄 := iprop(atPos ER (cell c κ) 0 ∅ 0 ∗ cred (tallyAt (cell c κ) () (need κ)))
/-- Before a copy in. -/
def toCopy (v : Bool) (h : Fin 8) (c : Dev nD) : sProp 𝕄 := iprop(dutyTok ER (cell c (kv v h)) 0 0 ∗ atPos ER (cell c (kv v h)) 0 ∅ 0)

end Cert.KernelIdeal.Att
end
-- ==== Proof.Steps.lean ====
/- The steps of the body: what each one needs and what it leaves, over the parts of the buffers and the cells. -/
module

public import proofs.«01_k».proof.Proof.Sched

@[expose] public section

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Regions -/

/-- The elements of a rectangle. -/
theorem unit_iff {s : Shape} (off size : Fin s.rank → ℕ) (h : ∀ a, off a + size a ≤ s.size a) (x : s.Idx) :
    (∃ j, x = (Rect.unit off size h).emb j) ↔ ∀ a, off a ≤ (x a).val ∧ (x a).val < off a + size a := by
  constructor
  · rintro ⟨j, rfl⟩ a
    rw [ValueKit.rect_emb_unit_val]
    have : (j a).val < size a := (j a).isLt
    omega
  · intro hx
    refine ⟨fun a => ⟨(x a).val - off a, by have := hx a; show (x a).val - off a < size a; omega⟩, funext fun a => Fin.ext ?_⟩
    rw [ValueKit.rect_emb_unit_val]
    have := hx a
    show (x a).val = off a + ((x a).val - off a)
    omega

theorem row_iff (s : Bool) (lo n : ℕ) (h) (x : S1024x1024.Idx) : rowP s lo n x ↔ ∃ j, x = (srcR (n := n) ![lo, c0 s] h).emb j := by
  rw [unit_iff]; unfold rowP
  rw [Fin.forall_fin_two]; exact ⟨fun ⟨a, b, c, d⟩ => ⟨⟨a, b⟩, c, d⟩, fun ⟨⟨a, b⟩, c, d⟩ => ⟨a, b, c, d⟩⟩
theorem gat_iff (lo n : ℕ) (h) (x : S1024x512.Idx) : gatP lo n x ↔ ∃ j, x = (gatR (n := n) ![lo, 0] h).emb j := by
  rw [unit_iff]; unfold gatP
  have : (x 1).val < 512 := (x 1).isLt
  rw [Fin.forall_fin_two]; exact ⟨fun ⟨a, b⟩ => ⟨⟨a, b⟩, Nat.zero_le _, by simpa using this⟩, fun ⟨⟨a, b⟩, _⟩ => ⟨a, b⟩⟩
theorem slot_iff (k : Fin 4) (n : ℕ) (h) (x : S4x512x512.Idx) : slotP k.val n x ↔ ∃ j, x = (slotR (n := n) k h).emb j := by
  rw [unit_iff]; unfold slotP
  have : (x 2).val < 512 := (x 2).isLt
  simp only [Fin.forall_fin_succ, Fin.forall_fin_zero_pi]
  constructor
  · rintro ⟨a, b⟩
    exact ⟨⟨a.ge, a.trans_lt (Nat.lt_succ_self _)⟩, ⟨Nat.zero_le _, by show (x 1).val < 0 + n; omega⟩, ⟨Nat.zero_le _, by show (x 2).val < 0 + 512; omega⟩, fun i => i.elim0⟩
  · rintro ⟨⟨a, a'⟩, ⟨_, b⟩, _⟩
    have h1 : k.val ≤ (x 0).val := a
    have h2 : (x 0).val < k.val + 1 := a'
    have h3 : (x 1).val < 0 + n := b
    exact ⟨by omega, by omega⟩
theorem slab_iff (h : Fin 8) (x : S8x1024x128.Idx) : slabP h.val x ↔ ∃ j, x = (slab h).emb j := by
  rw [unit_iff]; unfold slabP
  have h1 : (x 1).val < 1024 := (x 1).isLt
  have h2 : (x 2).val < 128 := (x 2).isLt
  simp only [Fin.forall_fin_succ]
  constructor
  · intro a
    exact ⟨⟨a.ge, a.trans_lt (Nat.lt_succ_self _)⟩, ⟨Nat.zero_le _, by show (x 1).val < 0 + 1024; omega⟩, ⟨Nat.zero_le _, by show (x 2).val < 0 + 128; omega⟩, fun i => i.elim0⟩
  · rintro ⟨⟨a, a'⟩, _⟩
    have h1 : h.val ≤ (x 0).val := a
    have h2 : (x 0).val < h.val + 1 := a'
    omega
theorem head_iff (c : Dev nD) (h : Fin 8) (x : S1x1024x128x128.Idx) : headP c h.val x ↔ ∃ j, x = (headR c h).emb j := by
  rw [unit_iff, off1_eq]; unfold headP
  have h0 : (x 0).val < 1 := (x 0).isLt
  have h1 : (x 1).val < 1024 := (x 1).isLt
  have h2 : (x 3).val < 128 := (x 3).isLt
  simp only [Fin.forall_fin_succ]
  constructor
  · intro a
    exact ⟨⟨Nat.zero_le _, by show (x 0).val < 0 + 1; omega⟩, ⟨Nat.zero_le _, by show (x 1).val < 0 + 1024; omega⟩, ⟨a.ge, a.trans_lt (Nat.lt_succ_self _)⟩, ⟨Nat.zero_le _, by show (x 3).val < 0 + 128; omega⟩, fun i => i.elim0⟩
  · rintro ⟨_, _, ⟨a, a'⟩, _⟩
    have h1 : 8 * c.val + h.val ≤ (x 2).val := a
    have h2 : (x 2).val < 8 * c.val + h.val + 1 := a'
    omega

/-- An element of a rectangle by its coordinates. -/
theorem emb_val {s : Shape} (off size : Fin s.rank → ℕ) (h : ∀ a, off a + size a ≤ s.size a) (j : (Rect.unit off size h).shape.Idx) (a : Fin s.rank) :
    ((Rect.unit off size h).emb j a).val = off a + (j a).val := ValueKit.rect_emb_unit_val ..

variable (I : Ins F) (K : Dev nD × CK → ℕ)

theorem duty_mem (c : Dev nD) (κ) : (0 : Fin 4) ∈ (Rd I).duties (cell c (Option.some κ)) 0 := by
  rw [duties_eq]; exact Finset.mem_singleton_self _

/-! ## Waits -/

set_option maxRecDepth 100000 in
/-- A wait on one of the device's cells: the payload and the counter come back. -/
theorem wait_cell (c : Dev nD) (κ) (n : ℕ) (hlv : ∀ i < 20, n ≤ i → lvK (Option.some κ) < lvK (dueK i))
    {sp sp' : Space} {s : Shape} {e : EltTy} {src : Memref sig .tc sp s e} {dst : Memref sig .tc sp' s e} {hsrc hdst}
    {α : Type} {Q : α → sProp 𝕄} {k : PUnit → Prog (TpuEff nD τ sig (Elt F) Λ₀ .tc) α} (hN : dst.view.dmaCredit = amt (Option.some κ)) :
    iprop(env I K ∗ waiting (Option.some κ) c ∗ ow (F := F) c n)
      ⊢ iprop(((pay I c (Option.some κ) 0 ∗ semVal (cell c (Option.some κ)) 0 ∗ ow (F := F) c n) -∗ run c (k ⟨⟩) Q)
          -∗ run c (.op (.waitDma2 (dq κ) src dst hsrc hdst) k) Q) := by
  unfold waiting ow run
  iintro ⟨#He, ⟨Hat, Hc⟩, ⟨%W, Ho⟩⟩ Hk
  iapply (Rounds.wp_wait_rest_token 𝒱₀ ER (Rd I) (c : Thread nD τ) none (κ := K (c, Option.some κ))
      (wpE_waitDma2_eq 𝒱₀ (c : Thread nD τ) none Set.univ) (Set.mem_univ _) () (O := owed c n) (W := W) (R := 0) (m := 0) (T := ∅)
      (by rw [Nat.zero_add]; exact hN.trans (expect_eq I c (Option.some κ)).symm)) $$ [Hc Ho Hat]
  · isplitr; · iapply (env_inv I K c (Option.some κ)); iexact He
    isplitl [Hc]; · rw [show dst.view.dmaCredit = need (Option.some κ) from hN]; iexact Hc
    isplitl [Ho]; · iexact Ho
    isplitr
    · iapply (mayWait c (semOf (Option.some κ)) n (lvK (Option.some κ)) (fun u => (lv_cell c (Option.some κ) u).le) fun i h1 h2 => hlv i h2 h1)
      iapply (env_lev I K); iexact He
    iexact Hat
  iintro ⟨Ho, Hat, -, Hpay⟩
  ihave Hp := (Entails.of_eq ((rest_eq I c (Option.some κ)).trans (bigSep_singleton (i := (0 : Fin 4)) (Φ := fun d => pay I c (Option.some κ) d)))) $$ Hpay
  imod (Rounds.cell_close ER (Rd I) (Set.mem_univ (K (c, Option.some κ))) (fun h => h) (R := 0 + 1) (duties_later I (cell c (Option.some κ)))) $$ [Hat] with Hz
  · isplitr; · iapply (env_inv I K c (Option.some κ)); iexact He
    iexact Hat
  iapply Hk
  isplitl [Hp]; · iexact Hp
  isplitl [Hz]; · iexact Hz
  iexists _; iexact Ho

/-! ## The copies in -/

theorem head_cast (d : Dev nD) (h : Fin 8) (j : S1024x128.Idx) (a : Fin 4) :
    ((headR d h).emb (Shape.reshapeEquiv squeezes_S1x1024x1x128_S1024x128.numel_eq j) a).val = (![0, (j 0).val, 8 * d.val + h.val, (j 1).val] : Fin 4 → ℕ) a := by
  rw [show Shape.reshapeEquiv squeezes_S1x1024x1x128_S1024x128.numel_eq j = ix4 (n0 := 1) (n1 := 1024) (n2 := 1) (n3 := 128) 0 (j 0) 0 (j 1) from
    Shape.reshapeEquiv_eq_of_rowMajor _ (by
      rw [Shape.rowMajor_val_four, Shape.rowMajor_val_two]
      show (((0 * 1024 + (j 0).val) * 1 + 0) * 128 + (j 1).val) = (j 0).val * 128 + (j 1).val
      omega), emb_val]
  refine (congrArg (· + _) (congrFun (off1_eq d h) a)).trans ?_
  fin_cases a
  · rfl
  · exact Nat.zero_add _
  · exact Nat.add_zero _
  · exact Nat.zero_add _

theorem slab_cast (h : Fin 8) (j : S1024x128.Idx) (a : Fin 3) :
    ((slab h).emb (Shape.reshapeEquiv squeezes_S1x1024x128_S1024x128.numel_eq j) a).val = (![h.val, (j 0).val, (j 1).val] : Fin 3 → ℕ) a := by
  rw [show Shape.reshapeEquiv squeezes_S1x1024x128_S1024x128.numel_eq j = ix3 (n0 := 1) (n1 := 1024) (n2 := 128) 0 (j 0) (j 1) from
    Shape.reshapeEquiv_eq_of_rowMajor _ (by
      rw [Shape.rowMajor_val_three, Shape.rowMajor_val_two]
      show ((0 * 1024 + (j 0).val) * 128 + (j 1).val) = (j 0).val * 128 + (j 1).val
      omega), emb_val]
  fin_cases a
  · exact Nat.add_zero _
  · exact Nat.zero_add _
  · exact Nat.zero_add _

/-- The head's source, contents and all. -/
def headPart (v : Bool) (c : Dev nD) (h : Fin 8) : sProp 𝕄 :=
  part c (inM v) fullShare (headP c h.val) (headP c h.val) (nat4 fun _ x h y => kvIn I v c x h y)

theorem copy_one (v : Bool) (c : Dev nD) (h : Fin 8) {hsrc hdst hsem} {α : Type} {Q : α → sProp 𝕄} {k : PUnit → Prog (TpuEff nD τ sig (Elt F) Λ₀ .tc) α} :
    iprop(env I K ∗ toCopy v h c ∗ headPart I v c h ∗ some (F := F) c (fM v) (slabP h.val))
      ⊢ iprop((waiting (kv v h) c -∗ run c (k ⟨⟩) Q)
          -∗ run c (.op (.enqueueDma (headM (inM v) c h) (.here (slabM (fM v) h)) (.dma (kvSem (kvIx v h))) hsrc hdst hsem) k) Q) := by
  unfold toCopy headPart waiting
  iintro ⟨#He, ⟨Ht, Hat⟩, Hs, Hd⟩ Hk
  iapply (copy_owns (Rd I) c (sem := semOf (kv v h)) (src := headM (inM v) c h) (dst := slabM (fM v) h) (hsem := hsem) (κ := K (c, kv v h)) (q := fullShare)
      (Y := fun j => (nat4 fun _ x h y => kvIn I v c x h y) ((headR c h).emb (Shape.reshapeEquiv squeezes_S1x1024x1x128_S1024x128.numel_eq j)))
      (d := 0) (duty_mem I c _) hcrd (by cases v <;> rfl) (amount_eq I c (kv v h) 0) (by
        refine BIBase.Entails.trans ?_ (Entails.of_eq (payload_eq I c (kv v h) 0).symm)
        show _ ⊢ kvPay I v c h
        unfold kvPay
        refine BI.sep_mono ?_ ?_
        · refine (owns_squeeze c _ fullShare _ _ _ (fun i => kvIn I v c (i 1).val (8 * c.val + h.val) (i 2).val) ?_).trans
            (owns_part c (fM v) fullShare _ _ _ (slab h) (fun _ => rfl) _ (slab_iff h) (fun _ h => h) ?_)
          · intro j
            have e := slab_cast h j
            show kvIn I v c _ _ _ = kvIn I v c _ _ _
            have e1 := head_cast c h j 1
            have e2 := head_cast c h j 2
            have e3 := head_cast c h j 3
            have f1 := e 1
            have f2 := e 2
            rw [emb_val] at f1 f2
            rw [e1, e2, e3]
            show kvIn I v c (j 0).val (8 * c.val + h.val) (j 1).val = _
            rw [show (j 0).val = _ from f1.symm, show (j 1).val = _ from f2.symm]
            exact congrArg₂ (fun a b => kvIn I v c a _ b) (Nat.zero_add _) (Nat.zero_add _)
          · intro j _
            show kvIn I v c (j 1).val (8 * c.val + h.val) (j 2).val = kvIn I v c ((slab h).emb j 1).val (8 * c.val + ((slab h).emb j 0).val) ((slab h).emb j 2).val
            rw [emb_val, emb_val, emb_val]
            have : (j 0).val < 1 := (j 0).isLt
            show _ = kvIn I v c (0 + (j 1).val) (8 * c.val + (h.val + (j 0).val)) (0 + (j 2).val)
            rw [Nat.zero_add, Nat.zero_add, show (j 0).val = 0 by omega, Nat.add_zero]
        · refine (owns_squeeze c _ fullShare _ _ _ (fun i => (nat4 fun _ x h y => kvIn I v c x h y) ((headR c h).emb i)) (fun j => rfl)).trans
            (owns_part c (inM v) fullShare _ _ _ (headR c h) (fun _ => rfl) _ (head_iff c h) (fun _ h => h) (fun j _ => rfl)))) $$ [Ht Hs Hd]
  · isplitr; · iapply (env_inv I K c (kv v h)); iexact He
    isplitl [Hs]
    · iapply (squeeze_owns c ((inM v).slice (headR c h) (fun _ => rfl)) fullShare S1024x128 squeezes_S1x1024x1x128_S1024x128 (fun i => (nat4 fun _ x h y => kvIn I v c x h y) ((headR c h).emb i)))
      iapply (part_owns c (inM v) fullShare _ _ _ (headR c h) (fun _ => rfl) (head_iff c h) (fun j => (head_iff c h _).mpr ⟨j, rfl⟩)); iexact Hs
    isplitl [Hd]
    · ihave H := (some_owns c (fM v) _ (slab h) (fun _ => rfl) (slab_iff h)) $$ Hd
      icases H with ⟨%Y, H⟩
      iexists _
      iapply (squeeze_owns c ((fM v).slice (slab h) (fun _ => rfl)) fullShare S1024x128 squeezes_S1x1024x128_S1024x128 Y); iexact H
    isplitl [Ht]; · iexact Ht
    iapply (env_reached I K c (kv v h)); iexact He
  iintro Hc
  iapply Hk
  isplitl [Hat]; · iexact Hat
  iexact Hc

end Cert.KernelIdeal.Att
end
-- ==== Proof.Steps2.lean ====
/- The steps of the body, continued: the attention, the products, and the steps of the exchanges. -/
module

public import proofs.«01_k».proof.Proof.Steps

@[expose] public section

set_option maxRecDepth 100000

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F) (K : Dev nD × CK → ℕ)

/-- Every element. -/
abbrev all {sh : Shape} : sh.Idx → Prop := fun _ => True
/-- The heads taken in so far. -/
abbrev upto (h : ℕ) : S8x1024x128.Idx → Prop := fun x => (x 0).val < h
/-- One half of the columns. -/
def colP (s : Bool) : S1024x1024.Idx → Prop := fun x => c0 s ≤ (x 1).val ∧ (x 1).val < c0 s + 512
/-- 512 rows, and 256 rows in the columns of one head. -/
def rows (lo : ℕ) : S1024x1024.Idx → Prop := fun x => lo ≤ (x 0).val ∧ (x 0).val < lo + 512

theorem run_ret (c : Dev nD) {α : Type} (a : α) (Q : α → sProp 𝕄) : Q a ⊢ run c (.ret a) Q := by
  unfold run; rw [wp_ret]; iintro H; imodintro; iexact H
theorem run_bind (c : Dev nD) {α β : Type} (p : Prog (TpuEff nD τ sig (Elt F) Λ₀ .tc) α) (k : α → Prog (TpuEff nD τ sig (Elt F) Λ₀ .tc) β) (Q : β → sProp 𝕄) :
    (run c (p >>= k) Q : sProp 𝕄) = run c p fun a => run c (k a) Q := wp_bind ..

/-! ## Taking in a head -/

theorem head_store (v : Bool) (c : Dev nD) (h : Fin 8) (j : S1x1024x128.Idx) :
    k0_pay3 (F := F) (fun j => (nat3 fun h x y => kvIn I v c x (8 * c.val + h) y : S8x1024x128.Idx → F .f32) ((slab h).emb j)) j
      = nat3 (fun h x y => hd (kvIn I v c) (8 * c.val + h) x y) ((slab h).emb j) := by
  have e : (fun j => (nat3 fun h x y => kvIn I v c x (8 * c.val + h) y : S8x1024x128.Idx → F .f32) ((slab h).emb j))
      = nat3 fun _ a b => kvIn I v c a (8 * c.val + h.val) b := funext fun j => by
    have : (j 0).val < 1 := (j 0).isLt
    show kvIn I v c _ (8 * c.val + _) _ = _
    rw [emb_val, emb_val, emb_val]
    show kvIn I v c (0 + (j 1).val) (8 * c.val + (h.val + (j 0).val)) (0 + (j 2).val) = _
    rw [Nat.zero_add, Nat.zero_add, show (j 0).val = 0 by omega, Nat.add_zero]
  refine (congrArg (fun z => k0_pay3 (F := F) z j) e).trans ((head_eq _ _ j).trans ?_)
  have : (j 0).val < 1 := (j 0).isLt
  show _ = hd (kvIn I v c) (8 * c.val + _) _ _
  rw [emb_val, emb_val, emb_val]
  show _ = hd (kvIn I v c) (8 * c.val + (h.val + (j 0).val)) (0 + (j 1).val) (0 + (j 2).val)
  rw [Nat.zero_add, Nat.zero_add, show (j 0).val = 0 by omega, Nat.add_zero]

theorem upto_succ (h : Fin 8) (x : S8x1024x128.Idx) (hx : upto (h.val + 1) x) : (∃ j, x = (slab h).emb j) ∨ upto h.val x := by
  by_cases hh : (x 0).val = h.val
  · exact Or.inl ((slab_iff h x).mp hh)
  · exact Or.inr (by have : (x 0).val < h.val + 1 := hx; show (x 0).val < h.val; omega)

theorem takeHead_spec (c : Dev nD) (h : Fin 8) (n : ℕ) (hlv : ∀ i < 20, n ≤ i → 0 < lvK (dueK i)) (Φ : PUnit → sProp 𝕄) :
    iprop(env I K ∗ waiting (kv false h) c ∗ waiting (kv true h) c ∗ ow (F := F) c n
        ∗ part c ktM fullShare all (upto h.val) (nat3 (Kn I c)) ∗ part c vtM fullShare all (upto h.val) (nat3 (Vn I c)))
      ⊢ iprop(((kvPay I false c h ∗ kvPay I true c h ∗ semVal (cell c (kv false h)) 0 ∗ semVal (cell c (kv true h)) 0 ∗ ow (F := F) c n
          ∗ part c ktM fullShare all (upto (h.val + 1)) (nat3 (Kn I c)) ∗ part c vtM fullShare all (upto (h.val + 1)) (nat3 (Vn I c))) -∗ Φ ⟨⟩)
        -∗ run c (takeHead c h) Φ) := by
  unfold takeHead
  simp only [Prog.lift, Prog.bind_op, Prog.bind_ret, Prog.pure_eq_ret]
  iintro ⟨#He, Hw1, Hw2, Ho, Hkt, Hvt⟩ Hk
  iapply (wait_cell I K c (.inl (false, h)) n hlv (dst := slabM kfM h) rfl) $$ [Hw1 Ho]
  · isplitr; · iexact He
    isplitl [Hw1]; · iexact Hw1
    iexact Ho
  iintro ⟨Hp1, Hz1, Ho⟩
  iapply (wait_cell I K c (.inl (true, h)) n hlv (dst := slabM vfM h) rfl) $$ [Hw2 Ho]
  · isplitr; · iexact He
    isplitl [Hw2]; · iexact Hw2
    iexact Ho
  iintro ⟨Hp2, Hz2, Ho⟩
  unfold pay kvPay
  icases Hp1 with ⟨Hf1, Hs1⟩
  icases Hp2 with ⟨Hf2, Hs2⟩
  iapply (part_load c fullShare _ _ _ (r := slab h) (fun j => (slab_iff h _).mpr ⟨j, rfl⟩) (fun j => (slab_iff h _).mpr ⟨j, rfl⟩)) $$ Hf1
  iintro Hf1
  iapply (part_load_any c fullShare _ _ _ (r := slab h) (fun j => trivial)) $$ Hkt
  iintro Hkt
  iapply (part_store c _ _ (upto (h.val + 1)) _ (nat3 (Kn I c)) (r := slab h) (fun j => trivial) (fun j => head_store I false c h j)
    (fun x hx => (upto_succ h x hx).imp id fun h' => ⟨h', rfl⟩)) $$ Hkt
  iintro Hkt
  iapply (part_load c fullShare _ _ _ (r := slab h) (fun j => (slab_iff h _).mpr ⟨j, rfl⟩) (fun j => (slab_iff h _).mpr ⟨j, rfl⟩)) $$ Hf2
  iintro Hf2
  iapply (part_load_any c fullShare _ _ _ (r := slab h) (fun j => trivial)) $$ Hvt
  iintro Hvt
  iapply (part_store c _ _ (upto (h.val + 1)) _ (nat3 (Vn I c)) (r := slab h) (fun j => trivial) (fun j => head_store I true c h j)
    (fun x hx => (upto_succ h x hx).imp id fun h' => ⟨h', rfl⟩)) $$ Hvt
  iintro Hvt
  iapply run_ret
  iapply Hk
  isplitl [Hf1 Hs1]; · isplitl [Hf1] <;> iassumption
  isplitl [Hf2 Hs2]; · isplitl [Hf2] <;> iassumption
  isplitl [Hz1]; · iexact Hz1
  isplitl [Hz2]; · iexact Hz2
  isplitl [Ho]; · iexact Ho
  isplitl [Hkt]; · iexact Hkt
  iexact Hvt

/-! ## The attention -/

theorem queries_spec (c : Dev nD) (lo : ℕ) (hlo : 512 ∣ lo) (ox) (hx) (hox : ox = ![0, lo, 0]) (oq) (hq) (hoq : oq = ![lo, 0]) (pq)
    (Kq Kq' : S1024x1024.Idx → Prop) (hK : ∀ x, Kq' x → rows lo x ∨ Kq x) (Φ : PUnit → sProp 𝕄) :
    iprop(part c xM fullShare all all (nat3 fun _ a b => I.x c a b) ∗ part c wqM fullShare all all (nat2 (I.wq c)) ∗ part c qM fullShare all Kq (nat2 (Qn I c)))
      ⊢ iprop(((part c xM fullShare all all (nat3 fun _ a b => I.x c a b) ∗ part c wqM fullShare all all (nat2 (I.wq c)) ∗ part c qM fullShare all Kq' (nat2 (Qn I c))) -∗ Φ ⟨⟩)
        -∗ run c (queries ox hx oq hq pq) Φ) := by
  subst hox hoq
  unfold queries
  simp only [Prog.lift, Prog.bind_op, Prog.bind_ret, Prog.pure_eq_ret]
  iintro ⟨Hx, Hw, Hq⟩ Hk
  iapply (part_load c fullShare _ _ _ (fun j => trivial) (fun j => trivial)) $$ Hx
  iintro Hx
  iapply (part_load c fullShare _ _ _ (fun j => trivial) (fun j => trivial)) $$ Hw
  iintro Hw
  iapply (part_load_any c fullShare _ _ _ (fun j => trivial)) $$ Hq
  iintro Hq
  iapply (part_store c _ _ Kq' _ (nat2 (Qn I c)) (fun j => trivial) (fun j => by
      have e1 : (fun j => (nat3 fun _ a b => I.x c a b : S1x1024x1024.Idx → F .bf16) ((Rect.unit (s := S1x1024x1024) ![0, lo, 0] S1x512x1024.size hx).emb j))
          = nat3 fun _ a b => I.x c (lo + a) b := funext fun j => by
        show I.x c _ _ = _
        rw [emb_val, emb_val]
        show I.x c (lo + (j 1).val) (0 + (j 2).val) = _
        rw [Nat.zero_add]
      have e2 : (fun j => (nat2 (I.wq c) : S1024x1024.Idx → F .bf16) ((Rect.unit (s := S1024x1024) ![0, 0] S1024x1024.size inb_S1024x1024_S1024x1024_0_0).emb j))
          = nat2 (I.wq c) := funext fun j => by
        show I.wq c _ _ = _
        rw [emb_val, emb_val]
        show I.wq c (0 + (j 0).val) (0 + (j 1).val) = _
        rw [Nat.zero_add, Nat.zero_add]
      refine (congrArg₂ (fun a b => k0_pay2 (k0_pay1 a b) j) e1 e2).trans ((queries_eq I c lo hlo j).trans ?_)
      show _ = Qn I c _ _
      rw [emb_val, emb_val]
      show _ = Qn I c (lo + (j 0).val) (0 + (j 1).val)
      rw [Nat.zero_add])
    (fun x hx => (hK x hx).imp (fun h' => by
        rw [unit_iff, Fin.forall_fin_two]
        have : (x 1).val < 1024 := (x 1).isLt
        exact ⟨h', Nat.zero_le _, by show (x 1).val < 0 + 1024; omega⟩) fun h' => ⟨h', rfl⟩)) $$ Hq
  iintro Hq
  iapply run_ret
  iapply Hk
  isplitl [Hx]; · iexact Hx
  isplitl [Hw] <;> iassumption

theorem attn_spec (c : Dev nD) (lo h : ℕ) (hlo : 256 ∣ lo) (hh : h < 8) (r0) (hr0 : r0 = BitVec.ofNat 32 lo)
    (oq) (hq) (hoq : oq = ![lo, 128 * h]) (pq) (ok) (hk) (hok : ok = ![h, win (lo / 256), 0])
    (Kq : S1024x1024.Idx → Prop) (hKq : ∀ x : S1024x1024.Idx, lo ≤ (x 0).val → (x 0).val < lo + 256 → Kq x) (n : ℕ) (hn : h < n)
    (Kc Kc' : S1024x1024.Idx → Prop)
    (hK : ∀ x, Kc' x → (lo ≤ (x 0).val ∧ (x 0).val < lo + 256 ∧ 128 * h ≤ (x 1).val ∧ (x 1).val < 128 * h + 128) ∨ Kc x) (Φ : PUnit → sProp 𝕄) :
    iprop(part c qM fullShare all Kq (nat2 (Qn I c)) ∗ part c ktM fullShare all (upto n) (nat3 (Kn I c)) ∗ part c vtM fullShare all (upto n) (nat3 (Vn I c))
        ∗ part c cM fullShare all Kc (nat2 (Cn I c)))
      ⊢ iprop(((part c qM fullShare all Kq (nat2 (Qn I c)) ∗ part c ktM fullShare all (upto n) (nat3 (Kn I c)) ∗ part c vtM fullShare all (upto n) (nat3 (Vn I c))
          ∗ part c cM fullShare all Kc' (nat2 (Cn I c))) -∗ Φ ⟨⟩)
        -∗ run c (attn r0 oq hq pq ok hk) Φ) := by
  subst hoq hok hr0
  unfold attn
  simp only [Prog.lift, Prog.bind_op, Prog.bind_ret, Prog.pure_eq_ret]
  have hup : ∀ j, upto n ((Rect.unit (s := S8x1024x128) ![h, win (lo / 256), 0] S1x512x128.size hk).emb j) := fun j => by
    have : (j 0).val < 1 := (j 0).isLt
    show ((Rect.unit (s := S8x1024x128) ![h, win (lo / 256), 0] S1x512x128.size hk).emb j 0).val < n
    rw [emb_val]
    show h + (j 0).val < n
    omega
  have ek : ∀ f : ℕ → ℕ → ℕ → F .bf16, (fun j => (nat3 f : S8x1024x128.Idx → F .bf16) ((Rect.unit (s := S8x1024x128) ![h, win (lo / 256), 0] S1x512x128.size hk).emb j))
      = nat3 fun _ a b => f h (win (lo / 256) + a) b := fun f => funext fun j => by
    have : (j 0).val < 1 := (j 0).isLt
    show f _ _ _ = _
    rw [emb_val, emb_val, emb_val]
    show f (h + (j 0).val) (win (lo / 256) + (j 1).val) (0 + (j 2).val) = _
    rw [Nat.zero_add, show (j 0).val = 0 by omega, Nat.add_zero]
  iintro ⟨Hq, Hkt, Hvt, Hc⟩ Hk
  iapply (part_load c fullShare _ _ _ (fun j => trivial) (fun j => by
    have : (j 0).val < 256 := (j 0).isLt
    refine hKq _ ?_ ?_ <;> rw [emb_val]
    · exact Nat.le_add_right _ _
    · exact Nat.add_lt_add_left this _)) $$ Hq
  iintro Hq
  iapply (part_load c fullShare _ _ _ (fun j => trivial) hup) $$ Hkt
  iintro Hkt
  iapply (part_load c fullShare _ _ _ (fun j => trivial) hup) $$ Hvt
  iintro Hvt
  iapply (part_load_any c fullShare _ _ _ (fun j => trivial)) $$ Hc
  iintro Hc
  iapply (part_store c _ _ Kc' _ (nat2 (Cn I c)) (fun j => trivial) (fun j => by
      have e1 : (fun j => (nat2 (Qn I c) : S1024x1024.Idx → F .bf16) ((Rect.unit (s := S1024x1024) ![lo, 128 * h] S256x128.size hq).emb j))
          = nat2 fun a b => Qn I c (lo + a) (128 * h + b) := funext fun j => by
        show Qn I c _ _ = _
        rw [emb_val, emb_val]; rfl
      rw [e1, ek, ek, attn_eq I c lo h hlo j]
      show _ = Cn I c _ _
      rw [emb_val, emb_val]; rfl)
    (fun x hx => (hK x hx).imp (fun h' => by
        rw [unit_iff, Fin.forall_fin_two]
        exact ⟨⟨h'.1, h'.2.1⟩, h'.2.2.1, h'.2.2.2⟩) fun h' => ⟨h', rfl⟩)) $$ Hc
  iintro Hc
  iapply run_ret
  iapply Hk
  isplitl [Hq]; · iexact Hq
  isplitl [Hkt]; · iexact Hkt
  isplitl [Hvt] <;> iassumption

/-- What is known of the context: `A`, and the columns of the first `h` heads in 512 rows. -/
def ctx (A : S1024x1024.Idx → Prop) (lo h : ℕ) : S1024x1024.Idx → Prop := fun x => A x ∨ (rows lo x ∧ (x 1).val < 128 * h)

theorem attn2_spec (c : Dev nD) (lo h : ℕ) (hlo : 512 ∣ lo) (hh : h < 8) (b) (hb : Scalar.addi b 0#32 = BitVec.ofNat 32 lo ∧ Scalar.addi b 256#32 = BitVec.ofNat 32 (lo + 256))
    (oq) (hq) (hoq : ∀ r : Fin 2, oq (BitVec.ofNat 32 (256 * r.val)) = qoff lo h r) (pq) (ok) (hk) (hok : ∀ r : Fin 2, ok (BitVec.ofNat 32 (256 * r.val)) = koff lo h r)
    (Kq : S1024x1024.Idx → Prop) (hKq : ∀ x : S1024x1024.Idx, rows lo x → Kq x) (n : ℕ) (hn : h < n)
    (A : S1024x1024.Idx → Prop) (Φ : PUnit → sProp 𝕄) :
    iprop(part c qM fullShare all Kq (nat2 (Qn I c)) ∗ part c ktM fullShare all (upto n) (nat3 (Kn I c)) ∗ part c vtM fullShare all (upto n) (nat3 (Vn I c))
        ∗ part c cM fullShare all (ctx A lo h) (nat2 (Cn I c)))
      ⊢ iprop(((part c qM fullShare all Kq (nat2 (Qn I c)) ∗ part c ktM fullShare all (upto n) (nat3 (Kn I c)) ∗ part c vtM fullShare all (upto n) (nat3 (Vn I c))
          ∗ part c cM fullShare all (ctx A lo (h + 1)) (nat2 (Cn I c))) -∗ Φ ⟨⟩)
        -∗ run c (attn2 b oq hq pq ok hk) Φ) := by
  unfold attn2
  rw [run_bind]
  iintro ⟨Hq, Hkt, Hvt, Hc⟩ Hk
  iapply (attn_spec I c lo h (by omega) hh _ hb.1 _ (hq 0) (hoq 0) (pq 0) _ (hk 0) (hok 0) Kq (fun x h1 h2 => hKq x ⟨h1, by omega⟩) n hn (ctx A lo h)
    (fun x => ctx A lo h x ∨ (lo ≤ (x 0).val ∧ (x 0).val < lo + 256 ∧ 128 * h ≤ (x 1).val ∧ (x 1).val < 128 * h + 128)) (fun x hx => hx.symm)) $$ [Hq Hkt Hvt Hc]
  · isplitl [Hq]; · iexact Hq
    isplitl [Hkt]; · iexact Hkt
    isplitl [Hvt] <;> iassumption
  iintro ⟨Hq, Hkt, Hvt, Hc⟩
  iapply (attn_spec I c (lo + 256) h (by omega) hh _ hb.2 _ (hq 1) (hoq 1) (pq 1) _ (hk 1)
    ((hok 1).trans (by rw [show (lo + 256) / 256 = lo / 256 + 1 by omega]; rfl)) Kq (fun x h1 h2 => hKq x ⟨by omega, by omega⟩) n hn
    (fun x => ctx A lo h x ∨ (lo ≤ (x 0).val ∧ (x 0).val < lo + 256 ∧ 128 * h ≤ (x 1).val ∧ (x 1).val < 128 * h + 128)) (ctx A lo (h + 1)) (fun x hx => by
      unfold ctx rows at *
      rcases hx with hx | ⟨⟨h1, h2⟩, h3⟩
      · exact Or.inr (Or.inl (Or.inl hx))
      · by_cases h4 : (x 1).val < 128 * h
        · exact Or.inr (Or.inl (Or.inr ⟨⟨h1, h2⟩, h4⟩))
        · by_cases h5 : (x 0).val < lo + 256
          · exact Or.inr (Or.inr ⟨h1, h5, by omega, by omega⟩)
          · exact Or.inl ⟨by omega, by omega, by omega, by omega⟩)) $$ [Hq Hkt Hvt Hc]
  · isplitl [Hq]; · iexact Hq
    isplitl [Hkt]; · iexact Hkt
    isplitl [Hvt] <;> iassumption
  iexact Hk

/-! ## The products -/

theorem quad_spec (c : Dev nD) (lo : ℕ) (hlo : 512 ∣ lo) (s : Bool) (oc) (hc) (hoc : oc = ![lo, 0]) (ow) (hw) (how : ow = ![0, c0 s]) (oa) (ha) (hoa : oa = ![lo, c0 s]) (pa)
    (Kc : S1024x1024.Idx → Prop) (hKc : ∀ x, rows lo x → Kc x) (Ka Ka' Ob Kb Kb' : S1024x1024.Idx → Prop)
    (hKa : ∀ x, Ka' x → rowP s lo 512 x ∨ Ka x) (hOb : ∀ x, rowP s lo 512 x → Ob x) (hKb : ∀ x, Kb' x → rowP s lo 512 x ∨ Kb x) (Φ : PUnit → sProp 𝕄) :
    iprop(part c cM fullShare all Kc (nat2 (Cn I c)) ∗ part c woM fullShare all all (nat2 (I.wo c))
        ∗ part c aM fullShare (colP s) Ka (nat2 (An I 0 c)) ∗ part c bM fullShare Ob Kb (nat2 (Rn I 0 c)))
      ⊢ iprop(((part c cM fullShare all Kc (nat2 (Cn I c)) ∗ part c woM fullShare all all (nat2 (I.wo c))
          ∗ part c aM fullShare (colP s) Ka' (nat2 (An I 0 c)) ∗ part c bM fullShare Ob Kb' (nat2 (Rn I 0 c))) -∗ Φ ⟨⟩)
        -∗ run c (quad oc hc ow hw oa ha pa) Φ) := by
  subst hoc how hoa
  unfold quad
  simp only [Prog.lift, Prog.bind_op, Prog.bind_ret, Prog.pure_eq_ret]
  have hin : ∀ j, rowP s lo 512 ((Rect.unit (s := S1024x1024) ![lo, c0 s] S512x512.size ha).emb j) := fun j => (row_iff s lo 512 ha _).mpr ⟨j, rfl⟩
  have e1 : (fun j => (nat2 (Cn I c) : S1024x1024.Idx → F .bf16) ((Rect.unit (s := S1024x1024) ![lo, 0] S512x1024.size hc).emb j))
      = nat2 fun a b => Cn I c (lo + a) b := funext fun j => by
    show Cn I c _ _ = _
    rw [emb_val, emb_val]
    show Cn I c (lo + (j 0).val) (0 + (j 1).val) = _
    rw [Nat.zero_add]
  have e2 : (fun j => (nat2 (I.wo c) : S1024x1024.Idx → F .bf16) ((Rect.unit (s := S1024x1024) ![0, c0 s] S1024x512.size hw).emb j))
      = nat2 fun a b => I.wo c a (c0 s + b) := funext fun j => by
    show I.wo c _ _ = _
    rw [emb_val, emb_val]
    show I.wo c (0 + (j 0).val) (c0 s + (j 1).val) = _
    rw [Nat.zero_add]
  iintro ⟨Hc, Hw, Ha, Hb⟩ Hk
  iapply (part_load c fullShare _ _ _ (fun j => trivial) (fun j => hKc _ (by
    have : (j 0).val < 512 := (j 0).isLt
    refine ⟨?_, ?_⟩ <;> rw [emb_val]
    · exact Nat.le_add_right _ _
    · exact Nat.add_lt_add_left this _))) $$ Hc
  iintro Hc
  iapply (part_load c fullShare _ _ _ (fun j => trivial) (fun j => trivial)) $$ Hw
  iintro Hw
  iapply (part_load_any c fullShare _ _ _ (fun j => (hin j).2.2)) $$ Ha
  iintro Ha
  iapply (part_store c _ _ Ka' _ (nat2 (An I 0 c)) (fun j => (hin j).2.2) (fun j => by
      rw [e1, e2, quad_eq I c lo hlo s j]
      show _ = Pn I c _ _
      rw [emb_val, emb_val]; rfl)
    (fun x hx => (hKa x hx).imp (row_iff s lo 512 ha x).mp fun h' => ⟨h', rfl⟩)) $$ Ha
  iintro Ha
  iapply (part_load_any c fullShare _ _ _ (fun j => hOb _ (hin j))) $$ Hb
  iintro Hb
  iapply (part_store c _ _ Kb' _ (nat2 (Rn I 0 c)) (fun j => hOb _ (hin j)) (fun j => by
      rw [e1, e2, pay44_eq, quad_eq I c lo hlo s j]
      show _ = rnd1 (Pn I c _ _)
      rw [emb_val, emb_val]; rfl)
    (fun x hx => (hKb x hx).imp (row_iff s lo 512 ha x).mp fun h' => ⟨h', rfl⟩)) $$ Hb
  iintro Hb
  iapply run_ret
  iapply Hk
  isplitl [Hc]; · iexact Hc
  isplitl [Hw]; · iexact Hw
  isplitl [Ha] <;> iassumption

/-! ## The barrier -/

theorem four_sep (Ψ : Fin 4 → sProp 𝕄) : bigSep Finset.univ Ψ = iprop(Ψ 0 ∗ Ψ 1 ∗ Ψ 2 ∗ Ψ 3) := by
  have hu : (Finset.univ : Finset (Fin 4)) = {0, 1, 2, 3} := by decide
  rw [hu, bigSep_insert (by decide), bigSep_insert (by decide), bigSep_insert (by decide), bigSep_singleton]; rfl

theorem signal_spec (c : Dev nD) (j : Fin 4) (p : Dev nD) (hp : p = peer false j c) {α : Type} {Q : α → sProp 𝕄} {k : PUnit → Prog (TpuEff nD τ sig (Elt F) Λ₀ .tc) α} :
    iprop(env I K ∗ dutyTok ER (cell (peer false j c) bar) 0 j ∗ barPay (F := F) c j ∗ ow (F := F) c j.val)
      ⊢ iprop((ow (F := F) c (j.val + 1) -∗ run c (k ⟨⟩) Q) -∗ run c (semSignalWord p barS.sem 1#32 >>= k) Q) := by
  subst hp
  simp only [semSignalWord, Prog.lift, Prog.bind_op, Prog.bind_ret, Prog.pure_eq_ret]
  unfold ow run
  iintro ⟨#He, Ht, Hp, ⟨%W, Ho⟩⟩ Hk
  have hj := j.isLt
  have hs : owed c j.val = owed c (j.val + 1) + tallyAt (cell (peer false j c) bar) () 1 := by
    rw [owed_succ c j.val (by omega)]
    unfold dueTo dueK
    rw [if_pos hj, if_pos hj, show (Fin.ofNat 4 j.val) = j from Fin.ext (Nat.mod_eq_of_lt hj)]; rfl
  iapply (Rounds.wp_signal 𝒱₀ ER (Rd I) (c : Thread nD τ) none (dst := (peer false j c : Thread nD τ)) (κ := K (peer false j c, bar))
      (d := j) (by rw [duties_eq I _ bar]; exact Finset.mem_univ _) ((amount_eq I (peer false j c) bar j).trans (by decide)) () (owed c (j.val + 1)) hs)
    $$ [Ho Ht Hp]
  · isplitr; · iapply (env_inv I K (peer false j c) bar); iexact He
    isplitl [Ho]; · iexact Ho
    isplitl [Ht]; · iexact Ht
    isplitl [Hp]
    · iapply (Entails.of_eq (show barPay (F := F) c j = (Rd I).payload (cell (peer false j c) bar) 0 j by
        rw [payload_eq]; show _ = barPay (F := F) (peer false j (peer false j c)) j; rw [peer_peer]))
      iexact Hp
    iapply (env_reached I K (peer false j c) bar); iexact He
  iintro Ho
  iapply Hk
  iexists W; iexact Ho

theorem barWait_spec (c : Dev nD) (Φ : PUnit → sProp 𝕄) :
    iprop(env I K ∗ waiting bar c ∗ ow (F := F) c 4)
      ⊢ iprop((((barPay (F := F) (peer false 0 c) 0 ∗ barPay (F := F) (peer false 1 c) 1 ∗ barPay (F := F) (peer false 2 c) 2 ∗ barPay (F := F) (peer false 3 c) 3)
          ∗ semVal (cell c bar) 0 ∗ ow (F := F) c 4) -∗ Φ ⟨⟩) -∗ run c (semWaitWord barS.sem 4#32) Φ) := by
  simp only [semWaitWord, Prog.lift, Prog.bind_op, Prog.bind_ret, Prog.pure_eq_ret]
  unfold waiting ow run
  iintro ⟨#He, ⟨Hat, Hc⟩, ⟨%W, Ho⟩⟩ Hk
  iapply (Rounds.wp_wait_rest_token 𝒱₀ ER (Rd I) (c : Thread nD τ) none (κ := K (c, bar))
      (wpE_semWait_eq 𝒱₀ (c : Thread nD τ) none Set.univ) (Set.mem_univ _) () (O := owed c 4) (W := W) (R := 0) (m := 0) (T := ∅)
      (by rw [Nat.zero_add]; exact (show (4#32).toNat = need bar from rfl).trans (expect_eq I c bar).symm)) $$ [Hc Ho Hat]
  · isplitr; · iapply (env_inv I K c bar); iexact He
    isplitl [Hc]; · iexact Hc
    isplitl [Ho]; · iexact Ho
    isplitr
    · iapply (mayWait c (semOf bar) 4 1 (fun u => (lv_cell c bar u).le) fun i h1 h2 => (by decide : ∀ i < 20, 4 ≤ i → 1 < lvK (dueK i)) i h2 h1)
      iapply (env_lev I K); iexact He
    iexact Hat
  iintro ⟨Ho, Hat, -, Hpay⟩
  ihave Hp := (Entails.of_eq ((rest_eq I c bar).trans (four_sep fun d => pay I c bar d))) $$ Hpay
  imod (Rounds.cell_close ER (Rd I) (Set.mem_univ (K (c, bar))) (fun h => h) (R := 0 + 1) (duties_later I (cell c bar))) $$ [Hat] with Hz
  · isplitr; · iapply (env_inv I K c bar); iexact He
    iexact Hat
  iapply run_ret (F := F) c ⟨⟩ Φ
  iapply Hk
  isplitl [Hp]; · iexact Hp
  isplitl [Hz]; · iexact Hz
  iexists _; iexact Ho

/-! ## The reduce-scatters -/

theorem due_tokens (c : Dev nD) (n : ℕ) (hn : n < 20) (e : Dev nD) (κ : CK) (he : dueTo c n = e) (hκ : dueK n = κ) :
    owed c n = owed c (n + 1) + tallyAt (cell e κ) () (amt κ) := by
  rw [owed_succ c n hn, he, hκ]

/-- What a send leaves: its source rows and what stays behind of the rows they were part of. -/
theorem rsSend_spec (s : Bool) (k : Fin 4) (c : Dev nD) {n : ℕ} (hn : n = half k.val) (e : Dev nD) (he : e = peer s k c) (o) (h) (ho : o = ![give s k c, c0 s]) (w) (h') (sq) (w')
    (i : ℕ) (hi : i < 20) (h1 : dueTo c i = peer s k c) (h2 : dueK i = xfer false s true k) (Φ : PUnit → sProp 𝕄) :
    iprop(env I K ∗ toSend false s k c ∗ part c bM fullShare (rowP s (give s k c) (half k.val)) (rowP s (give s k c) (half k.val)) (nat2 (Rn I k.val c))
        ∗ some (F := F) (peer s k c) (rM s) (slotP k.val (half k.val)) ∗ ow (F := F) c i)
      ⊢ iprop(((waiting (xfer false s false k) c ∗ ow (F := F) c (i + 1)) -∗ Φ ⟨⟩) -∗ run c (rsSend s k (n := n) e o h w h' sq w') Φ) := by
  subst ho hn
  unfold rsSend toSend waiting ow
  simp only [Prog.lift]
  iintro ⟨#He, ⟨Ht1, Ht2, Hat⟩, Hs, Hd, ⟨%W, Ho⟩⟩ Hk
  have hcast : ∀ j : (SR (half k.val)).Idx, Shape.reshapeEquiv sq.numel_eq j = ix3 (n0 := 1) (n1 := half k.val) (n2 := 512) 0 (j 0) (j 1) := fun j =>
    Shape.reshapeEquiv_eq_of_rowMajor _ (by
      rw [Shape.rowMajor_val_three, Shape.rowMajor_val_two]
      show (0 * half k.val + (j 0).val) * 512 + (j 1).val = (j 0).val * 512 + (j 1).val
      omega)
  iapply (send_owns (Rd I) c (peer s k c) e he (sS := semOf (xfer false s false k)) (sem := semOf (xfer false s true k))
      (src := bM.slice (srcR ![give s k c, c0 s] h) (fun _ => rfl)) (dst := slotM s k h' sq) (κ₁ := K (c, xfer false s false k)) (κ₂ := K (peer s k c, xfer false s true k)) (q := fullShare)
      (Y := fun j => (nat2 (Rn I k.val c) : S1024x1024.Idx → F .bf16) ((srcR ![give s k c, c0 s] h).emb j)) (d₁ := 0) (d₂ := 0) (W := W)
      (duty_mem I c _) (duty_mem I (peer s k c) _) (amt (xfer false s true k)) (by cases s <;> rfl) (amount_eq I c (xfer false s false k) 0)
      (amount_eq I (peer s k c) (xfer false s true k) 0) (owed c (i + 1)) (due_tokens c i hi _ _ h1 h2)
      (by
        refine BIBase.Entails.trans ?_ (Entails.of_eq (payload_eq I c (xfer false s false k) 0).symm)
        show _ ⊢ rsSendPay s k c
        exact (owns_part c bM fullShare _ (rowP s (give s k c) (half k.val)) (nat2 (Rn I k.val c)) (srcR ![give s k c, c0 s] h) (fun _ => rfl) _
          (row_iff s _ _ h) (fun _ h => h) (fun j _ => rfl)).trans (some_intro c bM _ _ _))
      (by
        refine BIBase.Entails.trans ?_ (Entails.of_eq (payload_eq I (peer s k c) (xfer false s true k) 0).symm)
        show _ ⊢ rsRecvPay I s k (peer s k c)
        refine (owns_squeeze (peer s k c) _ fullShare _ _ _ (fun x => Rn I k.val c (give s k c + (x 1).val) (c0 s + (x 2).val)) ?_).trans
          (owns_part (peer s k c) (rM s) fullShare _ _ _ (slotR k h') (fun _ => rfl) _ (slot_iff k _ h') (fun _ h => h) ?_)
        · intro j
          rw [hcast]
          show Rn I k.val c _ _ = Rn I k.val c _ _
          rw [emb_val, emb_val]; rfl
        · intro j _
          show Rn I k.val c _ _ = Rn I k.val (peer s k (peer s k c)) (keep s k (peer s k c) + _) (c0 s + _)
          rw [peer_peer, keep_peer, emb_val, emb_val]
          show _ = Rn I k.val c (give s k c + (0 + (j 1).val)) (c0 s + (0 + (j 2).val))
          rw [Nat.zero_add, Nat.zero_add]))
    $$ [Hs Hd Ho Ht1 Ht2]
  · isplitr; · iapply (env_inv I K c (xfer false s false k)); iexact He
    isplitr; · iapply (env_inv I K (peer s k c) (xfer false s true k)); iexact He
    isplitl [Hs]
    · iapply (part_owns c bM fullShare _ _ _ (srcR ![give s k c, c0 s] h) (fun _ => rfl) (row_iff s _ _ h) (fun j => (row_iff s _ _ h _).mpr ⟨j, rfl⟩)); iexact Hs
    isplitl [Hd]
    · ihave H := (some_owns (peer s k c) (rM s) _ (slotR k h') (fun _ => rfl) (slot_iff k _ h')) $$ Hd
      icases H with ⟨%Y, H⟩
      iexists _
      iapply (squeeze_owns (peer s k c) ((rM s).slice (slotR k h') (fun _ => rfl)) fullShare (SR (half k.val)) sq Y); iexact H
    isplitl [Ho]; · iexact Ho
    isplitl [Ht1]; · iexact Ht1
    isplitr; · iapply (env_reached I K c (xfer false s false k)); iexact He
    isplitl [Ht2]; · iexact Ht2
    iapply (env_reached I K (peer s k c) (xfer false s true k)); iexact He
  iintro ⟨Hc, Ho⟩
  iapply run_ret
  iapply Hk
  isplitl [Hat Hc]
  · isplitl [Hat]; · iexact Hat
    iexact Hc
  iexists W; iexact Ho

theorem rsWait_spec (s : Bool) (k : Fin 4) (c : Dev nD) {n : ℕ} (hn : n = half k.val) (o) (h) (w) (h') (sq) (w')
    (i : ℕ) (hlv : ∀ j < 20, i ≤ j → lvK (xfer false s true k) < lvK (dueK j)) (Φ : PUnit → sProp 𝕄) :
    iprop(env I K ∗ waiting (xfer false s true k) c ∗ ow (F := F) c i)
      ⊢ iprop(((rsRecvPay I s k c ∗ semVal (cell c (xfer false s true k)) 0 ∗ ow (F := F) c i) -∗ Φ ⟨⟩) -∗ run c (rsWait s k (n := n) o h w h' sq w') Φ) := by
  subst hn
  unfold rsWait
  simp only [Prog.lift]
  iintro H Hk
  iapply (wait_cell I K c (.inr (false, s, true, k)) i hlv (dst := slotM s k h' sq) (by cases s <;> rfl)) $$ H
  iintro H
  iapply run_ret
  iapply Hk; iexact H

theorem rsDone_spec (s : Bool) (k : Fin 4) (c : Dev nD) {n : ℕ} (hn : n = half k.val) (o) (h) (w) (h') (sq) (w')
    (i : ℕ) (hlv : ∀ j < 20, i ≤ j → lvK (xfer false s false k) < lvK (dueK j)) (Φ : PUnit → sProp 𝕄) :
    iprop(env I K ∗ waiting (xfer false s false k) c ∗ ow (F := F) c i)
      ⊢ iprop(((rsSendPay (F := F) s k c ∗ semVal (cell c (xfer false s false k)) 0 ∗ ow (F := F) c i) -∗ Φ ⟨⟩) -∗ run c (rsDone s k (n := n) o h w h' sq w') Φ) := by
  subst hn
  unfold rsDone
  simp only [Prog.lift]
  iintro H Hk
  iapply (wait_cell I K c (.inr (false, s, false, k)) i hlv (dst := bM.slice (srcR o h) (fun _ => rfl)) (by rfl)) $$ H
  iintro H
  iapply run_ret
  iapply Hk; iexact H

theorem rsAdd_spec (s : Bool) (k : Fin 4) (c : Dev nD) {n : ℕ} (hn : n = half k.val) (hs) (hs1) (o) (h) (ho : o = ![keep s k c, c0 s]) (p) (h') {sum} {rnd} (hA : IsAdd (F := F) (n := n) sum rnd)
    (Ka : S1024x1024.Idx → Prop) (hKa : ∀ x, rowP s (keep s k c) (half k.val) x → Ka x) (Kb) (Xb) (Φ : PUnit → sProp 𝕄) :
    iprop(part c aM fullShare (colP s) Ka (nat2 (An I k.val c)) ∗ rsRecvPay I s k c ∗ part c bM fullShare (rowP s (keep s k c) (half k.val)) Kb Xb)
      ⊢ iprop(((part c aM fullShare (colP s) (rowP s (keep s k c) (half k.val)) (nat2 (An I (k.val + 1) c)) ∗ rsRecvPay I s k c
          ∗ part c bM fullShare (rowP s (keep s k c) (half k.val)) (rowP s (keep s k c) (half k.val)) (nat2 (Rn I (k.val + 1) c))) -∗ Φ ⟨⟩)
        -∗ run c (rsAdd s k (n := n) hs hs1 o h p h' sum rnd) Φ) := by
  subst ho hn
  unfold rsAdd rsRecvPay
  simp only [Prog.lift, Prog.bind_op, Prog.bind_ret, Prog.pure_eq_ret]
  have hin : ∀ j, rowP s (keep s k c) (half k.val) ((srcR ![keep s k c, c0 s] h).emb j) := fun j => (row_iff s _ _ h _).mpr ⟨j, rfl⟩
  have hsl : ∀ j, slotP k.val (half k.val) ((slotR k h').emb j) := fun j => (slot_iff k _ h' _).mpr ⟨j, rfl⟩
  have hv : ∀ j : (SR (half k.val)).Idx, add1 ((nat2 (An I k.val c) : S1024x1024.Idx → F .f32) ((srcR ![keep s k c, c0 s] h).emb j))
      ((nat3 (fun _ x y => Ln I s k c x y) : S4x512x512.Idx → F .bf16) ((slotR k h').emb (ix3 (n0 := 1) (n1 := half k.val) (n2 := 512) 0 (j 0) (j 1))))
      = (nat2 (An I (k.val + 1) c) : S1024x1024.Idx → F .f32) ((srcR ![keep s k c, c0 s] h).emb j) := fun j => by
    show add1 (An I k.val c _ _) (Rn I k.val (peer s k c) (keep s k c + _) (c0 s + _)) = An I (k.val + 1) c _ _
    rw [emb_val, emb_val, emb_val, emb_val]
    show add1 (An I k.val c (keep s k c + (j 0).val) (c0 s + (j 1).val)) (Rn I k.val (peer s k c) (keep s k c + (0 + (j 0).val)) (c0 s + (0 + (j 1).val)))
      = An I (k.val + 1) c (keep s k c + (j 0).val) (c0 s + (j 1).val)
    rw [Nat.zero_add, Nat.zero_add, An_succ I s k c _ _ (j 1).isLt]
  iintro ⟨Ha, Hr, Hb⟩ Hk
  iapply (part_load c fullShare _ _ _ (fun j => (hin j).2.2) (fun j => hKa _ (hin j))) $$ Ha
  iintro Ha
  iapply (part_load c fullShare _ _ _ hsl hsl) $$ Hr
  iintro Hr
  iapply (part_load_any c fullShare _ _ _ (fun j => (hin j).2.2)) $$ Ha
  iintro Ha
  iapply (part_store c _ _ (rowP s (keep s k c) (half k.val)) _ (nat2 (An I (k.val + 1) c)) (fun j => (hin j).2.2) (fun j => (hA.sum_eq _ _ j).trans (hv j))
    (fun x hx => Or.inl ((row_iff s _ _ h x).mp hx))) $$ Ha
  iintro Ha
  iapply (part_load_any c fullShare _ _ _ hin) $$ Hb
  iintro Hb
  iapply (part_store c _ _ (rowP s (keep s k c) (half k.val)) _ (nat2 (Rn I (k.val + 1) c)) hin (fun j => (hA.rnd_eq _ _ j).trans (congrArg rnd1 (hv j)))
    (fun x hx => Or.inl ((row_iff s _ _ h x).mp hx))) $$ Hb
  iintro Hb
  iapply run_ret
  iapply Hk
  isplitl [Ha]; · iexact Ha
  isplitl [Hr] <;> iassumption

/-! ## The all-gathers -/

theorem place_spec (s : Bool) (c : Dev nD) (o) (h) (ho : o = ![keep s 3 c, c0 s]) (og) (hg) (hog : og = ![keep s 3 c, 0]) (p) (Φ : PUnit → sProp 𝕄) :
    iprop(part c bM fullShare (rowP s (keep s 3 c) 64) (rowP s (keep s 3 c) 64) (nat2 (Rn I 4 c)) ∗ some (F := F) c (gM s) (gatP (keep s 3 c) 64))
      ⊢ iprop(((part c bM fullShare (rowP s (keep s 3 c) 64) (rowP s (keep s 3 c) 64) (nat2 (Rn I 4 c))
          ∗ part c (gM s) fullShare (gatP (keep s 3 c) 64) (gatP (keep s 3 c) 64) (nat2 (Gn I s))) -∗ Φ ⟨⟩) -∗ run c (place s o h og hg p) Φ) := by
  subst ho hog
  unfold place
  simp only [Prog.lift, Prog.bind_op, Prog.bind_ret, Prog.pure_eq_ret]
  have hin : ∀ j, rowP s (keep s 3 c) 64 ((srcR (n := 64) ![keep s 3 c, c0 s] h).emb j) := fun j => (row_iff s _ _ h _).mpr ⟨j, rfl⟩
  have hig : ∀ j, gatP (keep s 3 c) 64 ((gatR (n := 64) ![keep s 3 c, 0] hg).emb j) := fun j => (gat_iff _ _ hg _).mpr ⟨j, rfl⟩
  iintro ⟨Hb, Hg⟩ Hk
  ihave Hg := (some_elim c (gM s) (gatP (keep s 3 c) 64) (fun _ => False) (nat2 (Gn I s)) (fun _ h => h)) $$ Hg
  iapply (part_load c fullShare _ _ _ hin hin) $$ Hb
  iintro Hb
  iapply (part_load_any c fullShare _ _ _ hig) $$ Hg
  iintro Hg
  iapply (part_store c _ _ (gatP (keep s 3 c) 64) _ (nat2 (Gn I s)) hig (fun j => by
      rw [pay118_eq]
      show Rn I 4 c _ _ = Gn I s _ _
      rw [emb_val, emb_val, emb_val, emb_val]
      show Rn I 4 c (start s 4 c.val + (j 0).val) (c0 s + (j 1).val) = Gn I s (start s 4 c.val + (j 0).val) (0 + (j 1).val)
      rw [Nat.zero_add, Gn_start I s c _ _ (j 0).isLt])
    (fun x hx => Or.inl ((gat_iff _ _ hg x).mp hx))) $$ Hg
  iintro Hg
  iapply run_ret
  iapply Hk
  isplitl [Hb] <;> iassumption

theorem dbSend_spec (s : Bool) (k : Fin 4) (c : Dev nD) {n : ℕ} (hn : n = half (rv true k).val) (e : Dev nD) (he : e = peer s (rv true k) c) (o) (h) (ho : o = ![keep s (rv true k) c, 0]) (w)
    (i : ℕ) (hi : i < 20) (h1 : dueTo c i = peer s (rv true k) c) (h2 : dueK i = xfer true s true k) (Φ : PUnit → sProp 𝕄) :
    iprop(env I K ∗ toSend true s k c ∗ dbSendPay I s k c
        ∗ some (F := F) (peer s (rv true k) c) (gM s) (gatP (keep s (rv true k) c) (half (rv true k).val)) ∗ ow (F := F) c i)
      ⊢ iprop(((waiting (xfer true s false k) c ∗ ow (F := F) c (i + 1)) -∗ Φ ⟨⟩) -∗ run c (dbSend s k (n := n) e o h w) Φ) := by
  subst ho hn
  unfold dbSend toSend waiting ow dbSendPay
  simp only [Prog.lift]
  iintro ⟨#He, ⟨Ht1, Ht2, Hat⟩, Hs, Hd, ⟨%W, Ho⟩⟩ Hk
  iapply (send_owns (Rd I) c (peer s (rv true k) c) e he (sS := semOf (xfer true s false k)) (sem := semOf (xfer true s true k))
      (src := (gM s).slice (gatR ![keep s (rv true k) c, 0] h) (fun _ => rfl)) (dst := (gM s).slice (gatR ![keep s (rv true k) c, 0] h) (fun _ => rfl))
      (κ₁ := K (c, xfer true s false k)) (κ₂ := K (peer s (rv true k) c, xfer true s true k)) (q := qq k)
      (Y := fun j => (nat2 (Gn I s) : S1024x512.Idx → F .bf16) ((gatR ![keep s (rv true k) c, 0] h).emb j)) (d₁ := 0) (d₂ := 0) (W := W)
      (duty_mem I c _) (duty_mem I (peer s (rv true k) c) _) (amt (xfer true s true k)) (by cases s <;> rfl) (amount_eq I c (xfer true s false k) 0)
      (amount_eq I (peer s (rv true k) c) (xfer true s true k) 0) (owed c (i + 1)) (due_tokens c i hi _ _ h1 h2)
      (by
        refine BIBase.Entails.trans ?_ (Entails.of_eq (payload_eq I c (xfer true s false k) 0).symm)
        show _ ⊢ dbSendPay I s k c
        exact (owns_part c (gM s) (qq k) _ (gatP (keep s (rv true k) c) (half (rv true k).val)) (nat2 (Gn I s)) (gatR ![keep s (rv true k) c, 0] h) (fun _ => rfl) _
          (gat_iff _ _ h) (fun _ h => h) (fun j _ => rfl)))
      (by
        refine BIBase.Entails.trans ?_ (Entails.of_eq (payload_eq I (peer s (rv true k) c) (xfer true s true k) 0).symm)
        show _ ⊢ dbRecvPay I s k (peer s (rv true k) c)
        unfold dbRecvPay
        rw [give_peer]
        exact (owns_part (peer s (rv true k) c) (gM s) fullShare _ (gatP (keep s (rv true k) c) (half (rv true k).val)) (nat2 (Gn I s)) (gatR ![keep s (rv true k) c, 0] h) (fun _ => rfl) _
          (gat_iff _ _ h) (fun _ h => h) (fun j _ => rfl))))
    $$ [Hs Hd Ho Ht1 Ht2]
  · isplitr; · iapply (env_inv I K c (xfer true s false k)); iexact He
    isplitr; · iapply (env_inv I K (peer s (rv true k) c) (xfer true s true k)); iexact He
    isplitl [Hs]
    · iapply (part_owns c (gM s) (qq k) _ _ _ (gatR ![keep s (rv true k) c, 0] h) (fun _ => rfl) (gat_iff _ _ h) (fun j => (gat_iff _ _ h _).mpr ⟨j, rfl⟩)); iexact Hs
    isplitl [Hd]
    · iapply (some_owns (peer s (rv true k) c) (gM s) _ (gatR ![keep s (rv true k) c, 0] h) (fun _ => rfl) (gat_iff _ _ h)); iexact Hd
    isplitl [Ho]; · iexact Ho
    isplitl [Ht1]; · iexact Ht1
    isplitr; · iapply (env_reached I K c (xfer true s false k)); iexact He
    isplitl [Ht2]; · iexact Ht2
    iapply (env_reached I K (peer s (rv true k) c) (xfer true s true k)); iexact He
  iintro ⟨Hc, Ho⟩
  iapply run_ret
  iapply Hk
  isplitl [Hat Hc]
  · isplitl [Hat]; · iexact Hat
    iexact Hc
  iexists W; iexact Ho

theorem dbWait_spec (s r : Bool) (k : Fin 4) (c : Dev nD) {n : ℕ} (hn : n = half (rv true k).val) (o) (h) (w)
    (i : ℕ) (hlv : ∀ j < 20, i ≤ j → lvK (xfer true s r k) < lvK (dueK j)) (Φ : PUnit → sProp 𝕄) :
    iprop(env I K ∗ waiting (xfer true s r k) c ∗ ow (F := F) c i)
      ⊢ iprop(((pay I c (xfer true s r k) 0 ∗ semVal (cell c (xfer true s r k)) 0 ∗ ow (F := F) c i) -∗ Φ ⟨⟩) -∗ run c (dbWait s (sems true s r) k (n := n) o h w) Φ) := by
  subst hn
  unfold dbWait
  simp only [Prog.lift]
  iintro H Hk
  iapply (wait_cell I K c (.inr (true, s, r, k)) i hlv (dst := (gM s).slice (gatR o h) (fun _ => rfl)) (by cases s <;> rfl)) $$ H
  iintro H
  iapply run_ret
  iapply Hk; iexact H

/-! ## The result -/

theorem emit_spec (s : Bool) (c : Dev nD) (o) (h) (ho : o = ![0, c0 s]) (p) (Ko Ko' : S1024x1024.Idx → Prop) (hK : ∀ x, Ko' x → colP s x ∨ Ko x) (Φ : PUnit → sProp 𝕄) :
    iprop(part c (gM s) fullShare all all (nat2 (Gn I s)) ∗ part c oM fullShare all Ko (nat2 (On I)))
      ⊢ iprop(((part c (gM s) fullShare all all (nat2 (Gn I s)) ∗ part c oM fullShare all Ko' (nat2 (On I))) -∗ Φ ⟨⟩) -∗ run c (emit s o h p) Φ) := by
  subst ho
  unfold emit
  simp only [Prog.lift, Prog.bind_op, Prog.bind_ret, Prog.pure_eq_ret]
  iintro ⟨Hg, Ho⟩ Hk
  iapply (part_load c fullShare _ _ _ (fun j => trivial) (fun j => trivial)) $$ Hg
  iintro Hg
  iapply (part_load_any c fullShare _ _ _ (fun j => trivial)) $$ Ho
  iintro Ho
  iapply (part_store c _ _ Ko' _ (nat2 (On I)) (fun j => trivial) (fun j => by
      show Gn I s _ _ = On I _ _
      rw [emb_val, emb_val, emb_val, emb_val]
      show Gn I s (0 + (j 0).val) (0 + (j 1).val) = On I (0 + (j 0).val) (c0 s + (j 1).val)
      rw [Nat.zero_add, Nat.zero_add, On_eq I s _ _ (j 1).isLt])
    (fun x hx => (hK x hx).imp (fun h' => by
        rw [unit_iff, Fin.forall_fin_two]
        have : (x 0).val < 1024 := (x 0).isLt
        exact ⟨⟨Nat.zero_le _, by show (x 0).val < 0 + 1024; omega⟩, h'⟩) fun h' => ⟨h', rfl⟩)) $$ Ho
  iintro Ho
  iapply run_ret
  iapply Hk
  isplitl [Hg] <;> iassumption

end Cert.KernelIdeal.Att
end
-- ==== Proof.Parts.lean ====
/- Taking the buffers apart and putting them together again. -/
module

public import proofs.«01_k».proof.Proof.Steps2

@[expose] public section

set_option maxRecDepth 100000

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Unions -/

section
variable {sp : Space} {sh : Shape} {e : EltTy} (c : Dev nD) (m : Memref sig .tc sp sh e)

theorem some_part (O : sh.Idx → Prop) : some (F := F) c m O ⊢ iprop(∃ X, part c m fullShare O (fun _ => False) X) := by
  unfold some part
  iintro ⟨%f, H⟩
  iexists (m.view.read (Elt F) f), f; isplitr
  · ipureintro; exact fun _ h => h.elim
  · iexact H

theorem some_split {O O₁ O₂ : sh.Idx → Prop} (h : ∀ x, O x ↔ O₁ x ∨ O₂ x) (hd : ∀ x, O₁ x → ¬ O₂ x) :
    some (F := F) c m O ⊢ iprop(some (F := F) c m O₁ ∗ some (F := F) c m O₂) := by
  iintro H
  ihave H := (some_part c m O) $$ H
  icases H with ⟨%X, H⟩
  ihave H := (part_split c m fullShare h hd) $$ H
  icases H with ⟨H1, H2⟩
  isplitl [H1]
  · iapply (some_intro c m O₁ _ X); iexact H1
  · iapply (some_intro c m O₂ _ X); iexact H2

theorem some_join {O O₁ O₂ : sh.Idx → Prop} (h : ∀ x, O x ↔ O₁ x ∨ O₂ x) (hd : ∀ x, O₁ x → ¬ O₂ x) :
    iprop(some (F := F) c m O₁ ∗ some (F := F) c m O₂) ⊢ some (F := F) c m O := by
  iintro ⟨H1, H2⟩
  ihave H1 := (some_part c m O₁) $$ H1
  icases H1 with ⟨%X, H1⟩
  ihave H2 := (some_elim c m O₂ (fun _ => False) X (fun _ h => h)) $$ H2
  iapply (some_intro c m O (fun _ => False) X)
  iapply (part_join c m fullShare (K₁ := fun _ => False) (K₂ := fun _ => False) h hd (fun _ h => h.elim))
  isplitl [H1] <;> iassumption

/-- Parts whose every element is known. -/
theorem known_split (q : PosShare TreeShare) {O O₁ O₂ : sh.Idx → Prop} {X : sh.Idx → Elt F e} (h : ∀ x, O x ↔ O₁ x ∨ O₂ x) (hd : ∀ x, O₁ x → ¬ O₂ x) :
    part c m q O O X ⊢ iprop(part c m q O₁ O₁ X ∗ part c m q O₂ O₂ X) :=
  (part_split c m q h hd).trans (BI.sep_mono (part_mono c m q fun x hx => ⟨(h x).mpr (Or.inl hx), rfl⟩) (part_mono c m q fun x hx => ⟨(h x).mpr (Or.inr hx), rfl⟩))

theorem known_join (q : PosShare TreeShare) {O O₁ O₂ : sh.Idx → Prop} {X : sh.Idx → Elt F e} (h : ∀ x, O x ↔ O₁ x ∨ O₂ x) (hd : ∀ x, O₁ x → ¬ O₂ x) :
    iprop(part c m q O₁ O₁ X ∗ part c m q O₂ O₂ X) ⊢ part c m q O O X :=
  part_join c m q h hd fun x hx => ((h x).mp hx).imp (fun h => ⟨h, h⟩) fun h => ⟨h, h⟩

/-! ## Shares -/

theorem part_halve (q : PosShare TreeShare) (O K : sh.Idx → Prop) (X : sh.Idx → Elt F e) :
    part c m q O K X ⊢ iprop(part c m q.left O K X ∗ part c m q.right O K X) := by
  unfold part
  iintro ⟨%f, %hf, H⟩
  ihave H := (pointsTo_share (PosShare.mem_left_op_right q)).1 $$ H
  icases H with ⟨H1, H2⟩
  isplitl [H1]
  · iexists f; isplitr
    · ipureintro; exact hf
    · iexact H1
  · iexists f; isplitr
    · ipureintro; exact hf
    · iexact H2

theorem part_unhalve (q : PosShare TreeShare) (O : sh.Idx → Prop) (X : sh.Idx → Elt F e) :
    iprop(part c m q.left O O X ∗ part c m q.right O O X) ⊢ part c m q O O X := by
  unfold part
  iintro ⟨⟨%f, %hf, H⟩, ⟨%g, %hg, G⟩⟩
  have hfg : (m.view.loc (c : Thread nD τ) ↦[m.view.setOn (fs O)]{q.right} g : sProp 𝕄) = m.view.loc (c : Thread nD τ) ↦[m.view.setOn (fs O)]{q.right} f :=
    pointsTo_congr fun i hi => by
      unfold View.setOn at hi
      rw [Finset.mem_map] at hi
      obtain ⟨x, hx, rfl⟩ := hi
      have hx' := (hg x (mem_fs.mp hx)).trans (hf x (mem_fs.mp hx)).symm
      unfold View.read at hx'
      exact (_root_.cast_inj _).mp hx'
  ihave G := (Entails.of_eq hfg) $$ G
  iexists f; isplitr
  · ipureintro; exact hf
  · iapply (pointsTo_share (PosShare.mem_left_op_right q)).2
    isplitl [H] <;> iassumption

theorem quarter (O K : sh.Idx → Prop) (X : sh.Idx → Elt F e) :
    part c m fullShare O K X ⊢ iprop(part c m (qq 0) O K X ∗ part c m (qq 1) O K X ∗ part c m (qq 2) O K X ∗ part c m (qq 3) O K X) := by
  iintro H
  ihave H := (part_halve c m fullShare O K X) $$ H
  icases H with ⟨H1, H2⟩
  ihave H1 := (part_halve c m _ O K X) $$ H1
  ihave H2 := (part_halve c m _ O K X) $$ H2
  icases H1 with ⟨H1, H3⟩
  icases H2 with ⟨H2, H4⟩
  isplitl [H1]; · iexact H1
  isplitl [H3]; · iexact H3
  isplitl [H2]; · iexact H2
  iexact H4

theorem unquarter (O : sh.Idx → Prop) (X : sh.Idx → Elt F e) :
    iprop(part c m (qq 0) O O X ∗ part c m (qq 1) O O X ∗ part c m (qq 2) O O X ∗ part c m (qq 3) O O X) ⊢ part c m fullShare O O X := by
  iintro ⟨H1, H2, H3, H4⟩
  iapply (part_unhalve c m fullShare O X)
  isplitl [H1 H2]
  · iapply (part_unhalve c m fullShare.left O X)
    isplitl [H1]; · iexact H1
    iexact H2
  · iapply (part_unhalve c m fullShare.right O X)
    isplitl [H3]; · iexact H3
    iexact H4
end

/-! ## The rows of the exchanges -/

theorem half_succ : ∀ k k' : Fin 4, k'.val = k.val + 1 → half k.val = 2 * half k'.val := by decide
theorem keep_give' (s : Bool) (k k' : Fin 4) (hk : k'.val = k.val + 1) (c : Dev nD) :
    (keep s k' c = keep s k c ∧ give s k' c = keep s k c + half k'.val) ∨ (keep s k' c = keep s k c + half k'.val ∧ give s k' c = keep s k c) := by
  have h := keep_give s k' c
  rw [hk] at h
  have e : keep s k c = start s (k.val + 1) c.val := rfl
  rw [e, hk]; exact h
theorem keep_give0 (s : Bool) (c : Dev nD) : (keep s 0 c = 0 ∧ give s 0 c = 512) ∨ (keep s 0 c = 512 ∧ give s 0 c = 0) := by
  have h := keep_give s 0 c
  rw [show start s (0 : Fin 4).val c.val = 0 from start_zero s _, show half (0 : Fin 4).val = 512 from rfl] at h
  exact h

theorem row_cut (s : Bool) (k k' : Fin 4) (hk : k'.val = k.val + 1) (c : Dev nD) (x) :
    rowP s (keep s k c) (half k.val) x ↔ rowP s (give s k' c) (half k'.val) x ∨ rowP s (keep s k' c) (half k'.val) x := by
  unfold rowP
  have h1 := keep_give' s k k' hk c
  have h2 := half_succ k k' hk
  omega
theorem row_apart (s : Bool) (k : Fin 4) (c : Dev nD) (x) : rowP s (give s k c) (half k.val) x → ¬ rowP s (keep s k c) (half k.val) x := by
  unfold rowP
  have h1 := keep_give s k c
  omega
theorem row_cut0 (s : Bool) (c : Dev nD) (x) : colP s x ↔ rowP s (give s 0 c) (half (0 : Fin 4).val) x ∨ rowP s (keep s 0 c) (half (0 : Fin 4).val) x := by
  unfold rowP colP
  have h1 := keep_give0 s c
  have h2 : half (0 : Fin 4).val = 512 := rfl
  have h3 : (x 0).val < 1024 := (x 0).isLt
  omega
theorem gat_cut (s : Bool) (k k' : Fin 4) (hk : k'.val = k.val + 1) (c : Dev nD) (x) :
    gatP (keep s k c) (half k.val) x ↔ gatP (give s k' c) (half k'.val) x ∨ gatP (keep s k' c) (half k'.val) x := by
  unfold gatP
  have h1 := keep_give' s k k' hk c
  have h2 := half_succ k k' hk
  omega
theorem gat_apart (s : Bool) (k : Fin 4) (c : Dev nD) (x) : gatP (give s k c) (half k.val) x → ¬ gatP (keep s k c) (half k.val) x := by
  unfold gatP
  have h1 := keep_give s k c
  omega
theorem gat_cut0 (s : Bool) (c : Dev nD) (x) : all x ↔ gatP (give s 0 c) (half (0 : Fin 4).val) x ∨ gatP (keep s 0 c) (half (0 : Fin 4).val) x := by
  unfold gatP
  have h1 := keep_give0 s c
  have h2 : half (0 : Fin 4).val = 512 := rfl
  have h3 : (x 0).val < 1024 := (x 0).isLt
  simp only [true_iff]
  omega

/-! ## The landing buffers -/

/-- The rest of the landing slots. -/
def slack : S4x512x512.Idx → Prop := fun x => half (x 0).val ≤ (x 1).val

/-- The slots from `k` on. -/
def slotsFrom (k : ℕ) : S4x512x512.Idx → Prop := fun x => k ≤ (x 0).val ∧ (x 1).val < half (x 0).val

theorem slots_cut (k : ℕ) (x) : slotsFrom k x ↔ slotP k (half k) x ∨ slotsFrom (k + 1) x := by
  unfold slotsFrom slotP
  constructor
  · rintro ⟨h1, h2⟩
    by_cases h : (x 0).val = k
    · rw [h] at h2; exact Or.inl ⟨h, h2⟩
    · exact Or.inr ⟨by omega, h2⟩
  · rintro (⟨h1, h2⟩ | ⟨h1, h2⟩)
    · rw [h1]; exact ⟨Nat.le_refl _, h2⟩
    · exact ⟨by omega, h2⟩
theorem slots_apart (k : ℕ) (x) : slotP k (half k) x → ¬ slotsFrom (k + 1) x := by unfold slotsFrom slotP; omega
theorem slots_whole (x) : all x ↔ slack x ∨ slotsFrom 0 x := by
  unfold slotsFrom slack; simp only [true_iff]; omega
theorem slots_none (x) : slotsFrom 3 x ↔ slotP 3 (half 3) x := by
  rw [slots_cut]
  refine ⟨fun h => h.resolve_right fun h' => ?_, Or.inl⟩
  have : (x 0).val < 4 := (x 0).isLt
  have : 4 ≤ (x 0).val := h'.1
  omega

section
variable (c : Dev nD) (s : Bool)

/-- One landing buffer: its four slots, and the rest. -/
def slots : sProp 𝕄 :=
  iprop(some (F := F) c (rM s) (slotP 0 (half 0)) ∗ some (F := F) c (rM s) (slotP 1 (half 1)) ∗ some (F := F) c (rM s) (slotP 2 (half 2))
    ∗ some (F := F) c (rM s) (slotP 3 (half 3)))

theorem slots_split : some (F := F) c (rM s) all ⊢ iprop(slots (F := F) c s ∗ some (F := F) c (rM s) slack) := by
  unfold slots
  iintro H
  ihave H := (some_split c (rM s) slots_whole fun x h h' => by unfold slack slotsFrom at *; omega) $$ H
  icases H with ⟨Hr, H⟩
  ihave H := (some_split c (rM s) (slots_cut 0) (slots_apart 0)) $$ H
  icases H with ⟨H0, H⟩
  ihave H := (some_split c (rM s) (slots_cut 1) (slots_apart 1)) $$ H
  icases H with ⟨H1, H⟩
  ihave H := (some_split c (rM s) (slots_cut 2) (slots_apart 2)) $$ H
  icases H with ⟨H2, H⟩
  isplitr [Hr]
  · isplitl [H0]; · iexact H0
    isplitl [H1]; · iexact H1
    isplitl [H2]; · iexact H2
    rw [show (slotP 3 (half 3)) = slotsFrom 3 from funext fun x => propext (slots_none x).symm]
    iexact H
  · iexact Hr

theorem slots_join : iprop(slots (F := F) c s ∗ some (F := F) c (rM s) slack) ⊢ some (F := F) c (rM s) all := by
  unfold slots
  rw [show (slotP 3 (half 3)) = slotsFrom 3 from funext fun x => propext (slots_none x).symm]
  iintro ⟨⟨H0, H1, H2, H3⟩, Hr⟩
  iapply (some_join c (rM s) slots_whole fun x h h' => by unfold slack slotsFrom at *; omega)
  isplitl [Hr]; · iexact Hr
  iapply (some_join c (rM s) (slots_cut 0) (slots_apart 0))
  isplitl [H0]; · iexact H0
  iapply (some_join c (rM s) (slots_cut 1) (slots_apart 1))
  isplitl [H1]; · iexact H1
  iapply (some_join c (rM s) (slots_cut 2) (slots_apart 2))
  isplitl [H2]; · iexact H2
  iexact H3

theorem gat_split : some (F := F) c (gM s) all ⊢ iprop((some (F := F) c (gM s) (gatP (give s 0 c) (half (0 : Fin 4).val)) ∗ some (F := F) c (gM s) (gatP (give s 1 c) (half (1 : Fin 4).val))
    ∗ some (F := F) c (gM s) (gatP (give s 2 c) (half (2 : Fin 4).val)) ∗ some (F := F) c (gM s) (gatP (give s 3 c) (half (3 : Fin 4).val))) ∗ some (F := F) c (gM s) (gatP (keep s 3 c) 64)) := by
  iintro H
  ihave H := (some_split c (gM s) (gat_cut0 s c) (gat_apart s 0 c)) $$ H
  icases H with ⟨H0, H⟩
  ihave H := (some_split c (gM s) (gat_cut s 0 1 rfl c) (gat_apart s 1 c)) $$ H
  icases H with ⟨H1, H⟩
  ihave H := (some_split c (gM s) (gat_cut s 1 2 rfl c) (gat_apart s 2 c)) $$ H
  icases H with ⟨H2, H⟩
  ihave H := (some_split c (gM s) (gat_cut s 2 3 rfl c) (gat_apart s 3 c)) $$ H
  icases H with ⟨H3, H⟩
  isplitr [H]
  · isplitl [H0]; · iexact H0
    isplitl [H1]; · iexact H1
    isplitl [H2]; · iexact H2
    iexact H3
  · iexact H

/-- The rows sent away and the rows kept make up a half of the columns. -/
theorem sent_join : iprop((some (F := F) c bM (rowP s (give s 0 c) (half (0 : Fin 4).val)) ∗ some (F := F) c bM (rowP s (give s 1 c) (half (1 : Fin 4).val))
    ∗ some (F := F) c bM (rowP s (give s 2 c) (half (2 : Fin 4).val)) ∗ some (F := F) c bM (rowP s (give s 3 c) (half (3 : Fin 4).val)))
      ∗ some (F := F) c bM (rowP s (keep s 3 c) (half (3 : Fin 4).val))) ⊢ some (F := F) c bM (colP s) := by
  iintro ⟨⟨H0, H1, H2, H3⟩, H⟩
  iapply (some_join c bM (row_cut0 s c) (row_apart s 0 c))
  isplitl [H0]; · iexact H0
  iapply (some_join c bM (row_cut s 0 1 rfl c) (row_apart s 1 c))
  isplitl [H1]; · iexact H1
  iapply (some_join c bM (row_cut s 1 2 rfl c) (row_apart s 2 c))
  isplitl [H2]; · iexact H2
  iapply (some_join c bM (row_cut s 2 3 rfl c) (row_apart s 3 c))
  isplitl [H3]; · iexact H3
  iexact H
end

theorem cols_whole (x) : all x ↔ colP false x ∨ colP true x := by
  have : (x 1).val < 1024 := (x 1).isLt
  unfold colP; simp only [true_iff, c0]; norm_num; omega
theorem cols_apart (x) : colP false x → ¬ colP true x := by
  unfold colP; simp only [c0]; norm_num; omega

/-! ## The gathered rows -/

section
variable (I : Ins F) (s : Bool) (c : Dev nD)

/-- The rows gathered before step `k` of an all-gather, and those that it brings, at a share. -/
def had (k : Fin 4) (q : PosShare TreeShare) : sProp 𝕄 :=
  part c (gM s) q (gatP (keep s (rv true k) c) (half (rv true k).val)) (gatP (keep s (rv true k) c) (half (rv true k).val)) (nat2 (Gn I s))
def new (k : Fin 4) (q : PosShare TreeShare) : sProp 𝕄 :=
  part c (gM s) q (gatP (give s (rv true k) c) (half (rv true k).val)) (gatP (give s (rv true k) c) (half (rv true k).val)) (nat2 (Gn I s))

theorem grow (k k' : Fin 4) (hk : k'.val = k.val + 1) (q : PosShare TreeShare) : iprop(had I s c k q ∗ new I s c k q) ⊢ had I s c k' q := by
  unfold had new
  have hk' : (rv true k).val = (rv true k').val + 1 := by revert k k'; decide
  iintro ⟨H1, H2⟩
  iapply (known_join c (gM s) q (gat_cut s (rv true k') (rv true k) hk' c) (gat_apart s (rv true k) c))
  isplitl [H2] <;> iassumption
theorem grow_last (q : PosShare TreeShare) : iprop(had I s c 3 q ∗ new I s c 3 q) ⊢ part c (gM s) q all all (nat2 (Gn I s)) := by
  unfold had new
  rw [show rv true 3 = 0 from rfl]
  iintro ⟨H1, H2⟩
  iapply (known_join c (gM s) q (gat_cut0 s c) (gat_apart s 0 c))
  isplitl [H2] <;> iassumption

/-- After the first step three shares of four grow; after the second two; after the third one. -/
theorem recv0 : iprop((had I s c 0 (qq 1) ∗ had I s c 0 (qq 2) ∗ had I s c 0 (qq 3)) ∗ new I s c 0 fullShare)
    ⊢ iprop((had I s c 1 (qq 1) ∗ had I s c 1 (qq 2) ∗ had I s c 1 (qq 3)) ∗ new I s c 0 (qq 0)) := by
  iintro ⟨⟨H1, H2, H3⟩, H⟩
  ihave H := (show new I s c 0 fullShare ⊢ iprop(new I s c 0 (qq 0) ∗ new I s c 0 (qq 1) ∗ new I s c 0 (qq 2) ∗ new I s c 0 (qq 3)) from quarter c (gM s) _ _ _) $$ H
  icases H with ⟨N0, N1, N2, N3⟩
  isplitr [N0]
  · isplitl [H1 N1]; · iapply (grow I s c 0 1 rfl (qq 1)); isplitl [H1] <;> iassumption
    isplitl [H2 N2]; · iapply (grow I s c 0 1 rfl (qq 2)); isplitl [H2] <;> iassumption
    iapply (grow I s c 0 1 rfl (qq 3)); isplitl [H3] <;> iassumption
  · iexact N0
theorem recv1 : iprop((had I s c 1 (qq 2) ∗ had I s c 1 (qq 3)) ∗ new I s c 1 fullShare)
    ⊢ iprop((had I s c 2 (qq 2) ∗ had I s c 2 (qq 3)) ∗ new I s c 1 (qq 0) ∗ new I s c 1 (qq 1)) := by
  iintro ⟨⟨H2, H3⟩, H⟩
  ihave H := (show new I s c 1 fullShare ⊢ iprop(new I s c 1 (qq 0) ∗ new I s c 1 (qq 1) ∗ new I s c 1 (qq 2) ∗ new I s c 1 (qq 3)) from quarter c (gM s) _ _ _) $$ H
  icases H with ⟨N0, N1, N2, N3⟩
  isplitr [N0 N1]
  · isplitl [H2 N2]; · iapply (grow I s c 1 2 rfl (qq 2)); isplitl [H2] <;> iassumption
    iapply (grow I s c 1 2 rfl (qq 3)); isplitl [H3] <;> iassumption
  · isplitl [N0] <;> iassumption
theorem recv2 : iprop(had I s c 2 (qq 3) ∗ new I s c 2 fullShare)
    ⊢ iprop(had I s c 3 (qq 3) ∗ new I s c 2 (qq 0) ∗ new I s c 2 (qq 1) ∗ new I s c 2 (qq 2)) := by
  iintro ⟨H3, H⟩
  ihave H := (show new I s c 2 fullShare ⊢ iprop(new I s c 2 (qq 0) ∗ new I s c 2 (qq 1) ∗ new I s c 2 (qq 2) ∗ new I s c 2 (qq 3)) from quarter c (gM s) _ _ _) $$ H
  icases H with ⟨N0, N1, N2, N3⟩
  isplitl [H3 N3]; · iapply (grow I s c 2 3 rfl (qq 3)); isplitl [H3] <;> iassumption
  isplitl [N0]; · iexact N0
  isplitl [N1] <;> iassumption

/-- All shares of all rows back together. -/
theorem gathered_join : iprop((had I s c 0 (qq 0) ∗ had I s c 1 (qq 1) ∗ had I s c 2 (qq 2) ∗ had I s c 3 (qq 3)) ∗ new I s c 0 (qq 0) ∗ (new I s c 1 (qq 0) ∗ new I s c 1 (qq 1))
      ∗ (new I s c 2 (qq 0) ∗ new I s c 2 (qq 1) ∗ new I s c 2 (qq 2)) ∗ new I s c 3 fullShare)
    ⊢ part c (gM s) fullShare all all (nat2 (Gn I s)) := by
  iintro ⟨⟨H0, H1, H2, H3⟩, A0, ⟨B0, B1⟩, ⟨C0, C1, C2⟩, D⟩
  ihave D := (show new I s c 3 fullShare ⊢ iprop(new I s c 3 (qq 0) ∗ new I s c 3 (qq 1) ∗ new I s c 3 (qq 2) ∗ new I s c 3 (qq 3)) from quarter c (gM s) _ _ _) $$ D
  icases D with ⟨D0, D1, D2, D3⟩
  iapply (unquarter c (gM s) all (nat2 (Gn I s)))
  isplitl [H0 A0 B0 C0 D0]
  · iapply (grow_last I s c (qq 0)); isplitr [D0]
    · iapply (grow I s c 2 3 rfl (qq 0)); isplitr [C0]
      · iapply (grow I s c 1 2 rfl (qq 0)); isplitr [B0]
        · iapply (grow I s c 0 1 rfl (qq 0)); isplitl [H0] <;> iassumption
        · iexact B0
      · iexact C0
    · iexact D0
  isplitl [H1 B1 C1 D1]
  · iapply (grow_last I s c (qq 1)); isplitr [D1]
    · iapply (grow I s c 2 3 rfl (qq 1)); isplitr [C1]
      · iapply (grow I s c 1 2 rfl (qq 1)); isplitl [H1] <;> iassumption
      · iexact C1
    · iexact D1
  isplitl [H2 C2 D2]
  · iapply (grow_last I s c (qq 2)); isplitr [D2]
    · iapply (grow I s c 2 3 rfl (qq 2)); isplitl [H2] <;> iassumption
    · iexact D2
  iapply (grow_last I s c (qq 3)); isplitl [H3] <;> iassumption
end

/-! ## The heads of K and V -/

/-- What has not been lent of K or V, and of its landing buffer, before head `h`. -/
def unlent (c : Dev nD) (h : ℕ) : S1x1024x128x128.Idx → Prop := fun x => ¬ (8 * c.val ≤ (x 2).val ∧ (x 2).val < 8 * c.val + h)
def unfilled (h : ℕ) : S8x1024x128.Idx → Prop := fun x => h ≤ (x 0).val
/-- What has come back after `h` heads. -/
def back (c : Dev nD) (h : ℕ) : S1x1024x128x128.Idx → Prop := fun x => ¬ (8 * c.val + h ≤ (x 2).val ∧ (x 2).val < 8 * c.val + 8)

theorem unlent_cut (c : Dev nD) (h : ℕ) (x) : unlent c h x ↔ headP c h x ∨ unlent c (h + 1) x := by unfold unlent headP; omega
theorem unlent_apart (c : Dev nD) (h : ℕ) (x) : headP c h x → ¬ unlent c (h + 1) x := by unfold unlent headP; omega
theorem unlent_zero (c : Dev nD) : unlent c 0 = all := funext fun x => propext (by unfold unlent; simp only [iff_true]; omega)
theorem back_zero (c : Dev nD) : back c 0 = unlent c 8 := rfl
theorem back_cut (c : Dev nD) (h : ℕ) (hh : h < 8) (x) : back c (h + 1) x ↔ headP c h x ∨ back c h x := by unfold back headP; omega
theorem back_apart (c : Dev nD) (h : ℕ) (hh : h < 8) (x) : headP c h x → ¬ back c h x := by unfold back headP; omega
theorem back_all (c : Dev nD) : back c 8 = all := funext fun x => propext (by unfold back; simp only [iff_true]; omega)
theorem unfilled_cut (h : ℕ) (x) : unfilled h x ↔ slabP h x ∨ unfilled (h + 1) x := by unfold unfilled slabP; omega
theorem unfilled_apart (h : ℕ) (x) : slabP h x → ¬ unfilled (h + 1) x := by unfold unfilled slabP; omega
theorem unfilled_zero : unfilled 0 = all := funext fun x => propext (by unfold unfilled; simp)
theorem upto_cut (h : ℕ) (x) : upto (h + 1) x ↔ slabP h x ∨ upto h x := by unfold upto slabP; omega
theorem upto_apart (h : ℕ) (x) : slabP h x → ¬ upto h x := by unfold upto slabP; omega
theorem upto_all : upto 8 = all := funext fun x => propext (by have : (x 0).val < 8 := (x 0).isLt; simpa [upto] using this)

end Cert.KernelIdeal.Att
end
-- ==== Proof.Phases.lean ====
/- The phases of the body up to the reduce-scatters. -/
module

public import proofs.«01_k».proof.Proof.Parts

@[expose] public section

set_option maxRecDepth 100000

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F) (K : Dev nD × CK → ℕ) (c : Dev nD)

theorem eight_sep (Ψ : Fin 8 → sProp 𝕄) : bigSep Finset.univ Ψ = iprop(Ψ 0 ∗ Ψ 1 ∗ Ψ 2 ∗ Ψ 3 ∗ Ψ 4 ∗ Ψ 5 ∗ Ψ 6 ∗ Ψ 7) := by
  have hu : (Finset.univ : Finset (Fin 8)) = {0, 1, 2, 3, 4, 5, 6, 7} := by decide
  rw [hu, bigSep_insert (by decide), bigSep_insert (by decide), bigSep_insert (by decide), bigSep_insert (by decide), bigSep_insert (by decide), bigSep_insert (by decide),
    bigSep_insert (by decide), bigSep_singleton]; rfl

/-! ## The copies in -/

/-- K or V in main memory: the elements `O`, known. -/
def src (v : Bool) (O : S1x1024x128x128.Idx → Prop) : sProp 𝕄 := part c (inM v) fullShare O O (nat4 fun _ x h y => kvIn I v c x h y)

/-- Before the copies of head `h`. -/
def lending (h : ℕ) : sProp 𝕄 :=
  iprop(src I c false (unlent c h) ∗ src I c true (unlent c h) ∗ some (F := F) c kfM (unfilled h) ∗ some (F := F) c vfM (unfilled h))
/-- After `h` heads came back. -/
def returned (h : ℕ) : sProp 𝕄 :=
  iprop(src I c false (back c h) ∗ src I c true (back c h) ∗ some (F := F) c kfM (upto h) ∗ some (F := F) c vfM (upto h))

theorem lent_all : lending I c 8 ⊢ returned I c 0 := by
  unfold lending returned
  have e : (unfilled 8) = upto 0 := funext fun x => propext (by have : (x 0).val < 8 := (x 0).isLt; unfold unfilled upto; omega)
  rw [back_zero, e]

def toCopy2 (h : Fin 8) : sProp 𝕄 := iprop(toCopy (F := F) false h c ∗ toCopy (F := F) true h c)
def waiting2 (h : Fin 8) : sProp 𝕄 := iprop(waiting (F := F) (kv false h) c ∗ waiting (F := F) (kv true h) c)
def closed2 (h : Fin 8) : sProp 𝕄 := iprop(semVal (cell c (kv false h)) 0 ∗ semVal (cell c (kv true h)) 0)

theorem copyIn_spec (h : Fin 8) (Φ : PUnit → sProp 𝕄) :
    iprop(env I K ∗ toCopy2 (F := F) c h ∗ lending I c h.val)
      ⊢ iprop(((waiting2 (F := F) c h ∗ lending I c (h.val + 1)) -∗ Φ ⟨⟩) -∗ run c (copyIn c h) Φ) := by
  unfold copyIn toCopy2 waiting2 lending src
  simp only [Prog.lift, Prog.bind_op, Prog.bind_ret, Prog.pure_eq_ret]
  iintro ⟨#He, ⟨Ht1, Ht2⟩, H1, H2, H3, H4⟩ Hk
  ihave H1 := (known_split c (inM false) fullShare (unlent_cut c h.val) (unlent_apart c h.val)) $$ H1
  icases H1 with ⟨A1, H1⟩
  ihave H2 := (known_split c (inM true) fullShare (unlent_cut c h.val) (unlent_apart c h.val)) $$ H2
  icases H2 with ⟨A2, H2⟩
  ihave H3 := (some_split c kfM (unfilled_cut h.val) (unfilled_apart h.val)) $$ H3
  icases H3 with ⟨A3, H3⟩
  ihave H4 := (some_split c vfM (unfilled_cut h.val) (unfilled_apart h.val)) $$ H4
  icases H4 with ⟨A4, H4⟩
  iapply (copy_one I K false c h) $$ [Ht1 A1 A3]
  · isplitr; · iexact He
    isplitl [Ht1]; · iexact Ht1
    unfold headPart
    isplitl [A1]; · iexact A1
    iexact A3
  iintro Hw1
  iapply (copy_one I K true c h) $$ [Ht2 A2 A4]
  · isplitr; · iexact He
    isplitl [Ht2]; · iexact Ht2
    unfold headPart
    isplitl [A2]; · iexact A2
    iexact A4
  iintro Hw2
  iapply run_ret
  iapply Hk
  isplitl [Hw1 Hw2]; · isplitl [Hw1]; · iexact Hw1
                       iexact Hw2
  isplitl [H1]; · iexact H1
  isplitl [H2]; · iexact H2
  isplitl [H3]; · iexact H3
  iexact H4

theorem copies_spec (Φ : PUnit → sProp 𝕄) :
    iprop(env I K ∗ bigSep Finset.univ (toCopy2 (F := F) c) ∗ lending I c 0)
      ⊢ iprop(((bigSep Finset.univ (waiting2 (F := F) c) ∗ returned I c 0) -∗ Φ ⟨⟩) -∗ run c (copies c) Φ) := by
  unfold copies
  simp only [run_bind]
  rw [eight_sep, eight_sep]
  iintro ⟨#He, ⟨T0, T1, T2, T3, T4, T5, T6, T7⟩, H⟩ Hk
  iapply (copyIn_spec I K c 0) $$ [T0 H]
  · isplitr; · iexact He
    isplitl [T0]; · iexact T0
    iexact H
  iintro ⟨W0, H⟩
  iapply (copyIn_spec I K c 1) $$ [T1 H]
  · isplitr; · iexact He
    isplitl [T1]; · iexact T1
    iexact H
  iintro ⟨W1, H⟩
  iapply (copyIn_spec I K c 2) $$ [T2 H]
  · isplitr; · iexact He
    isplitl [T2]; · iexact T2
    iexact H
  iintro ⟨W2, H⟩
  iapply (copyIn_spec I K c 3) $$ [T3 H]
  · isplitr; · iexact He
    isplitl [T3]; · iexact T3
    iexact H
  iintro ⟨W3, H⟩
  iapply (copyIn_spec I K c 4) $$ [T4 H]
  · isplitr; · iexact He
    isplitl [T4]; · iexact T4
    iexact H
  iintro ⟨W4, H⟩
  iapply (copyIn_spec I K c 5) $$ [T5 H]
  · isplitr; · iexact He
    isplitl [T5]; · iexact T5
    iexact H
  iintro ⟨W5, H⟩
  iapply (copyIn_spec I K c 6) $$ [T6 H]
  · isplitr; · iexact He
    isplitl [T6]; · iexact T6
    iexact H
  iintro ⟨W6, H⟩
  iapply (copyIn_spec I K c 7) $$ [T7 H]
  · isplitr; · iexact He
    isplitl [T7]; · iexact T7
    iexact H
  iintro ⟨W7, H⟩
  iapply Hk
  isplitr [H]
  · isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  iapply (lent_all I c); iexact H

/-! ## The barrier -/

/-- The neighbour's landing regions of step `k` in one half of the columns. -/
def slotAt (s : Bool) (k : Fin 4) : sProp 𝕄 := some (F := F) (peer s k c) (rM s) (slotP k.val (half k.val))
def gatAt (s : Bool) (k : Fin 4) : sProp 𝕄 := some (F := F) (peer s k c) (gM s) (gatP (keep s k c) (half k.val))
def landing (s : Bool) : sProp 𝕄 :=
  iprop((slotAt (F := F) c s 0 ∗ slotAt (F := F) c s 1 ∗ slotAt (F := F) c s 2 ∗ slotAt (F := F) c s 3)
    ∗ (gatAt (F := F) c s 0 ∗ gatAt (F := F) c s 1 ∗ gatAt (F := F) c s 2 ∗ gatAt (F := F) c s 3))
/-- What the device keeps of its own landing buffers. -/
def kept (s : Bool) : sProp 𝕄 := iprop(some (F := F) c (rM s) slack ∗ some (F := F) c (gM s) (gatP (keep s 3 c) 64))
def landBufs (s : Bool) : sProp 𝕄 := iprop(some (F := F) c (rM s) all ∗ some (F := F) c (gM s) all)

theorem barPay_open (j : Fin 4) : barPay (F := F) (peer false j c) j
    ⊢ iprop(slotAt (F := F) c false j ∗ slotAt (F := F) c true (alt j) ∗ gatAt (F := F) c false j ∗ gatAt (F := F) c true (alt j)) := by
  have h1 : give false j (peer false j c) = keep false j c := give_peer false j c
  have h2 : give true (alt j) (peer false j c) = keep true (alt j) c := by rw [← peer_alt j c]; exact give_peer true (alt j) c
  unfold barPay slotAt gatAt
  rw [h1, h2, peer_alt]

def barToks : sProp 𝕄 :=
  iprop(dutyTok ER (cell (peer false 0 c) bar) 0 0 ∗ dutyTok ER (cell (peer false 1 c) bar) 0 1 ∗ dutyTok ER (cell (peer false 2 c) bar) 0 2 ∗ dutyTok ER (cell (peer false 3 c) bar) 0 3)

theorem barrier_spec (Φ : PUnit → sProp 𝕄) :
    iprop(env I K ∗ barToks (F := F) c ∗ (landBufs (F := F) c false ∗ landBufs (F := F) c true) ∗ waiting (F := F) bar c ∗ ow (F := F) c 0)
      ⊢ iprop((((landing (F := F) c false ∗ landing (F := F) c true) ∗ (kept (F := F) c false ∗ kept (F := F) c true) ∗ semVal (cell c bar) 0 ∗ ow (F := F) c 4) -∗ Φ ⟨⟩)
        -∗ run c (barrier c) Φ) := by
  unfold barrier barToks landBufs
  iintro ⟨#He, ⟨T0, T1, T2, T3⟩, ⟨⟨Ra, Ga⟩, ⟨Rb, Gb⟩⟩, Hw, Ho⟩ Hk
  ihave Ra := (slots_split c false) $$ Ra
  icases Ra with ⟨Ra, Ka⟩
  ihave Rb := (slots_split c true) $$ Rb
  icases Rb with ⟨Rb, Kb⟩
  unfold slots
  icases Ra with ⟨Ra0, Ra1, Ra2, Ra3⟩
  icases Rb with ⟨Rb0, Rb1, Rb2, Rb3⟩
  ihave Ga := (gat_split c false) $$ Ga
  icases Ga with ⟨⟨Ga0, Ga1, Ga2, Ga3⟩, La⟩
  ihave Gb := (gat_split c true) $$ Gb
  icases Gb with ⟨⟨Gb0, Gb1, Gb2, Gb3⟩, Lb⟩
  iapply (signal_spec I K c 0 _ (dev1_eq c)) $$ [T0 Ra0 Rb3 Ga0 Gb3 Ho]
  · isplitr; · iexact He
    isplitl [T0]; · iexact T0
    isplitr [Ho]
    · unfold barPay
      isplitl [Ra0]; · iexact Ra0
      isplitl [Rb3]; · iexact Rb3
      isplitl [Ga0]; · iexact Ga0
      iexact Gb3
    iexact Ho
  iintro Ho
  iapply (signal_spec I K c 1 _ (dev2_eq c)) $$ [T1 Ra1 Rb2 Ga1 Gb2 Ho]
  · isplitr; · iexact He
    isplitl [T1]; · iexact T1
    isplitr [Ho]
    · unfold barPay
      isplitl [Ra1]; · iexact Ra1
      isplitl [Rb2]; · iexact Rb2
      isplitl [Ga1]; · iexact Ga1
      iexact Gb2
    iexact Ho
  iintro Ho
  iapply (signal_spec I K c 2 _ (dev3_eq c)) $$ [T2 Ra2 Rb0 Ga2 Gb0 Ho]
  · isplitr; · iexact He
    isplitl [T2]; · iexact T2
    isplitr [Ho]
    · unfold barPay
      isplitl [Ra2]; · iexact Ra2
      isplitl [Rb0]; · iexact Rb0
      isplitl [Ga2]; · iexact Ga2
      iexact Gb0
    iexact Ho
  iintro Ho
  iapply (signal_spec I K c 3 _ (dev4_eq c)) $$ [T3 Ra3 Rb1 Ga3 Gb1 Ho]
  · isplitr; · iexact He
    isplitl [T3]; · iexact T3
    isplitr [Ho]
    · unfold barPay
      isplitl [Ra3]; · iexact Ra3
      isplitl [Rb1]; · iexact Rb1
      isplitl [Ga3]; · iexact Ga3
      iexact Gb1
    iexact Ho
  iintro Ho
  iapply (barWait_spec I K c) $$ [Hw Ho]
  · isplitr; · iexact He
    isplitl [Hw]; · iexact Hw
    iexact Ho
  iintro ⟨⟨P0, P1, P2, P3⟩, Hz, Ho⟩
  ihave P0 := (barPay_open c 0) $$ P0
  ihave P1 := (barPay_open c 1) $$ P1
  ihave P2 := (barPay_open c 2) $$ P2
  ihave P3 := (barPay_open c 3) $$ P3
  icases P0 with ⟨Ra0, Rb3, Ga0, Gb3⟩
  icases P1 with ⟨Ra1, Rb2, Ga1, Gb2⟩
  icases P2 with ⟨Ra2, Rb0, Ga2, Gb0⟩
  icases P3 with ⟨Ra3, Rb1, Ga3, Gb1⟩
  iapply Hk
  unfold landing kept
  isplitl [Ra0 Ra1 Ra2 Ra3 Ga0 Ga1 Ga2 Ga3 Rb0 Rb1 Rb2 Rb3 Gb0 Gb1 Gb2 Gb3]
  · isplitl [Ra0 Ra1 Ra2 Ra3 Ga0 Ga1 Ga2 Ga3]
    · isplitl [Ra0 Ra1 Ra2 Ra3]
      · isplitl [Ra0]; · iexact Ra0
        isplitl [Ra1]; · iexact Ra1
        isplitl [Ra2]; · iexact Ra2
        iexact Ra3
      · isplitl [Ga0]; · iexact Ga0
        isplitl [Ga1]; · iexact Ga1
        isplitl [Ga2]; · iexact Ga2
        iexact Ga3
    · isplitl [Rb0 Rb1 Rb2 Rb3]
      · isplitl [Rb0]; · iexact Rb0
        isplitl [Rb1]; · iexact Rb1
        isplitl [Rb2]; · iexact Rb2
        iexact Rb3
      · isplitl [Gb0]; · iexact Gb0
        isplitl [Gb1]; · iexact Gb1
        isplitl [Gb2]; · iexact Gb2
        iexact Gb3
  isplitl [Ka La Kb Lb]
  · isplitl [Ka La]
    · isplitl [Ka]; · iexact Ka
      iexact La
    · isplitl [Kb]; · iexact Kb
      iexact Lb
  isplitl [Hz]; · iexact Hz
  iexact Ho

/-! ## The attention -/

/-- The working copies of K and V with the first `n` heads. -/
def heads (n : ℕ) : sProp 𝕄 := iprop(part c ktM fullShare all (upto n) (nat3 (Kn I c)) ∗ part c vtM fullShare all (upto n) (nat3 (Vn I c)))
/-- The queries, known on `Kq`, and the context, known on `A` and in 512 rows in the columns of the first `h` heads. -/
def qctx (Kq A : S1024x1024.Idx → Prop) (lo h : ℕ) : sProp 𝕄 :=
  iprop(part c qM fullShare all Kq (nat2 (Qn I c)) ∗ part c cM fullShare all (ctx A lo h) (nat2 (Cn I c)))
/-- The blocks of x and Wq. -/
def xwq : sProp 𝕄 := iprop(part c xM fullShare all all (nat3 fun _ a b => I.x c a b) ∗ part c wqM fullShare all all (nat2 (I.wq c)))

theorem attn2_heads (lo h : ℕ) (hlo : 512 ∣ lo) (hh : h < 8) (b) (hb : Scalar.addi b 0#32 = BitVec.ofNat 32 lo ∧ Scalar.addi b 256#32 = BitVec.ofNat 32 (lo + 256))
    (oq) (hq) (hoq : ∀ r : Fin 2, oq (BitVec.ofNat 32 (256 * r.val)) = qoff lo h r) (pq) (ok) (hk) (hok : ∀ r : Fin 2, ok (BitVec.ofNat 32 (256 * r.val)) = koff lo h r)
    (Kq : S1024x1024.Idx → Prop) (hKq : ∀ x : S1024x1024.Idx, rows lo x → Kq x) (n : ℕ) (hn : h < n) (A : S1024x1024.Idx → Prop) (Φ : PUnit → sProp 𝕄) :
    iprop(heads I c n ∗ qctx I c Kq A lo h) ⊢ iprop(((heads I c n ∗ qctx I c Kq A lo (h + 1)) -∗ Φ ⟨⟩) -∗ run c (attn2 b oq hq pq ok hk) Φ) := by
  unfold heads qctx
  iintro ⟨⟨H1, H2⟩, H3, H4⟩ Hk
  iapply (attn2_spec I c lo h hlo hh b hb oq hq hoq pq ok hk hok Kq hKq n hn A) $$ [H1 H2 H3 H4]
  · isplitl [H3]; · iexact H3
    isplitl [H1]; · iexact H1
    isplitl [H2]; · iexact H2
    iexact H4
  iintro ⟨H3, H1, H2, H4⟩
  iapply Hk
  isplitl [H1 H2]
  · isplitl [H1]; · iexact H1
    iexact H2
  isplitl [H3]; · iexact H3
  iexact H4

/-- A head taken in and used at once. -/
theorem head_spec (h : Fin 8) (lo : ℕ) (hlo : 512 ∣ lo) (b) (hb : Scalar.addi b 0#32 = BitVec.ofNat 32 lo ∧ Scalar.addi b 256#32 = BitVec.ofNat 32 (lo + 256))
    (oq) (hq) (hoq : ∀ r : Fin 2, oq (BitVec.ofNat 32 (256 * r.val)) = qoff lo h.val r) (pq) (ok) (hk) (hok : ∀ r : Fin 2, ok (BitVec.ofNat 32 (256 * r.val)) = koff lo h.val r)
    (Kq : S1024x1024.Idx → Prop) (hKq : ∀ x : S1024x1024.Idx, rows lo x → Kq x) (A : S1024x1024.Idx → Prop) (Φ : PUnit → sProp 𝕄) :
    iprop(env I K ∗ waiting2 (F := F) c h ∗ returned I c h.val ∗ ow (F := F) c 4 ∗ heads I c h.val ∗ qctx I c Kq A lo h.val)
      ⊢ iprop(((closed2 (F := F) c h ∗ returned I c (h.val + 1) ∗ ow (F := F) c 4 ∗ heads I c (h.val + 1) ∗ qctx I c Kq A lo (h.val + 1)) -∗ Φ ⟨⟩)
        -∗ run c (takeHead c h) fun _ => run c (attn2 b oq hq pq ok hk) Φ) := by
  unfold waiting2 closed2 returned src
  iintro ⟨#He, ⟨W1, W2⟩, ⟨R1, R2, R3, R4⟩, Ho, Hh, Hq⟩ Hk
  unfold heads
  icases Hh with ⟨H1, H2⟩
  iapply (takeHead_spec I K c h 4 (by decide)) $$ [W1 W2 Ho H1 H2]
  · isplitr; · iexact He
    isplitl [W1]; · iexact W1
    isplitl [W2]; · iexact W2
    isplitl [Ho]; · iexact Ho
    isplitl [H1]; · iexact H1
    iexact H2
  iintro ⟨P1, P2, Z1, Z2, Ho, H1, H2⟩
  unfold kvPay
  icases P1 with ⟨A3, A1⟩
  icases P2 with ⟨A4, A2⟩
  iapply (attn2_heads I c lo h.val hlo h.isLt b hb oq hq hoq pq ok hk hok Kq hKq (h.val + 1) (Nat.lt_succ_self _) A) $$ [H1 H2 Hq]
  · isplitl [H1 H2]
    · unfold heads; isplitl [H1]; · iexact H1
      iexact H2
    iexact Hq
  iintro ⟨Hh, Hq⟩
  iapply Hk
  isplitl [Z1 Z2]; · isplitl [Z1]; · iexact Z1
                     iexact Z2
  isplitl [R1 R2 R3 R4 A1 A2 A3 A4]
  · isplitl [R1 A1]
    · iapply (known_join c (inM false) fullShare (back_cut c h.val h.isLt) (back_apart c h.val h.isLt)); isplitl [A1]; · iexact A1
      iexact R1
    isplitl [R2 A2]
    · iapply (known_join c (inM true) fullShare (back_cut c h.val h.isLt) (back_apart c h.val h.isLt)); isplitl [A2]; · iexact A2
      iexact R2
    isplitl [R3 A3]
    · iapply (some_join c kfM (upto_cut h.val) (upto_apart h.val))
      isplitl [A3]; · iapply (some_intro c kfM); iexact A3
      iexact R3
    · iapply (some_join c vfM (upto_cut h.val) (upto_apart h.val))
      isplitl [A4]; · iapply (some_intro c vfM); iexact A4
      iexact R4
  isplitl [Ho]; · iexact Ho
  isplitl [Hh]
  · unfold heads; iexact Hh
  iexact Hq

theorem lo1_dvd : ∀ c : Dev nD, 512 ∣ lo1 c := by decide
theorem lo2_dvd : ∀ c : Dev nD, 512 ∣ lo2 c := by decide

abbrev none2 : S1024x1024.Idx → Prop := fun _ => False

theorem half1_spec (Φ : PUnit → sProp 𝕄) :
    iprop(env I K ∗ bigSep Finset.univ (waiting2 (F := F) c) ∗ returned I c 0 ∗ ow (F := F) c 4 ∗ xwq I c ∗ heads I c 0 ∗ part c qM fullShare all none2 (nat2 (Qn I c)) ∗ part c cM fullShare all (ctx none2 (lo1 c) 0) (nat2 (Cn I c)))
      ⊢ iprop(((bigSep Finset.univ (closed2 (F := F) c) ∗ returned I c 8 ∗ ow (F := F) c 4 ∗ xwq I c ∗ heads I c 8 ∗ qctx I c (rows (lo1 c)) none2 (lo1 c) 8) -∗ Φ ⟨⟩) -∗ run c (half1 c) Φ) := by
  unfold half1
  simp only [run_bind]
  rw [eight_sep, eight_sep]
  iintro ⟨#He, ⟨W0, W1, W2, W3, W4, W5, W6, W7⟩, R, Ho, Hx, Hh, Hq, Hc⟩ Hk
  unfold xwq
  icases Hx with ⟨Hx, Hw⟩
  iapply (queries_spec I c (lo1 c) (lo1_dvd c) _ _ (off2_eq c) _ _ (off3_eq c) _ none2 (rows (lo1 c)) (fun x hx => Or.inl hx)) $$ [Hx Hw Hq]
  · isplitl [Hx]; · iexact Hx
    isplitl [Hw]; · iexact Hw
    iexact Hq
  iintro ⟨Hx, Hw, Hq⟩
  ihave Hq := (show iprop(part c qM fullShare all (rows (lo1 c)) (nat2 (Qn I c)) ∗ part c cM fullShare all (ctx none2 (lo1 c) 0) (nat2 (Cn I c))) ⊢ qctx I c (rows (lo1 c)) none2 (lo1 c) 0 from BIBase.Entails.rfl) $$ [Hq Hc]
  · isplitl [Hq]; · iexact Hq
    iexact Hc
  iapply (head_spec I K c 0 (lo1 c) (lo1_dvd c) _ (base1_eq c) _ _ (off4_eq c) _ _ _ (off5_eq c) (rows (lo1 c)) (fun _ h => h) none2) $$ [W0 R Ho Hh Hq]
  · isplitr; · iexact He
    isplitl [W0]; · iexact W0
    isplitl [R]; · iexact R
    isplitl [Ho]; · iexact Ho
    isplitl [Hh]; · iexact Hh
    iexact Hq
  iintro ⟨Z0, R, Ho, Hh, Hq⟩
  iapply (head_spec I K c 1 (lo1 c) (lo1_dvd c) _ (base1_eq c) _ _ (off6_eq c) _ _ _ (off7_eq c) (rows (lo1 c)) (fun _ h => h) none2) $$ [W1 R Ho Hh Hq]
  · isplitr; · iexact He
    isplitl [W1]; · iexact W1
    isplitl [R]; · iexact R
    isplitl [Ho]; · iexact Ho
    isplitl [Hh]; · iexact Hh
    iexact Hq
  iintro ⟨Z1, R, Ho, Hh, Hq⟩
  iapply (head_spec I K c 2 (lo1 c) (lo1_dvd c) _ (base1_eq c) _ _ (off8_eq c) _ _ _ (off9_eq c) (rows (lo1 c)) (fun _ h => h) none2) $$ [W2 R Ho Hh Hq]
  · isplitr; · iexact He
    isplitl [W2]; · iexact W2
    isplitl [R]; · iexact R
    isplitl [Ho]; · iexact Ho
    isplitl [Hh]; · iexact Hh
    iexact Hq
  iintro ⟨Z2, R, Ho, Hh, Hq⟩
  iapply (head_spec I K c 3 (lo1 c) (lo1_dvd c) _ (base1_eq c) _ _ (off10_eq c) _ _ _ (off11_eq c) (rows (lo1 c)) (fun _ h => h) none2) $$ [W3 R Ho Hh Hq]
  · isplitr; · iexact He
    isplitl [W3]; · iexact W3
    isplitl [R]; · iexact R
    isplitl [Ho]; · iexact Ho
    isplitl [Hh]; · iexact Hh
    iexact Hq
  iintro ⟨Z3, R, Ho, Hh, Hq⟩
  iapply (head_spec I K c 4 (lo1 c) (lo1_dvd c) _ (base1_eq c) _ _ (off12_eq c) _ _ _ (off13_eq c) (rows (lo1 c)) (fun _ h => h) none2) $$ [W4 R Ho Hh Hq]
  · isplitr; · iexact He
    isplitl [W4]; · iexact W4
    isplitl [R]; · iexact R
    isplitl [Ho]; · iexact Ho
    isplitl [Hh]; · iexact Hh
    iexact Hq
  iintro ⟨Z4, R, Ho, Hh, Hq⟩
  iapply (head_spec I K c 5 (lo1 c) (lo1_dvd c) _ (base1_eq c) _ _ (off14_eq c) _ _ _ (off15_eq c) (rows (lo1 c)) (fun _ h => h) none2) $$ [W5 R Ho Hh Hq]
  · isplitr; · iexact He
    isplitl [W5]; · iexact W5
    isplitl [R]; · iexact R
    isplitl [Ho]; · iexact Ho
    isplitl [Hh]; · iexact Hh
    iexact Hq
  iintro ⟨Z5, R, Ho, Hh, Hq⟩
  iapply (head_spec I K c 6 (lo1 c) (lo1_dvd c) _ (base1_eq c) _ _ (off16_eq c) _ _ _ (off17_eq c) (rows (lo1 c)) (fun _ h => h) none2) $$ [W6 R Ho Hh Hq]
  · isplitr; · iexact He
    isplitl [W6]; · iexact W6
    isplitl [R]; · iexact R
    isplitl [Ho]; · iexact Ho
    isplitl [Hh]; · iexact Hh
    iexact Hq
  iintro ⟨Z6, R, Ho, Hh, Hq⟩
  iapply (head_spec I K c 7 (lo1 c) (lo1_dvd c) _ (base1_eq c) _ _ (off18_eq c) _ _ _ (off19_eq c) (rows (lo1 c)) (fun _ h => h) none2) $$ [W7 R Ho Hh Hq]
  · isplitr; · iexact He
    isplitl [W7]; · iexact W7
    isplitl [R]; · iexact R
    isplitl [Ho]; · iexact Ho
    isplitl [Hh]; · iexact Hh
    iexact Hq
  iintro ⟨Z7, R, Ho, Hh, Hq⟩
  iapply Hk
  isplitl [Z0 Z1 Z2 Z3 Z4 Z5 Z6 Z7]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    iexact Z7
  isplitl [R]; · iexact R
  isplitl [Ho]; · iexact Ho
  isplitl [Hx Hw]; · isplitl [Hx]; · iexact Hx
                     iexact Hw
  isplitl [Hh]; · iexact Hh
  iexact Hq

theorem half2_spec (Φ : PUnit → sProp 𝕄) :
    iprop(xwq I c ∗ heads I c 8 ∗ qctx I c (rows (lo1 c)) none2 (lo1 c) 8)
      ⊢ iprop(((xwq I c ∗ heads I c 8 ∗ qctx I c all (rows (lo1 c)) (lo2 c) 8) -∗ Φ ⟨⟩) -∗ run c (half2 c) Φ) := by
  unfold half2
  simp only [run_bind]
  iintro ⟨Hx, Hh, Hq⟩ Hk
  unfold xwq
  icases Hx with ⟨Hx, Hw⟩
  ihave Hq := (show qctx I c (rows (lo1 c)) none2 (lo1 c) 8 ⊢ iprop(part c qM fullShare all (rows (lo1 c)) (nat2 (Qn I c)) ∗ part c cM fullShare all (ctx (rows (lo1 c)) (lo2 c) 0) (nat2 (Cn I c))) from
    BI.sep_mono (BI.Entails.refl _) (part_mono c cM fullShare fun x hx => ⟨by
      have : (x 1).val < 1024 := (x 1).isLt
      have hx' : rows (lo1 c) x ∨ _ := hx
      unfold ctx at *; unfold rows at *; omega, rfl⟩)) $$ Hq
  icases Hq with ⟨Hq, Hc⟩
  iapply (queries_spec I c (lo2 c) (lo2_dvd c) _ _ (off22_eq c) _ _ (off23_eq c) _ (rows (lo1 c)) all (fun x hx => by
      have h1 := keep_give0 false c
      have h2 : (x 0).val < 1024 := (x 0).isLt
      unfold rows; show (keep false 0 c ≤ _ ∧ _ < keep false 0 c + 512) ∨ (give false 0 c ≤ _ ∧ _ < give false 0 c + 512); omega)) $$ [Hx Hw Hq]
  · isplitl [Hx]; · iexact Hx
    isplitl [Hw]; · iexact Hw
    iexact Hq
  iintro ⟨Hx, Hw, Hq⟩
  ihave H := (show iprop(heads I c 8 ∗ part c qM fullShare all all (nat2 (Qn I c)) ∗ part c cM fullShare all (ctx (rows (lo1 c)) (lo2 c) 0) (nat2 (Cn I c))) ⊢ iprop(heads I c 8 ∗ qctx I c all (rows (lo1 c)) (lo2 c) 0) from BIBase.Entails.rfl) $$ [Hh Hq Hc]
  · isplitl [Hh]; · iexact Hh
    isplitl [Hq]; · iexact Hq
    iexact Hc
  iapply (attn2_heads I c (lo2 c) 0 (lo2_dvd c) (by decide) _ (base2_eq c) _ _ (off24_eq c) _ _ _ (off25_eq c) all (fun _ _ => trivial) 8 (by decide) (rows (lo1 c))) $$ H
  iintro H
  iapply (attn2_heads I c (lo2 c) 1 (lo2_dvd c) (by decide) _ (base2_eq c) _ _ (off26_eq c) _ _ _ (off27_eq c) all (fun _ _ => trivial) 8 (by decide) (rows (lo1 c))) $$ H
  iintro H
  iapply (attn2_heads I c (lo2 c) 2 (lo2_dvd c) (by decide) _ (base2_eq c) _ _ (off28_eq c) _ _ _ (off29_eq c) all (fun _ _ => trivial) 8 (by decide) (rows (lo1 c))) $$ H
  iintro H
  iapply (attn2_heads I c (lo2 c) 3 (lo2_dvd c) (by decide) _ (base2_eq c) _ _ (off30_eq c) _ _ _ (off31_eq c) all (fun _ _ => trivial) 8 (by decide) (rows (lo1 c))) $$ H
  iintro H
  iapply (attn2_heads I c (lo2 c) 4 (lo2_dvd c) (by decide) _ (base2_eq c) _ _ (off32_eq c) _ _ _ (off33_eq c) all (fun _ _ => trivial) 8 (by decide) (rows (lo1 c))) $$ H
  iintro H
  iapply (attn2_heads I c (lo2 c) 5 (lo2_dvd c) (by decide) _ (base2_eq c) _ _ (off34_eq c) _ _ _ (off35_eq c) all (fun _ _ => trivial) 8 (by decide) (rows (lo1 c))) $$ H
  iintro H
  iapply (attn2_heads I c (lo2 c) 6 (lo2_dvd c) (by decide) _ (base2_eq c) _ _ (off36_eq c) _ _ _ (off37_eq c) all (fun _ _ => trivial) 8 (by decide) (rows (lo1 c))) $$ H
  iintro H
  iapply (attn2_heads I c (lo2 c) 7 (lo2_dvd c) (by decide) _ (base2_eq c) _ _ (off38_eq c) _ _ _ (off39_eq c) all (fun _ _ => trivial) 8 (by decide) (rows (lo1 c))) $$ H
  iintro ⟨Hh, Hq⟩
  iapply Hk
  isplitl [Hx Hw]; · isplitl [Hx]; · iexact Hx
                     iexact Hw
  isplitl [Hh]; · iexact Hh
  iexact Hq

end Cert.KernelIdeal.Att
end
-- ==== Proof.Phases2.lean ====
/- The phases of the body from the first product with Wo on. -/
module

public import proofs.«01_k».proof.Proof.Phases

@[expose] public section

set_option maxRecDepth 100000

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F) (K : Dev nD × CK → ℕ) (c : Dev nD)

/-! ## The products with Wo -/

/-- The context, known on `Kc`, and the block of Wo. -/
def cwo (Kc : S1024x1024.Idx → Prop) : sProp 𝕄 := iprop(part c cM fullShare all Kc (nat2 (Cn I c)) ∗ part c woM fullShare all all (nat2 (I.wo c)))
/-- One half of the columns of the sum, known on `Ka`. -/
def acc (s : Bool) (k : ℕ) (Ka : S1024x1024.Idx → Prop) : sProp 𝕄 := part c aM fullShare (colP s) Ka (nat2 (An I k c))
/-- The rounded sum in the rows kept (given) at a step. -/
def keepB (s : Bool) (k : Fin 4) (j : ℕ) : sProp 𝕄 := part c bM fullShare (rowP s (keep s k c) (half k.val)) (rowP s (keep s k c) (half k.val)) (nat2 (Rn I j c))
def giveB (s : Bool) (k : Fin 4) (j : ℕ) : sProp 𝕄 := part c bM fullShare (rowP s (give s k c) (half k.val)) (rowP s (give s k c) (half k.val)) (nat2 (Rn I j c))
abbrev keepRows (s : Bool) (k : Fin 4) : S1024x1024.Idx → Prop := rowP s (keep s k c) (half k.val)

theorem rsSend' (s : Bool) (k : Fin 4) {n : ℕ} (hn : n = half k.val) (e : Dev nD) (he : e = peer s k c) (o) (h) (ho : o = ![give s k c, c0 s]) (w) (h') (sq) (w')
    (i : ℕ) (hi : i < 20) (h1 : dueTo c i = peer s k c) (h2 : dueK i = xfer false s true k) (Φ : PUnit → sProp 𝕄) :
    iprop(env I K ∗ toSend (F := F) false s k c ∗ giveB I c s k k.val ∗ slotAt (F := F) c s k ∗ ow (F := F) c i)
      ⊢ iprop(((waiting (F := F) (xfer false s false k) c ∗ ow (F := F) c (i + 1)) -∗ Φ ⟨⟩) -∗ run c (rsSend s k (n := n) e o h w h' sq w') Φ) :=
  rsSend_spec I K s k c hn e he o h ho w h' sq w' i hi h1 h2 Φ

theorem dvd_keep0 : ∀ (s : Bool) (c : Dev nD), 512 ∣ keep s 0 c := by decide
theorem dvd_give0 : ∀ (s : Bool) (c : Dev nD), 512 ∣ give s 0 c := by decide

theorem rows_cases (s : Bool) (x : S1024x1024.Idx) : colP s x → rowP s (give s 0 c) 512 x ∨ rowP s (keep s 0 c) 512 x := (row_cut0 s c x).mp

/-- A half of the columns of the rounded sum, cut into the rows given and kept first. -/
theorem cutB0 (s : Bool) (j : ℕ) (Kb : S1024x1024.Idx → Prop) (hKb : ∀ x, rowP s (give s 0 c) 512 x → Kb x) :
    part c bM fullShare (colP s) Kb (nat2 (Rn I j c)) ⊢ iprop(giveB I c s 0 j ∗ part c bM fullShare (rowP s (keep s 0 c) (half (0 : Fin 4).val)) Kb (nat2 (Rn I j c))) := by
  unfold giveB
  refine BIBase.Entails.trans (part_split c bM fullShare (row_cut0 s c) (row_apart s 0 c)) ?_
  exact BI.sep_mono (part_mono c bM fullShare fun x hx => ⟨hKb x hx, rfl⟩) (BI.Entails.refl _)

theorem first_spec (Φ : PUnit → sProp 𝕄) :
    iprop(env I K ∗ toSend (F := F) false false 0 c ∗ slotAt (F := F) c false 0 ∗ ow (F := F) c 4 ∗ cwo I c (ctx none2 (lo1 c) 8) ∗ acc I c false 0 none2 ∗ some (F := F) c bM (colP false))
      ⊢ iprop(((waiting (F := F) (xfer false false false 0) c ∗ ow (F := F) c 5 ∗ cwo I c (ctx none2 (lo1 c) 8) ∗ acc I c false 0 none2 ∗ some (F := F) c bM (keepRows c false 0)) -∗ Φ ⟨⟩)
        -∗ run c (first c) Φ) := by
  unfold first
  simp only [run_bind]
  iintro ⟨#He, Ht, Hs, Ho, Hc, Ha, Hb⟩ Hk
  unfold cwo acc
  icases Hc with ⟨Hc, Hw⟩
  ihave Hb := (some_elim c bM (colP false) none2 (nat2 (Rn I 0 c)) (fun _ h => h.elim)) $$ Hb
  iapply (quad_spec I c (lo1 c) (lo1_dvd c) false _ _ (off3_eq c) _ _ rfl _ _ (off20_eq c) _ (ctx none2 (lo1 c) 8) (fun x hx => Or.inr ⟨hx, (x 1).isLt⟩) none2 none2 (colP false) none2
    (rowP false (lo1 c) 512) (fun _ h => h.elim) (fun x hx => (row_cut0 false c x).mpr (Or.inl hx)) (fun x hx => Or.inl hx)) $$ [Hc Hw Ha Hb]
  · isplitl [Hc]; · iexact Hc
    isplitl [Hw]; · iexact Hw
    isplitl [Ha]; · iexact Ha
    iexact Hb
  iintro ⟨Hc, Hw, Ha, Hb⟩
  ihave Hb := (cutB0 I c false 0 (rowP false (lo1 c) 512) (fun _ h => h)) $$ Hb
  icases Hb with ⟨Hb, Hr⟩
  iapply (rsSend' I K c false 0 (by rfl) _ (dev5_eq c) _ _ (off21_eq c) _ _ _ _ 4 (by decide) (by rfl) (by rfl)) $$ [Ht Hb Hs Ho]
  · isplitr; · iexact He
    isplitl [Ht]; · iexact Ht
    isplitl [Hb]; · iexact Hb
    isplitl [Hs]; · iexact Hs
    iexact Ho
  iintro ⟨Hq, Ho⟩
  iapply Hk
  isplitl [Hq]; · iexact Hq
  isplitl [Ho]; · iexact Ho
  isplitl [Hc Hw]
  · isplitl [Hc]; · iexact Hc
    iexact Hw
  isplitl [Ha]; · iexact Ha
  iapply (some_intro c bM); iexact Hr

/-- Before an addition of the reduce-scatter: the rows kept, known. -/
def before (s : Bool) (k : Fin 4) : sProp 𝕄 := iprop(acc I c s k.val (keepRows c s k) ∗ keepB I c s k k.val)
/-- After it. -/
def after (s : Bool) (k : Fin 4) : sProp 𝕄 := iprop(acc I c s (k.val + 1) (keepRows c s k) ∗ keepB I c s k (k.val + 1))

theorem rest_spec (Φ : PUnit → sProp 𝕄) :
    iprop(env I K ∗ toSend (F := F) false true 0 c ∗ slotAt (F := F) c true 0 ∗ ow (F := F) c 5 ∗ cwo I c (ctx (rows (lo1 c)) (lo2 c) 8) ∗ acc I c false 0 none2 ∗ acc I c true 0 none2
        ∗ some (F := F) c bM (keepRows c false 0) ∗ some (F := F) c bM (colP true))
      ⊢ iprop(((waiting (F := F) (xfer false true false 0) c ∗ ow (F := F) c 6 ∗ cwo I c (ctx (rows (lo1 c)) (lo2 c) 8) ∗ before I c false 0 ∗ before I c true 0) -∗ Φ ⟨⟩)
        -∗ run c (rest c) Φ) := by
  unfold rest
  simp only [run_bind]
  have hctx : ∀ x : S1024x1024.Idx, ctx (rows (lo1 c)) (lo2 c) 8 x := fun x => by
    have h1 := keep_give0 false c
    have h2 : (x 0).val < 1024 := (x 0).isLt
    have h3 : (x 1).val < 1024 := (x 1).isLt
    show (give false 0 c ≤ _ ∧ _ < give false 0 c + 512) ∨ ((keep false 0 c ≤ _ ∧ _ < keep false 0 c + 512) ∧ _)
    omega
  iintro ⟨#He, Ht, Hs, Ho, Hc, Ha, Ha', Hb, Hb'⟩ Hk
  unfold cwo acc before acc
  icases Hc with ⟨Hc, Hw⟩
  ihave Hb := (some_elim c bM (keepRows c false 0) none2 (nat2 (Rn I 0 c)) (fun _ h => h.elim)) $$ Hb
  ihave Hb' := (some_elim c bM (colP true) none2 (nat2 (Rn I 0 c)) (fun _ h => h.elim)) $$ Hb'
  iapply (quad_spec I c (give true 0 c) (dvd_give0 true c) true _ _ (off40_eq c) _ _ rfl _ _ (off41_eq c) _ (ctx (rows (lo1 c)) (lo2 c) 8) (fun x _ => hctx x) none2 none2 (colP true) none2
    (rowP true (give true 0 c) 512) (fun _ h => h.elim) (fun x hx => (row_cut0 true c x).mpr (Or.inl hx)) (fun x hx => Or.inl hx)) $$ [Hc Hw Ha' Hb']
  · isplitl [Hc]; · iexact Hc
    isplitl [Hw]; · iexact Hw
    isplitl [Ha']; · iexact Ha'
    iexact Hb'
  iintro ⟨Hc, Hw, Ha', Hb'⟩
  ihave Hb' := (cutB0 I c true 0 (rowP true (give true 0 c) 512) (fun _ h => h)) $$ Hb'
  icases Hb' with ⟨Hg, Hb'⟩
  iapply (rsSend' I K c true 0 (by rfl) _ (dev6_eq c) _ _ (off42_eq c) _ _ _ _ 5 (by decide) (by rfl) (by rfl)) $$ [Ht Hg Hs Ho]
  · isplitr; · iexact He
    isplitl [Ht]; · iexact Ht
    isplitl [Hg]; · iexact Hg
    isplitl [Hs]; · iexact Hs
    iexact Ho
  iintro ⟨Hq, Ho⟩
  iapply (quad_spec I c (lo2 c) (lo2_dvd c) false _ _ (off23_eq c) _ _ rfl _ _ (off43_eq c) _ (ctx (rows (lo1 c)) (lo2 c) 8) (fun x _ => hctx x) none2 (keepRows c false 0) (keepRows c false 0) none2
    (keepRows c false 0) (fun _ h => Or.inl h) (fun x hx => hx) (fun x hx => Or.inl hx)) $$ [Hc Hw Ha Hb]
  · isplitl [Hc]; · iexact Hc
    isplitl [Hw]; · iexact Hw
    isplitl [Ha]; · iexact Ha
    iexact Hb
  iintro ⟨Hc, Hw, Ha, Hb⟩
  iapply (quad_spec I c (keep true 0 c) (dvd_keep0 true c) true _ _ (off44_eq c) _ _ rfl _ _ (off45_eq c) _ (ctx (rows (lo1 c)) (lo2 c) 8) (fun x _ => hctx x) none2 (keepRows c true 0) (keepRows c true 0)
    (rowP true (give true 0 c) 512) (keepRows c true 0) (fun _ h => Or.inl h) (fun x hx => hx) (fun x hx => Or.inl hx)) $$ [Hc Hw Ha' Hb']
  · isplitl [Hc]; · iexact Hc
    isplitl [Hw]; · iexact Hw
    isplitl [Ha']; · iexact Ha'
    iexact Hb'
  iintro ⟨Hc, Hw, Ha', Hb'⟩
  iapply Hk
  unfold keepB
  isplitl [Hq]; · iexact Hq
  isplitl [Ho]; · iexact Ho
  isplitl [Hc Hw]
  · isplitl [Hc]; · iexact Hc
    iexact Hw
  isplitl [Ha Hb]
  · isplitl [Ha]; · iexact Ha
    iexact Hb
  isplitl [Ha']; · iexact Ha'
  iexact Hb'

/-! ## The reduce-scatters -/

theorem add_spec (s : Bool) (k : Fin 4) {n : ℕ} (hn : n = half k.val) (ow1) (hw) (w) (hw') (sq) (w') (hs) (hs1) (o) (h) (ho : o = ![keep s k c, c0 s]) (p) (h') {sum} {rnd}
    (hA : IsAdd (F := F) (n := n) sum rnd) (i : ℕ) (hlv : ∀ j < 20, i ≤ j → lvK (xfer false s true k) < lvK (dueK j)) (Φ : PUnit → sProp 𝕄) :
    iprop(env I K ∗ waiting (F := F) (xfer false s true k) c ∗ before I c s k ∗ ow (F := F) c i)
      ⊢ iprop(((rsRecvPay I s k c ∗ semVal (cell c (xfer false s true k)) 0 ∗ after I c s k ∗ ow (F := F) c i) -∗ Φ ⟨⟩)
        -∗ run c (rsWait s k (n := n) ow1 hw w hw' sq w') fun _ => run c (rsAdd s k (n := n) hs hs1 o h p h' sum rnd) Φ) := by
  iintro ⟨#He, Hw, Hb, Ho⟩ Hk
  iapply (rsWait_spec I K s k c hn _ _ _ _ _ _ i hlv) $$ [Hw Ho]
  · isplitr; · iexact He
    isplitl [Hw]; · iexact Hw
    iexact Ho
  iintro ⟨Hp, Hz, Ho⟩
  unfold before after acc keepB
  icases Hb with ⟨Ha, Hb⟩
  iapply (rsAdd_spec I s k c hn hs hs1 o h ho p h' hA (keepRows c s k) (fun _ h => h) _ _) $$ [Ha Hp Hb]
  · isplitl [Ha]; · iexact Ha
    isplitl [Hp]; · iexact Hp
    iexact Hb
  iintro ⟨Ha, Hp, Hb⟩
  iapply Hk
  isplitl [Hp]; · iexact Hp
  isplitl [Hz]; · iexact Hz
  isplitl [Ha Hb]
  · isplitl [Ha]; · iexact Ha
    iexact Hb
  iexact Ho

theorem pass_spec (s : Bool) (k k' : Fin 4) (hk : k'.val = k.val + 1) {n : ℕ} (hn : n = half k'.val) (e : Dev nD) (he : e = peer s k' c) (o) (h) (ho : o = ![give s k' c, c0 s]) (w) (h') (sq) (w')
    (i : ℕ) (hi : i < 20) (h1 : dueTo c i = peer s k' c) (h2 : dueK i = xfer false s true k') (Φ : PUnit → sProp 𝕄) :
    iprop(env I K ∗ toSend (F := F) false s k' c ∗ slotAt (F := F) c s k' ∗ after I c s k ∗ ow (F := F) c i)
      ⊢ iprop(((waiting (F := F) (xfer false s false k') c ∗ before I c s k' ∗ ow (F := F) c (i + 1)) -∗ Φ ⟨⟩) -∗ run c (rsSend s k' (n := n) e o h w h' sq w') Φ) := by
  unfold after before acc keepB
  rw [← hk]
  iintro ⟨#He, Ht, Hs, ⟨Ha, Hb⟩, Ho⟩ Hk
  ihave Hb := (known_split c bM fullShare (row_cut s k k' hk c) (row_apart s k' c)) $$ Hb
  icases Hb with ⟨Hg, Hb⟩
  iapply (rsSend_spec I K s k' c hn e he o h ho w h' sq w' i hi h1 h2) $$ [Ht Hg Hs Ho]
  · unfold slotAt
    isplitr; · iexact He
    isplitl [Ht]; · iexact Ht
    isplitl [Hg]; · iexact Hg
    isplitl [Hs]; · iexact Hs
    iexact Ho
  iintro ⟨Hw, Ho⟩
  iapply Hk
  isplitl [Hw]; · iexact Hw
  isplitl [Ha Hb]
  · isplitl [Ha]
    · iapply (part_mono c aM fullShare (fun x hx => ⟨(row_cut s k k' hk c x).mpr (Or.inr hx), rfl⟩)); iexact Ha
    iexact Hb
  iexact Ho

/-- The tokens of the three later sends; the waits for the four receives; what came; the semaphores at rest. -/
def sends3 (s : Bool) : sProp 𝕄 := iprop((toSend (F := F) false s 1 c ∗ slotAt (F := F) c s 1) ∗ (toSend (F := F) false s 2 c ∗ slotAt (F := F) c s 2) ∗ (toSend (F := F) false s 3 c ∗ slotAt (F := F) c s 3))
def waits (g s r : Bool) : sProp 𝕄 :=
  iprop(waiting (F := F) (xfer g s r 0) c ∗ waiting (F := F) (xfer g s r 1) c ∗ waiting (F := F) (xfer g s r 2) c ∗ waiting (F := F) (xfer g s r 3) c)
def closed (g s r : Bool) : sProp 𝕄 :=
  iprop(semVal (cell c (xfer g s r 0)) 0 ∗ semVal (cell c (xfer g s r 1)) 0 ∗ semVal (cell c (xfer g s r 2)) 0 ∗ semVal (cell c (xfer g s r 3)) 0)
def waits3 (s : Bool) : sProp 𝕄 := iprop(waiting (F := F) (xfer false s false 1) c ∗ waiting (F := F) (xfer false s false 2) c ∗ waiting (F := F) (xfer false s false 3) c)

theorem reduce_spec (Φ : PUnit → sProp 𝕄) :
    iprop(env I K ∗ (sends3 (F := F) c false ∗ sends3 (F := F) c true) ∗ (waits (F := F) c false false true ∗ waits (F := F) c false true true) ∗ (before I c false 0 ∗ before I c true 0) ∗ ow (F := F) c 6)
      ⊢ iprop((((waits3 (F := F) c false ∗ waits3 (F := F) c true) ∗ (slots (F := F) c false ∗ slots (F := F) c true) ∗ (closed (F := F) c false false true ∗ closed (F := F) c false true true)
        ∗ (after I c false 3 ∗ after I c true 3) ∗ ow (F := F) c 12) -∗ Φ ⟨⟩) -∗ run c (reduce c) Φ) := by
  unfold reduce
  simp only [run_bind]
  unfold sends3 waits waits3 closed slots
  iintro ⟨#He, ⟨⟨⟨T1, S1⟩, ⟨T2, S2⟩, ⟨T3, S3⟩⟩, ⟨⟨U1, V1⟩, ⟨U2, V2⟩, ⟨U3, V3⟩⟩⟩, ⟨⟨W0, W1, W2, W3⟩, ⟨X0, X1, X2, X3⟩⟩, ⟨B, D⟩, Ho⟩ Hk
  iapply (add_spec I K c false 0 (by rfl) _ _ _ _ _ _ _ _ _ _ (off46_eq c) _ _ addA0 6 (by decide)) $$ [W0 B Ho]
  · isplitr; · iexact He
    isplitl [W0]; · iexact W0
    isplitl [B]; · iexact B
    iexact Ho
  iintro ⟨P0, Z0, B, Ho⟩
  iapply (pass_spec I K c false 0 1 (by rfl) (by rfl) _ (dev7_eq c) _ _ (off47_eq c) _ _ _ _ 6 (by decide) (by rfl) (by rfl)) $$ [T1 S1 B Ho]
  · isplitr; · iexact He
    isplitl [T1]; · iexact T1
    isplitl [S1]; · iexact S1
    isplitl [B]; · iexact B
    iexact Ho
  iintro ⟨F1, B, Ho⟩
  iapply (add_spec I K c true 0 (by rfl) _ _ _ _ _ _ _ _ _ _ (off45_eq c) _ _ addB0 7 (by decide)) $$ [X0 D Ho]
  · isplitr; · iexact He
    isplitl [X0]; · iexact X0
    isplitl [D]; · iexact D
    iexact Ho
  iintro ⟨Q0, Y0, D, Ho⟩
  iapply (pass_spec I K c true 0 1 (by rfl) (by rfl) _ (dev8_eq c) _ _ (off48_eq c) _ _ _ _ 7 (by decide) (by rfl) (by rfl)) $$ [U1 V1 D Ho]
  · isplitr; · iexact He
    isplitl [U1]; · iexact U1
    isplitl [V1]; · iexact V1
    isplitl [D]; · iexact D
    iexact Ho
  iintro ⟨G1, D, Ho⟩
  iapply (add_spec I K c false 1 (by rfl) _ _ _ _ _ _ _ _ _ _ (off49_eq c) _ _ addA1 8 (by decide)) $$ [W1 B Ho]
  · isplitr; · iexact He
    isplitl [W1]; · iexact W1
    isplitl [B]; · iexact B
    iexact Ho
  iintro ⟨P1, Z1, B, Ho⟩
  iapply (pass_spec I K c false 1 2 (by rfl) (by rfl) _ (dev9_eq c) _ _ (off50_eq c) _ _ _ _ 8 (by decide) (by rfl) (by rfl)) $$ [T2 S2 B Ho]
  · isplitr; · iexact He
    isplitl [T2]; · iexact T2
    isplitl [S2]; · iexact S2
    isplitl [B]; · iexact B
    iexact Ho
  iintro ⟨F2, B, Ho⟩
  iapply (add_spec I K c true 1 (by rfl) _ _ _ _ _ _ _ _ _ _ (off51_eq c) _ _ addB1 9 (by decide)) $$ [X1 D Ho]
  · isplitr; · iexact He
    isplitl [X1]; · iexact X1
    isplitl [D]; · iexact D
    iexact Ho
  iintro ⟨Q1, Y1, D, Ho⟩
  iapply (pass_spec I K c true 1 2 (by rfl) (by rfl) _ (dev10_eq c) _ _ (off52_eq c) _ _ _ _ 9 (by decide) (by rfl) (by rfl)) $$ [U2 V2 D Ho]
  · isplitr; · iexact He
    isplitl [U2]; · iexact U2
    isplitl [V2]; · iexact V2
    isplitl [D]; · iexact D
    iexact Ho
  iintro ⟨G2, D, Ho⟩
  iapply (add_spec I K c false 2 (by rfl) _ _ _ _ _ _ _ _ _ _ (off53_eq c) _ _ addA2 10 (by decide)) $$ [W2 B Ho]
  · isplitr; · iexact He
    isplitl [W2]; · iexact W2
    isplitl [B]; · iexact B
    iexact Ho
  iintro ⟨P2, Z2, B, Ho⟩
  iapply (pass_spec I K c false 2 3 (by rfl) (by rfl) _ (dev11_eq c) _ _ (off54_eq c) _ _ _ _ 10 (by decide) (by rfl) (by rfl)) $$ [T3 S3 B Ho]
  · isplitr; · iexact He
    isplitl [T3]; · iexact T3
    isplitl [S3]; · iexact S3
    isplitl [B]; · iexact B
    iexact Ho
  iintro ⟨F3, B, Ho⟩
  iapply (add_spec I K c true 2 (by rfl) _ _ _ _ _ _ _ _ _ _ (off55_eq c) _ _ addB2 11 (by decide)) $$ [X2 D Ho]
  · isplitr; · iexact He
    isplitl [X2]; · iexact X2
    isplitl [D]; · iexact D
    iexact Ho
  iintro ⟨Q2, Y2, D, Ho⟩
  iapply (pass_spec I K c true 2 3 (by rfl) (by rfl) _ (dev12_eq c) _ _ (off56_eq c) _ _ _ _ 11 (by decide) (by rfl) (by rfl)) $$ [U3 V3 D Ho]
  · isplitr; · iexact He
    isplitl [U3]; · iexact U3
    isplitl [V3]; · iexact V3
    isplitl [D]; · iexact D
    iexact Ho
  iintro ⟨G3, D, Ho⟩
  iapply (add_spec I K c false 3 (by rfl) _ _ _ _ _ _ _ _ _ _ (off57_eq c) _ _ addA3 12 (by decide)) $$ [W3 B Ho]
  · isplitr; · iexact He
    isplitl [W3]; · iexact W3
    isplitl [B]; · iexact B
    iexact Ho
  iintro ⟨P3, Z3, B, Ho⟩
  iapply (add_spec I K c true 3 (by rfl) _ _ _ _ _ _ _ _ _ _ (off58_eq c) _ _ addB3 12 (by decide)) $$ [X3 D Ho]
  · isplitr; · iexact He
    isplitl [X3]; · iexact X3
    isplitl [D]; · iexact D
    iexact Ho
  iintro ⟨Q3, Y3, D, Ho⟩
  iapply Hk
  isplitl [F1 F2 F3 G1 G2 G3]
  · isplitl [F1 F2 F3]
    · isplitl [F1]; · iexact F1
      isplitl [F2]; · iexact F2
      iexact F3
    · isplitl [G1]; · iexact G1
      isplitl [G2]; · iexact G2
      iexact G3
  isplitl [P0 P1 P2 P3 Q0 Q1 Q2 Q3]
  · unfold rsRecvPay
    isplitl [P0 P1 P2 P3]
    · isplitl [P0]; · iapply (some_intro c (rM false)); iexact P0
      isplitl [P1]; · iapply (some_intro c (rM false)); iexact P1
      isplitl [P2]; · iapply (some_intro c (rM false)); iexact P2
      iapply (some_intro c (rM false)); iexact P3
    · isplitl [Q0]; · iapply (some_intro c (rM true)); iexact Q0
      isplitl [Q1]; · iapply (some_intro c (rM true)); iexact Q1
      isplitl [Q2]; · iapply (some_intro c (rM true)); iexact Q2
      iapply (some_intro c (rM true)); iexact Q3
  isplitl [Z0 Z1 Z2 Z3 Y0 Y1 Y2 Y3]
  · isplitl [Z0 Z1 Z2 Z3]
    · isplitl [Z0]; · iexact Z0
      isplitl [Z1]; · iexact Z1
      isplitl [Z2]; · iexact Z2
      iexact Z3
    · isplitl [Y0]; · iexact Y0
      isplitl [Y1]; · iexact Y1
      isplitl [Y2]; · iexact Y2
      iexact Y3
  isplitl [B D]
  · isplitl [B]; · iexact B
    iexact D
  iexact Ho

/-- The rows given at the four steps, back. -/
def givens (s : Bool) : sProp 𝕄 :=
  iprop(some (F := F) c bM (rowP s (give s 0 c) (half (0 : Fin 4).val)) ∗ some (F := F) c bM (rowP s (give s 1 c) (half (1 : Fin 4).val))
    ∗ some (F := F) c bM (rowP s (give s 2 c) (half (2 : Fin 4).val)) ∗ some (F := F) c bM (rowP s (give s 3 c) (half (3 : Fin 4).val)))

theorem reduced_spec (Φ : PUnit → sProp 𝕄) :
    iprop(env I K ∗ (waits (F := F) c false false false ∗ waits (F := F) c false true false) ∗ ow (F := F) c 12)
      ⊢ iprop((((givens (F := F) c false ∗ givens (F := F) c true) ∗ (closed (F := F) c false false false ∗ closed (F := F) c false true false) ∗ ow (F := F) c 12) -∗ Φ ⟨⟩)
        -∗ run c (reduced c) Φ) := by
  unfold reduced
  simp only [run_bind]
  unfold waits givens closed
  iintro ⟨#He, ⟨⟨W0, W1, W2, W3⟩, ⟨X0, X1, X2, X3⟩⟩, Ho⟩ Hk
  iapply (rsDone_spec I K false 0 c (by rfl) _ _ _ _ _ _ 12 (by decide)) $$ [W0 Ho]
  · isplitr; · iexact He
    isplitl [W0]; · iexact W0
    iexact Ho
  iintro ⟨P0, Z0, Ho⟩
  iapply (rsDone_spec I K true 0 c (by rfl) _ _ _ _ _ _ 12 (by decide)) $$ [X0 Ho]
  · isplitr; · iexact He
    isplitl [X0]; · iexact X0
    iexact Ho
  iintro ⟨Q0, Y0, Ho⟩
  iapply (rsDone_spec I K false 1 c (by rfl) _ _ _ _ _ _ 12 (by decide)) $$ [W1 Ho]
  · isplitr; · iexact He
    isplitl [W1]; · iexact W1
    iexact Ho
  iintro ⟨P1, Z1, Ho⟩
  iapply (rsDone_spec I K true 1 c (by rfl) _ _ _ _ _ _ 12 (by decide)) $$ [X1 Ho]
  · isplitr; · iexact He
    isplitl [X1]; · iexact X1
    iexact Ho
  iintro ⟨Q1, Y1, Ho⟩
  iapply (rsDone_spec I K false 2 c (by rfl) _ _ _ _ _ _ 12 (by decide)) $$ [W2 Ho]
  · isplitr; · iexact He
    isplitl [W2]; · iexact W2
    iexact Ho
  iintro ⟨P2, Z2, Ho⟩
  iapply (rsDone_spec I K true 2 c (by rfl) _ _ _ _ _ _ 12 (by decide)) $$ [X2 Ho]
  · isplitr; · iexact He
    isplitl [X2]; · iexact X2
    iexact Ho
  iintro ⟨Q2, Y2, Ho⟩
  iapply (rsDone_spec I K false 3 c (by rfl) _ _ _ _ _ _ 12 (by decide)) $$ [W3 Ho]
  · isplitr; · iexact He
    isplitl [W3]; · iexact W3
    iexact Ho
  iintro ⟨P3, Z3, Ho⟩
  iapply (rsDone_spec I K true 3 c (by rfl) _ _ _ _ _ _ 12 (by decide)) $$ [X3 Ho]
  · isplitr; · iexact He
    isplitl [X3]; · iexact X3
    iexact Ho
  iintro ⟨Q3, Y3, Ho⟩
  iapply Hk
  unfold rsSendPay
  isplitl [P0 P1 P2 P3 Q0 Q1 Q2 Q3]
  · isplitl [P0 P1 P2 P3]
    · isplitl [P0]; · iexact P0
      isplitl [P1]; · iexact P1
      isplitl [P2]; · iexact P2
      iexact P3
    · isplitl [Q0]; · iexact Q0
      isplitl [Q1]; · iexact Q1
      isplitl [Q2]; · iexact Q2
      iexact Q3
  isplitl [Z0 Z1 Z2 Z3 Y0 Y1 Y2 Y3]
  · isplitl [Z0 Z1 Z2 Z3]
    · isplitl [Z0]; · iexact Z0
      isplitl [Z1]; · iexact Z1
      isplitl [Z2]; · iexact Z2
      iexact Z3
    · isplitl [Y0]; · iexact Y0
      isplitl [Y1]; · iexact Y1
      isplitl [Y2]; · iexact Y2
      iexact Y3
  iexact Ho

/-! ## The all-gathers -/

theorem spread_spec (s : Bool) (k : Fin 4) {n : ℕ} (hn : n = half (rv true k).val) (e : Dev nD) (he : e = peer s (rv true k) c) (o) (h) (ho : o = ![keep s (rv true k) c, 0]) (w)
    (i : ℕ) (hi : i < 20) (h1 : dueTo c i = peer s (rv true k) c) (h2 : dueK i = xfer true s true k) (Φ : PUnit → sProp 𝕄) :
    iprop(env I K ∗ toSend (F := F) true s k c ∗ had I s c k (qq k) ∗ gatAt (F := F) c s (rv true k) ∗ ow (F := F) c i)
      ⊢ iprop(((waiting (F := F) (xfer true s false k) c ∗ ow (F := F) c (i + 1)) -∗ Φ ⟨⟩) -∗ run c (dbSend s k (n := n) e o h w) Φ) :=
  dbSend_spec I K s k c hn e he o h ho w i hi h1 h2 Φ

theorem come_spec (s : Bool) (k : Fin 4) {n : ℕ} (hn : n = half (rv true k).val) (o) (h) (w)
    (i : ℕ) (hlv : ∀ j < 20, i ≤ j → lvK (xfer true s true k) < lvK (dueK j)) (Φ : PUnit → sProp 𝕄) :
    iprop(env I K ∗ waiting (F := F) (xfer true s true k) c ∗ ow (F := F) c i)
      ⊢ iprop(((new I s c k fullShare ∗ semVal (cell c (xfer true s true k)) 0 ∗ ow (F := F) c i) -∗ Φ ⟨⟩) -∗ run c (dbWait s (dbR s) k (n := n) o h w) Φ) :=
  dbWait_spec I K s true k c hn o h w i hlv Φ

theorem gone_spec (s : Bool) (k : Fin 4) {n : ℕ} (hn : n = half (rv true k).val) (o) (h) (w)
    (i : ℕ) (hlv : ∀ j < 20, i ≤ j → lvK (xfer true s false k) < lvK (dueK j)) (Φ : PUnit → sProp 𝕄) :
    iprop(env I K ∗ waiting (F := F) (xfer true s false k) c ∗ ow (F := F) c i)
      ⊢ iprop(((had I s c k (qq k) ∗ semVal (cell c (xfer true s false k)) 0 ∗ ow (F := F) c i) -∗ Φ ⟨⟩) -∗ run c (dbWait s (dbS s) k (n := n) o h w) Φ) :=
  dbWait_spec I K s false k c hn o h w i hlv Φ

def sends4 (s : Bool) : sProp 𝕄 :=
  iprop((toSend (F := F) true s 0 c ∗ gatAt (F := F) c s 3) ∗ (toSend (F := F) true s 1 c ∗ gatAt (F := F) c s 2) ∗ (toSend (F := F) true s 2 c ∗ gatAt (F := F) c s 1) ∗ (toSend (F := F) true s 3 c ∗ gatAt (F := F) c s 0))
/-- The pieces of the gathered rows that are not lent to the sends. -/
def pieces (s : Bool) : sProp 𝕄 :=
  iprop(new I s c 0 (qq 0) ∗ (new I s c 1 (qq 0) ∗ new I s c 1 (qq 1)) ∗ (new I s c 2 (qq 0) ∗ new I s c 2 (qq 1) ∗ new I s c 2 (qq 2)) ∗ new I s c 3 fullShare)
def hads (s : Bool) : sProp 𝕄 := iprop(had I s c 0 (qq 0) ∗ had I s c 1 (qq 1) ∗ had I s c 2 (qq 2) ∗ had I s c 3 (qq 3))
def own (s : Bool) : sProp 𝕄 := iprop(after I c s 3 ∗ some (F := F) c (gM s) (gatP (keep s 3 c) 64))

theorem place' (s : Bool) (o) (h) (ho : o = ![keep s 3 c, c0 s]) (og) (hg) (hog : og = ![keep s 3 c, 0]) (p) (Φ : PUnit → sProp 𝕄) :
    own I c s ⊢ iprop(((after I c s 3 ∗ had I s c 0 (qq 0) ∗ had I s c 0 (qq 1) ∗ had I s c 0 (qq 2) ∗ had I s c 0 (qq 3)) -∗ Φ ⟨⟩) -∗ run c (place s o h og hg p) Φ) := by
  unfold own after keepB
  iintro ⟨⟨Ha, Hb⟩, Hg⟩ Hk
  iapply (place_spec I s c o h ho og hg hog p) $$ [Hb Hg]
  · isplitl [Hb]; · iexact Hb
    iexact Hg
  iintro ⟨Hb, Hg⟩
  ihave Hg := (show part c (gM s) fullShare (gatP (keep s 3 c) 64) (gatP (keep s 3 c) 64) (nat2 (Gn I s)) ⊢ iprop(had I s c 0 (qq 0) ∗ had I s c 0 (qq 1) ∗ had I s c 0 (qq 2) ∗ had I s c 0 (qq 3)) from quarter c (gM s) _ _ _) $$ Hg
  iapply Hk
  isplitl [Ha Hb]
  · isplitl [Ha]; · iexact Ha
    iexact Hb
  iexact Hg

theorem gather_spec (Φ : PUnit → sProp 𝕄) :
    iprop(env I K ∗ (own I c false ∗ own I c true) ∗ (sends4 (F := F) c false ∗ sends4 (F := F) c true) ∗ (waits (F := F) c true false true ∗ waits (F := F) c true true true) ∗ ow (F := F) c 12)
      ⊢ iprop((((after I c false 3 ∗ after I c true 3) ∗ (waits (F := F) c true false false ∗ waits (F := F) c true true false) ∗ (pieces I c false ∗ pieces I c true)
        ∗ (closed (F := F) c true false true ∗ closed (F := F) c true true true) ∗ ow (F := F) c 20) -∗ Φ ⟨⟩) -∗ run c (gather c) Φ) := by
  unfold gather
  simp only [run_bind]
  unfold sends4 waits pieces closed
  iintro ⟨#He, ⟨Ow, Ox⟩, ⟨⟨⟨T0, S0⟩, ⟨T1, S1⟩, ⟨T2, S2⟩, ⟨T3, S3⟩⟩, ⟨⟨U0, V0⟩, ⟨U1, V1⟩, ⟨U2, V2⟩, ⟨U3, V3⟩⟩⟩, ⟨⟨W0, W1, W2, W3⟩, ⟨X0, X1, X2, X3⟩⟩, Ho⟩ Hk
  iapply (place' I c false _ _ (off57_eq c) _ _ (off59_eq c 0) _) $$ Ow
  iintro ⟨Ow, A0, A1, A2, A3⟩
  iapply (place' I c true _ _ (off58_eq c) _ _ (off59_eq c 1) _) $$ Ox
  iintro ⟨Ox, B0, B1, B2, B3⟩
  iapply (spread_spec I K c false 0 (by rfl) _ (dev13_eq c) _ _ (off60_eq c 0) _ 12 (by decide) (by rfl) (by rfl)) $$ [T0 A0 S0 Ho]
  · isplitr; · iexact He
    isplitl [T0]; · iexact T0
    isplitl [A0]; · iexact A0
    isplitl [S0]; · iexact S0
    iexact Ho
  iintro ⟨F0, Ho⟩
  iapply (spread_spec I K c true 0 (by rfl) _ (dev14_eq c) _ _ (off60_eq c 1) _ 13 (by decide) (by rfl) (by rfl)) $$ [U0 B0 V0 Ho]
  · isplitr; · iexact He
    isplitl [U0]; · iexact U0
    isplitl [B0]; · iexact B0
    isplitl [V0]; · iexact V0
    iexact Ho
  iintro ⟨G0, Ho⟩
  iapply (come_spec I K c false 0 (by rfl) _ _ _ 14 (by decide)) $$ [W0 Ho]
  · isplitr; · iexact He
    isplitl [W0]; · iexact W0
    iexact Ho
  iintro ⟨C0, Z0, Ho⟩
  ihave R := (recv0 I false c) $$ [A1 A2 A3 C0]
  · isplitr [C0]
    · isplitl [A1]; · iexact A1
      isplitl [A2]; · iexact A2
      iexact A3
    iexact C0
  icases R with ⟨⟨A1, A2, A3⟩, C0⟩
  iapply (spread_spec I K c false 1 (by rfl) _ (dev15_eq c) _ _ (off62_eq c 0) _ 14 (by decide) (by rfl) (by rfl)) $$ [T1 A1 S1 Ho]
  · isplitr; · iexact He
    isplitl [T1]; · iexact T1
    isplitl [A1]; · iexact A1
    isplitl [S1]; · iexact S1
    iexact Ho
  iintro ⟨F1, Ho⟩
  iapply (come_spec I K c true 0 (by rfl) _ _ _ 15 (by decide)) $$ [X0 Ho]
  · isplitr; · iexact He
    isplitl [X0]; · iexact X0
    iexact Ho
  iintro ⟨D0, Y0, Ho⟩
  ihave R := (recv0 I true c) $$ [B1 B2 B3 D0]
  · isplitr [D0]
    · isplitl [B1]; · iexact B1
      isplitl [B2]; · iexact B2
      iexact B3
    iexact D0
  icases R with ⟨⟨B1, B2, B3⟩, D0⟩
  iapply (spread_spec I K c true 1 (by rfl) _ (dev16_eq c) _ _ (off62_eq c 1) _ 15 (by decide) (by rfl) (by rfl)) $$ [U1 B1 V1 Ho]
  · isplitr; · iexact He
    isplitl [U1]; · iexact U1
    isplitl [B1]; · iexact B1
    isplitl [V1]; · iexact V1
    iexact Ho
  iintro ⟨G1, Ho⟩
  iapply (come_spec I K c false 1 (by rfl) _ _ _ 16 (by decide)) $$ [W1 Ho]
  · isplitr; · iexact He
    isplitl [W1]; · iexact W1
    iexact Ho
  iintro ⟨C1, Z1, Ho⟩
  ihave R := (recv1 I false c) $$ [A2 A3 C1]
  · isplitr [C1]
    · isplitl [A2]; · iexact A2
      iexact A3
    iexact C1
  icases R with ⟨⟨A2, A3⟩, C1⟩
  iapply (spread_spec I K c false 2 (by rfl) _ (dev17_eq c) _ _ (off64_eq c 0) _ 16 (by decide) (by rfl) (by rfl)) $$ [T2 A2 S2 Ho]
  · isplitr; · iexact He
    isplitl [T2]; · iexact T2
    isplitl [A2]; · iexact A2
    isplitl [S2]; · iexact S2
    iexact Ho
  iintro ⟨F2, Ho⟩
  iapply (come_spec I K c true 1 (by rfl) _ _ _ 17 (by decide)) $$ [X1 Ho]
  · isplitr; · iexact He
    isplitl [X1]; · iexact X1
    iexact Ho
  iintro ⟨D1, Y1, Ho⟩
  ihave R := (recv1 I true c) $$ [B2 B3 D1]
  · isplitr [D1]
    · isplitl [B2]; · iexact B2
      iexact B3
    iexact D1
  icases R with ⟨⟨B2, B3⟩, D1⟩
  iapply (spread_spec I K c true 2 (by rfl) _ (dev18_eq c) _ _ (off64_eq c 1) _ 17 (by decide) (by rfl) (by rfl)) $$ [U2 B2 V2 Ho]
  · isplitr; · iexact He
    isplitl [U2]; · iexact U2
    isplitl [B2]; · iexact B2
    isplitl [V2]; · iexact V2
    iexact Ho
  iintro ⟨G2, Ho⟩
  iapply (come_spec I K c false 2 (by rfl) _ _ _ 18 (by decide)) $$ [W2 Ho]
  · isplitr; · iexact He
    isplitl [W2]; · iexact W2
    iexact Ho
  iintro ⟨C2, Z2, Ho⟩
  ihave R := (recv2 I false c) $$ [A3 C2]
  · isplitr [C2]
    · iexact A3
    iexact C2
  icases R with ⟨A3, C2⟩
  iapply (spread_spec I K c false 3 (by rfl) _ (dev19_eq c) _ _ (off66_eq c 0) _ 18 (by decide) (by rfl) (by rfl)) $$ [T3 A3 S3 Ho]
  · isplitr; · iexact He
    isplitl [T3]; · iexact T3
    isplitl [A3]; · iexact A3
    isplitl [S3]; · iexact S3
    iexact Ho
  iintro ⟨F3, Ho⟩
  iapply (come_spec I K c true 2 (by rfl) _ _ _ 19 (by decide)) $$ [X2 Ho]
  · isplitr; · iexact He
    isplitl [X2]; · iexact X2
    iexact Ho
  iintro ⟨D2, Y2, Ho⟩
  ihave R := (recv2 I true c) $$ [B3 D2]
  · isplitr [D2]
    · iexact B3
    iexact D2
  icases R with ⟨B3, D2⟩
  iapply (spread_spec I K c true 3 (by rfl) _ (dev20_eq c) _ _ (off66_eq c 1) _ 19 (by decide) (by rfl) (by rfl)) $$ [U3 B3 V3 Ho]
  · isplitr; · iexact He
    isplitl [U3]; · iexact U3
    isplitl [B3]; · iexact B3
    isplitl [V3]; · iexact V3
    iexact Ho
  iintro ⟨G3, Ho⟩
  iapply (come_spec I K c false 3 (by rfl) _ _ _ 20 (by decide)) $$ [W3 Ho]
  · isplitr; · iexact He
    isplitl [W3]; · iexact W3
    iexact Ho
  iintro ⟨C3, Z3, Ho⟩
  iapply (come_spec I K c true 3 (by rfl) _ _ _ 20 (by decide)) $$ [X3 Ho]
  · isplitr; · iexact He
    isplitl [X3]; · iexact X3
    iexact Ho
  iintro ⟨D3, Y3, Ho⟩
  iapply Hk
  isplitl [Ow Ox]
  · isplitl [Ow]; · iexact Ow
    iexact Ox
  isplitl [F0 F1 F2 F3 G0 G1 G2 G3]
  · isplitl [F0 F1 F2 F3]
    · isplitl [F0]; · iexact F0
      isplitl [F1]; · iexact F1
      isplitl [F2]; · iexact F2
      iexact F3
    · isplitl [G0]; · iexact G0
      isplitl [G1]; · iexact G1
      isplitl [G2]; · iexact G2
      iexact G3
  isplitl [C0 C1 C2 C3 D0 D1 D2 D3]
  · isplitl [C0 C1 C2 C3]
    · isplitl [C0]; · iexact C0
      isplitl [C1]; · iexact C1
      isplitl [C2]; · iexact C2
      iexact C3
    · isplitl [D0]; · iexact D0
      isplitl [D1]; · iexact D1
      isplitl [D2]; · iexact D2
      iexact D3
  isplitl [Z0 Z1 Z2 Z3 Y0 Y1 Y2 Y3]
  · isplitl [Z0 Z1 Z2 Z3]
    · isplitl [Z0]; · iexact Z0
      isplitl [Z1]; · iexact Z1
      isplitl [Z2]; · iexact Z2
      iexact Z3
    · isplitl [Y0]; · iexact Y0
      isplitl [Y1]; · iexact Y1
      isplitl [Y2]; · iexact Y2
      iexact Y3
  iexact Ho

theorem gathered_spec (Φ : PUnit → sProp 𝕄) :
    iprop(env I K ∗ (waits (F := F) c true false false ∗ waits (F := F) c true true false) ∗ ow (F := F) c 20)
      ⊢ iprop((((hads I c false ∗ hads I c true) ∗ (closed (F := F) c true false false ∗ closed (F := F) c true true false) ∗ ow (F := F) c 20) -∗ Φ ⟨⟩)
        -∗ run c (gathered c) Φ) := by
  unfold gathered
  simp only [run_bind]
  unfold waits hads closed
  iintro ⟨#He, ⟨⟨W0, W1, W2, W3⟩, ⟨X0, X1, X2, X3⟩⟩, Ho⟩ Hk
  iapply (gone_spec I K c false 0 (by rfl) _ _ _ 20 (by decide)) $$ [W0 Ho]
  · isplitr; · iexact He
    isplitl [W0]; · iexact W0
    iexact Ho
  iintro ⟨P0, Z0, Ho⟩
  iapply (gone_spec I K c true 0 (by rfl) _ _ _ 20 (by decide)) $$ [X0 Ho]
  · isplitr; · iexact He
    isplitl [X0]; · iexact X0
    iexact Ho
  iintro ⟨Q0, Y0, Ho⟩
  iapply (gone_spec I K c false 1 (by rfl) _ _ _ 20 (by decide)) $$ [W1 Ho]
  · isplitr; · iexact He
    isplitl [W1]; · iexact W1
    iexact Ho
  iintro ⟨P1, Z1, Ho⟩
  iapply (gone_spec I K c true 1 (by rfl) _ _ _ 20 (by decide)) $$ [X1 Ho]
  · isplitr; · iexact He
    isplitl [X1]; · iexact X1
    iexact Ho
  iintro ⟨Q1, Y1, Ho⟩
  iapply (gone_spec I K c false 2 (by rfl) _ _ _ 20 (by decide)) $$ [W2 Ho]
  · isplitr; · iexact He
    isplitl [W2]; · iexact W2
    iexact Ho
  iintro ⟨P2, Z2, Ho⟩
  iapply (gone_spec I K c true 2 (by rfl) _ _ _ 20 (by decide)) $$ [X2 Ho]
  · isplitr; · iexact He
    isplitl [X2]; · iexact X2
    iexact Ho
  iintro ⟨Q2, Y2, Ho⟩
  iapply (gone_spec I K c false 3 (by rfl) _ _ _ 20 (by decide)) $$ [W3 Ho]
  · isplitr; · iexact He
    isplitl [W3]; · iexact W3
    iexact Ho
  iintro ⟨P3, Z3, Ho⟩
  iapply (gone_spec I K c true 3 (by rfl) _ _ _ 20 (by decide)) $$ [X3 Ho]
  · isplitr; · iexact He
    isplitl [X3]; · iexact X3
    iexact Ho
  iintro ⟨Q3, Y3, Ho⟩
  iapply Hk
  isplitl [P0 P1 P2 P3 Q0 Q1 Q2 Q3]
  · isplitl [P0 P1 P2 P3]
    · isplitl [P0]; · iexact P0
      isplitl [P1]; · iexact P1
      isplitl [P2]; · iexact P2
      iexact P3
    · isplitl [Q0]; · iexact Q0
      isplitl [Q1]; · iexact Q1
      isplitl [Q2]; · iexact Q2
      iexact Q3
  isplitl [Z0 Z1 Z2 Z3 Y0 Y1 Y2 Y3]
  · isplitl [Z0 Z1 Z2 Z3]
    · isplitl [Z0]; · iexact Z0
      isplitl [Z1]; · iexact Z1
      isplitl [Z2]; · iexact Z2
      iexact Z3
    · isplitl [Y0]; · iexact Y0
      isplitl [Y1]; · iexact Y1
      isplitl [Y2]; · iexact Y2
      iexact Y3
  iexact Ho

/-! ## The result -/

theorem write_spec (Φ : PUnit → sProp 𝕄) :
    iprop(((hads I c false ∗ pieces I c false) ∗ (hads I c true ∗ pieces I c true)) ∗ some (F := F) c oM all)
      ⊢ iprop(((part c (gM false) fullShare all all (nat2 (Gn I false)) ∗ part c (gM true) fullShare all all (nat2 (Gn I true)) ∗ part c oM fullShare all all (nat2 (On I))) -∗ Φ ⟨⟩)
        -∗ run c write Φ) := by
  unfold write
  simp only [run_bind]
  iintro ⟨⟨⟨Ha, Pa⟩, ⟨Hb, Pb⟩⟩, Ho⟩ Hk
  unfold hads pieces
  ihave Ga := (gathered_join I false c) $$ [Ha Pa]
  · isplitl [Ha]; · iexact Ha
    iexact Pa
  ihave Gb := (gathered_join I true c) $$ [Hb Pb]
  · isplitl [Hb]; · iexact Hb
    iexact Pb
  ihave Ho := (some_elim c oM all none2 (nat2 (On I)) (fun _ h => h.elim)) $$ Ho
  iapply (emit_spec I false c _ _ rfl _ none2 (colP false) (fun x hx => Or.inl hx)) $$ [Ga Ho]
  · isplitl [Ga]; · iexact Ga
    iexact Ho
  iintro ⟨Ga, Ho⟩
  iapply (emit_spec I true c _ _ rfl _ (colP false) all (fun x hx => ((cols_whole x).mp hx).symm)) $$ [Gb Ho]
  · isplitl [Gb]; · iexact Gb
    iexact Ho
  iintro ⟨Gb, Ho⟩
  iapply Hk
  isplitl [Ga]; · iexact Ga
  isplitl [Gb]; · iexact Gb
  iexact Ho

end Cert.KernelIdeal.Att
end
-- ==== Proof.Run.lean ====
/- The whole body: what a device starts from, what it ends with, and the phases one after the other. -/
module

public import proofs.«01_k».proof.Proof.Phases2

@[expose] public section

set_option maxRecDepth 100000

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The cells, kind by kind -/

def four4 (Ψ : CK → sProp 𝕄) (g s r : Bool) : sProp 𝕄 := iprop(Ψ (xfer g s r 0) ∗ Ψ (xfer g s r 1) ∗ Ψ (xfer g s r 2) ∗ Ψ (xfer g s r 3))
def kvs (Ψ : CK → sProp 𝕄) : sProp 𝕄 := bigSep Finset.univ fun h : Fin 8 => iprop(Ψ (kv false h) ∗ Ψ (kv true h))
def side (Ψ : CK → sProp 𝕄) (g s : Bool) : sProp 𝕄 := iprop(four4 Ψ g s false ∗ four4 Ψ g s true)

theorem bool_sep (Ψ : Bool → sProp 𝕄) : bigSep Finset.univ Ψ = iprop(Ψ false ∗ Ψ true) := by
  have hu : (Finset.univ : Finset Bool) = {false, true} := by decide
  rw [hu, bigSep_insert (by decide), bigSep_singleton]; rfl

theorem option_sep {α : Type} [Fintype α] [DecidableEq α] (Ψ : Option α → sProp 𝕄) : bigSep Finset.univ Ψ = iprop(Ψ none ∗ bigSep Finset.univ fun a : α => Ψ (Option.some a)) := by
  have hu : (Finset.univ : Finset (Option α)) = insert none (Finset.univ.map Function.Embedding.some) := by
    ext x; cases x <;> simp
  rw [hu, bigSep_insert (by simp), bigSep_map]; rfl

theorem cells_sep (Ψ : CK → sProp 𝕄) :
    bigSep Finset.univ Ψ = iprop(Ψ bar ∗ kvs Ψ ∗ (side Ψ false false ∗ side Ψ false true) ∗ (side Ψ true false ∗ side Ψ true true)) := by
  have h1 : bigSep Finset.univ Ψ = iprop(Ψ none ∗ bigSep Finset.univ fun a : (Bool × Fin 8) ⊕ (Bool × Bool × Bool × Fin 4) => Ψ (Option.some a)) := option_sep Ψ
  rw [h1, bigSep_univ_sum, bigSep_univ_prod, bigSep_univ_prod, bool_sep, bool_sep, ← bigSep_sep', bigSep_univ_prod, bigSep_univ_prod, bool_sep, bool_sep,
    bigSep_univ_prod, bigSep_univ_prod, bigSep_univ_prod, bigSep_univ_prod]
  simp only [bool_sep, four_sep]
  rfl

/-! ## What a device starts from -/

/-- The device that pays duty `j` of the cell `κ` of device `c`, and whose own cell `κ` device `c` pays. -/
def other (κ : CK) (j : Fin 4) (c : Dev nD) : Dev nD := match κ with
  | none => peer false j c
  | Option.some (.inl _) => c
  | Option.some (.inr (g, s, r, k)) => if r then peer s (rv g k) c else c

/-- How many payments a cell awaits from other devices. -/
def awaited (κ : CK) : ℕ := ((Finset.range 20).filter fun i => dueK i = κ).card * amt κ

/-- Of one kind of cell: the position on the device's own, the tokens of the duties it pays, the credit of what it awaits. -/
def item (c : Dev nD) (κ : CK) : sProp 𝕄 :=
  iprop(atPos ER (cell c κ) 0 ∅ 0 ∗ (bigSep Finset.univ fun j : Fin 4 => dutyTok ER (cell (other κ j c) κ) 0 j) ∗ cred (tallyAt (cell c κ) () (awaited κ)))

theorem awaited_bar : awaited bar = 4 := by
  have : ((Finset.range 20).filter fun i => dueK i = bar).card = 4 := by decide
  unfold awaited; rw [this]; rfl
theorem awaited_recv (g s : Bool) (k : Fin 4) : awaited (xfer g s true k) = need (xfer g s true k) := by
  have : ∀ g s k, ((Finset.range 20).filter fun i => dueK i = xfer g s true k).card = 1 := by decide
  unfold awaited; rw [this, one_mul]; rfl

variable (c : Dev nD)

theorem item_bar : item (F := F) c bar ⊢ iprop(waiting (F := F) bar c ∗ barToks (F := F) c) := by
  unfold item waiting barToks
  rw [four_sep, awaited_bar]
  iintro ⟨H1, H2, H3⟩
  isplitl [H1 H3]
  · isplitl [H1]; · iexact H1
    iexact H3
  iexact H2
theorem item_kv (v : Bool) (h : Fin 8) : item (F := F) c (kv v h) ⊢ toCopy (F := F) v h c := by
  unfold item toCopy
  rw [four_sep]
  iintro ⟨H1, ⟨H2, -, -, -⟩, -⟩
  isplitl [H2]; · iexact H2
  iexact H1
theorem item_send (g s : Bool) (k : Fin 4) : item (F := F) c (xfer g s false k) ⊢ iprop(dutyTok ER (cell c (xfer g s false k)) 0 0 ∗ atPos ER (cell c (xfer g s false k)) 0 ∅ 0) := by
  unfold item
  rw [four_sep]
  iintro ⟨H1, ⟨H2, -, -, -⟩, -⟩
  isplitl [H2]; · iexact H2
  iexact H1
theorem item_recv (g s : Bool) (k : Fin 4) : item (F := F) c (xfer g s true k) ⊢ iprop(dutyTok ER (cell (peer s (rv g k) c) (xfer g s true k)) 0 0 ∗ waiting (F := F) (xfer g s true k) c) := by
  unfold item waiting
  rw [four_sep, awaited_recv]
  iintro ⟨H1, ⟨H2, -, -, -⟩, H3⟩
  isplitl [H2]; · iexact H2
  isplitl [H1]; · iexact H1
  iexact H3

theorem pair_up (g s : Bool) (k : Fin 4) : iprop(item (F := F) c (xfer g s false k) ∗ item (F := F) c (xfer g s true k)) ⊢ iprop(toSend (F := F) g s k c ∗ waiting (F := F) (xfer g s true k) c) := by
  unfold toSend
  iintro ⟨H1, H2⟩
  ihave H1 := (item_send c g s k) $$ H1
  ihave H2 := (item_recv c g s k) $$ H2
  icases H1 with ⟨A, B⟩
  icases H2 with ⟨C, D⟩
  isplitr [D]
  · isplitl [A]; · iexact A
    isplitl [C]; · iexact C
    iexact B
  iexact D

theorem side_open (g s : Bool) : side (item (F := F) c) g s
    ⊢ iprop((toSend (F := F) g s 0 c ∗ toSend (F := F) g s 1 c ∗ toSend (F := F) g s 2 c ∗ toSend (F := F) g s 3 c) ∗ waits (F := F) c g s true) := by
  unfold side four4 waits
  iintro ⟨⟨A0, A1, A2, A3⟩, ⟨B0, B1, B2, B3⟩⟩
  ihave P0 := (pair_up c g s 0) $$ [A0 B0]
  · isplitl [A0]; · iexact A0
    iexact B0
  ihave P1 := (pair_up c g s 1) $$ [A1 B1]
  · isplitl [A1]; · iexact A1
    iexact B1
  ihave P2 := (pair_up c g s 2) $$ [A2 B2]
  · isplitl [A2]; · iexact A2
    iexact B2
  ihave P3 := (pair_up c g s 3) $$ [A3 B3]
  · isplitl [A3]; · iexact A3
    iexact B3
  icases P0 with ⟨A0, B0⟩
  icases P1 with ⟨A1, B1⟩
  icases P2 with ⟨A2, B2⟩
  icases P3 with ⟨A3, B3⟩
  isplitl [A0 A1 A2 A3]
  · isplitl [A0]; · iexact A0
    isplitl [A1]; · iexact A1
    isplitl [A2]; · iexact A2
    iexact A3
  isplitl [B0]; · iexact B0
  isplitl [B1]; · iexact B1
  isplitl [B2]; · iexact B2
  iexact B3

theorem kvs_open : kvs (item (F := F) c) ⊢ bigSep Finset.univ (toCopy2 (F := F) c) := by
  unfold kvs
  exact bigSep_mono fun h _ => BI.sep_mono (item_kv c false h) (item_kv c true h)

/-- The working buffers, at some contents. -/
def bufs : sProp 𝕄 :=
  iprop(some (F := F) c qM all ∗ some (F := F) c cM all ∗ some (F := F) c aM all ∗ some (F := F) c ktM all ∗ some (F := F) c vtM all ∗ some (F := F) c kfM all ∗ some (F := F) c vfM all
    ∗ some (F := F) c bM all ∗ some (F := F) c (rM false) all ∗ some (F := F) c (rM true) all ∗ some (F := F) c (gM false) all ∗ some (F := F) c (gM true) all)

variable (I : Ins F) (K : Dev nD × CK → ℕ)

/-- The inputs: the staged blocks of x, Wq and Wo, and K and V in main memory. -/
def ins : sProp 𝕄 :=
  iprop(part c xM fullShare all all (nat3 fun _ a b => I.x c a b) ∗ part c wqM fullShare all all (nat2 (I.wq c)) ∗ part c woM fullShare all all (nat2 (I.wo c)) ∗ src I c false all ∗ src I c true all)

def rest0 (c : Dev nD) (κ : CK) : sProp 𝕄 := semVal (cell c κ) 0

/-- What the phases work on, made from what the device starts from. -/
theorem lend0 : iprop(src I c false all ∗ src I c true all ∗ some (F := F) c kfM all ∗ some (F := F) c vfM all) ⊢ lending I c 0 := by
  unfold lending; rw [unlent_zero, unfilled_zero]
theorem return8 : returned I c 8 ⊢ iprop(src I c false all ∗ src I c true all ∗ some (F := F) c kfM all ∗ some (F := F) c vfM all) := by
  unfold returned; rw [back_all, upto_all]
theorem heads0 : iprop(some (F := F) c ktM all ∗ some (F := F) c vtM all) ⊢ heads I c 0 :=
  BI.sep_mono (some_elim c ktM all (upto 0) _ (fun x h => absurd h (by unfold upto; omega))) (some_elim c vtM all (upto 0) _ (fun x h => absurd h (by unfold upto; omega)))
theorem heads_end (n : ℕ) : heads I c n ⊢ iprop(some (F := F) c ktM all ∗ some (F := F) c vtM all) :=
  BI.sep_mono (some_intro c ktM _ _ _) (some_intro c vtM _ _ _)
theorem acc0 : some (F := F) c aM all ⊢ iprop(acc I c false 0 none2 ∗ acc I c true 0 none2) :=
  BIBase.Entails.trans (some_elim c aM all none2 (nat2 (An I 0 c)) (fun _ h => h.elim)) (part_split c aM fullShare cols_whole cols_apart)
theorem acc_end (j j' : ℕ) (Ka Kb : S1024x1024.Idx → Prop) : iprop(acc I c false j Ka ∗ acc I c true j' Kb) ⊢ some (F := F) c aM all :=
  BIBase.Entails.trans (BI.sep_mono (some_intro c aM _ _ _) (some_intro c aM _ _ _)) (some_join c aM cols_whole cols_apart)
theorem sum_end (s : Bool) : iprop(givens (F := F) c s ∗ keepB I c s 3 4) ⊢ some (F := F) c bM (colP s) := by
  unfold givens keepB
  refine BIBase.Entails.trans (BI.sep_mono (BI.Entails.refl _) (some_intro c bM _ _ _)) (sent_join c s)
theorem land_end (s : Bool) : iprop(slots (F := F) c s ∗ kept (F := F) c s) ⊢ iprop(some (F := F) c (rM s) all ∗ some (F := F) c (gM s) (gatP (keep s 3 c) 64)) := by
  unfold kept
  iintro ⟨H1, H2, H3⟩
  isplitl [H1 H2]
  · iapply (slots_join c s)
    isplitl [H1]; · iexact H1
    iexact H2
  iexact H3

theorem run_deviceId {α : Type} (k : Dev nD → Prog (TpuEff nD τ sig (Elt F) Λ₀ .tc) α) (Q : α → sProp 𝕄) : run c (k c) Q ⊢ run c (.op .deviceId k) Q := by
  unfold run; rw [wp_deviceId]

set_option maxHeartbeats 1000000 in
theorem body_spec (Φ : PUnit → sProp 𝕄) :
    iprop(env I K ∗ bigSep Finset.univ (item (F := F) c) ∗ ow (F := F) c 0 ∗ bufs (F := F) c ∗ ins c I ∗ some (F := F) c oM all)
      ⊢ iprop(((bigSep Finset.univ (rest0 (F := F) c) ∗ ow (F := F) c 20 ∗ bufs (F := F) c ∗ ins c I ∗ part c oM fullShare all all (nat2 (On I))) -∗ Φ ⟨⟩)
        -∗ run c (body (F := F)) Φ) := by
  unfold body
  simp only [Prog.lift, Prog.bind_op, Prog.bind_ret, Prog.pure_eq_ret]
  rw [cells_sep (item (F := F) c), cells_sep (rest0 (F := F) c)]
  unfold bufs ins
  iintro ⟨#He, ⟨Ib, Ik, ⟨Iff, Ift⟩, ⟨Itf, Itt⟩⟩, Ho, ⟨Bq, Bc, Ba, Bkt, Bvt, Bkf, Bvf, Bb, Br, Br', Bg, Bg'⟩, ⟨Hx, Hwq, Hwo, Hk0, Hv0⟩, Hout⟩ Hk
  iapply (run_deviceId c)
  simp only [run_bind]
  ihave Ib := (item_bar c) $$ Ib
  icases Ib with ⟨Wb, Tb⟩
  ihave Ik := (kvs_open c) $$ Ik
  ihave Iff := (side_open c false false) $$ Iff
  icases Iff with ⟨⟨T0, T1, T2, T3⟩, Wf⟩
  ihave Ift := (side_open c false true) $$ Ift
  icases Ift with ⟨⟨U0, U1, U2, U3⟩, Wt⟩
  ihave Itf := (side_open c true false) $$ Itf
  icases Itf with ⟨⟨V0, V1, V2, V3⟩, Xf⟩
  ihave Itt := (side_open c true true) $$ Itt
  icases Itt with ⟨⟨Y0, Y1, Y2, Y3⟩, Xt⟩
  -- the copies
  ihave Hl := (lend0 c I) $$ [Hk0 Hv0 Bkf Bvf]
  · isplitl [Hk0]; · iexact Hk0
    isplitl [Hv0]; · iexact Hv0
    isplitl [Bkf]; · iexact Bkf
    iexact Bvf
  iapply (copies_spec I K c) $$ [Ik Hl]
  · isplitr; · iexact He
    isplitl [Ik]; · iexact Ik
    iexact Hl
  iintro ⟨Wk, Hr⟩
  -- the barrier
  iapply (barrier_spec I K c) $$ [Tb Br Br' Bg Bg' Wb Ho]
  · isplitr; · iexact He
    isplitl [Tb]; · iexact Tb
    isplitl [Br Br' Bg Bg']
    · unfold landBufs
      isplitl [Br Bg]
      · isplitl [Br]; · iexact Br
        iexact Bg
      · isplitl [Br']; · iexact Br'
        iexact Bg'
    isplitl [Wb]; · iexact Wb
    iexact Ho
  unfold landing
  iintro ⟨⟨⟨⟨A0, A1, A2, A3⟩, ⟨B0, B1, B2, B3⟩⟩, ⟨⟨C0, C1, C2, C3⟩, ⟨D0, D1, D2, D3⟩⟩⟩, ⟨Kf, Kt⟩, Zb, Ho⟩
  -- the attention of the first half
  ihave Hh := (heads0 c I) $$ [Bkt Bvt]
  · isplitl [Bkt]; · iexact Bkt
    iexact Bvt
  ihave Hq := (some_elim c qM all none2 (nat2 (Qn I c)) (fun _ h => h.elim)) $$ Bq
  ihave Hc := (some_elim c cM all (ctx none2 (lo1 c) 0) (nat2 (Cn I c)) (fun x h => h.elim (fun h => h.elim) fun h => absurd h.2 (by omega))) $$ Bc
  iapply (half1_spec I K c) $$ [Wk Hr Ho Hx Hwq Hh Hq Hc]
  · isplitr; · iexact He
    isplitl [Wk]; · iexact Wk
    isplitl [Hr]; · iexact Hr
    isplitl [Ho]; · iexact Ho
    isplitl [Hx Hwq]
    · unfold xwq
      isplitl [Hx]; · iexact Hx
      iexact Hwq
    isplitl [Hh]; · iexact Hh
    isplitl [Hq]; · iexact Hq
    iexact Hc
  iintro ⟨Zk, Hr, Ho, Hx, Hh, Hq⟩
  unfold qctx
  icases Hq with ⟨Hq, Hc⟩
  -- the first product and its transfer
  ihave Ba := (acc0 c I) $$ Ba
  icases Ba with ⟨Ba, Ba'⟩
  ihave Bb := (some_split c bM cols_whole cols_apart) $$ Bb
  icases Bb with ⟨Bb, Bb'⟩
  iapply (first_spec I K c) $$ [T0 A0 Ho Hc Hwo Ba Bb]
  · isplitr; · iexact He
    isplitl [T0]; · iexact T0
    isplitl [A0]; · iexact A0
    isplitl [Ho]; · iexact Ho
    isplitl [Hc Hwo]
    · unfold cwo
      isplitl [Hc]; · iexact Hc
      iexact Hwo
    isplitl [Ba]; · iexact Ba
    iexact Bb
  unfold cwo
  iintro ⟨Sf, Ho, ⟨Hc, Hwo⟩, Ba, Bb⟩
  -- the attention of the second half
  iapply (half2_spec I c) $$ [Hx Hh Hq Hc]
  · isplitl [Hx]; · iexact Hx
    isplitl [Hh]; · iexact Hh
    unfold qctx
    isplitl [Hq]; · iexact Hq
    iexact Hc
  unfold qctx
  iintro ⟨Hx, Hh, Hq, Hc⟩
  -- the other products
  iapply (rest_spec I K c) $$ [U0 C0 Ho Hc Hwo Ba Ba' Bb Bb']
  · isplitr; · iexact He
    isplitl [U0]; · iexact U0
    isplitl [C0]; · iexact C0
    isplitl [Ho]; · iexact Ho
    isplitl [Hc Hwo]
    · unfold cwo
      isplitl [Hc]; · iexact Hc
      iexact Hwo
    isplitl [Ba]; · iexact Ba
    isplitl [Ba']; · iexact Ba'
    isplitl [Bb]; · iexact Bb
    iexact Bb'
  unfold cwo
  iintro ⟨St, Ho, ⟨Hc, Hwo⟩, Ha, Hb⟩
  -- the reduce-scatters
  iapply (reduce_spec I K c) $$ [T1 T2 T3 U1 U2 U3 A1 A2 A3 C1 C2 C3 Wf Wt Ha Hb Ho]
  · isplitr; · iexact He
    isplitl [T1 T2 T3 U1 U2 U3 A1 A2 A3 C1 C2 C3]
    · unfold sends3
      isplitl [T1 T2 T3 A1 A2 A3]
      · isplitl [T1 A1]
        · isplitl [T1]; · iexact T1
          iexact A1
        isplitl [T2 A2]
        · isplitl [T2]; · iexact T2
          iexact A2
        isplitl [T3]; · iexact T3
        iexact A3
      · isplitl [U1 C1]
        · isplitl [U1]; · iexact U1
          iexact C1
        isplitl [U2 C2]
        · isplitl [U2]; · iexact U2
          iexact C2
        isplitl [U3]; · iexact U3
        iexact C3
    isplitl [Wf Wt]
    · isplitl [Wf]; · iexact Wf
      iexact Wt
    isplitl [Ha Hb]
    · isplitl [Ha]; · iexact Ha
      iexact Hb
    iexact Ho
  unfold waits3
  iintro ⟨⟨⟨Sf1, Sf2, Sf3⟩, ⟨St1, St2, St3⟩⟩, ⟨Lf, Lt⟩, ⟨Zff, Zft⟩, ⟨Ha, Hb⟩, Ho⟩
  iapply (reduced_spec I K c) $$ [Sf Sf1 Sf2 Sf3 St St1 St2 St3 Ho]
  · isplitr; · iexact He
    isplitr [Ho]
    · unfold waits
      isplitl [Sf Sf1 Sf2 Sf3]
      · isplitl [Sf]; · iexact Sf
        isplitl [Sf1]; · iexact Sf1
        isplitl [Sf2]; · iexact Sf2
        iexact Sf3
      · isplitl [St]; · iexact St
        isplitl [St1]; · iexact St1
        isplitl [St2]; · iexact St2
        iexact St3
    iexact Ho
  iintro ⟨⟨Gf, Gt⟩, ⟨Yff, Yft⟩, Ho⟩
  -- the all-gathers
  ihave Lf := (land_end c false) $$ [Lf Kf]
  · isplitl [Lf]; · iexact Lf
    iexact Kf
  icases Lf with ⟨Br, Kf⟩
  ihave Lt := (land_end c true) $$ [Lt Kt]
  · isplitl [Lt]; · iexact Lt
    iexact Kt
  icases Lt with ⟨Br', Kt⟩
  iapply (gather_spec I K c) $$ [Ha Hb Kf Kt V0 V1 V2 V3 Y0 Y1 Y2 Y3 B0 B1 B2 B3 D0 D1 D2 D3 Xf Xt Ho]
  · isplitr; · iexact He
    isplitl [Ha Hb Kf Kt]
    · unfold own
      isplitl [Ha Kf]
      · isplitl [Ha]; · iexact Ha
        iexact Kf
      · isplitl [Hb]; · iexact Hb
        iexact Kt
    isplitl [V0 V1 V2 V3 Y0 Y1 Y2 Y3 B0 B1 B2 B3 D0 D1 D2 D3]
    · unfold sends4
      isplitl [V0 V1 V2 V3 B0 B1 B2 B3]
      · isplitl [V0 B3]
        · isplitl [V0]; · iexact V0
          iexact B3
        isplitl [V1 B2]
        · isplitl [V1]; · iexact V1
          iexact B2
        isplitl [V2 B1]
        · isplitl [V2]; · iexact V2
          iexact B1
        isplitl [V3]; · iexact V3
        iexact B0
      · isplitl [Y0 D3]
        · isplitl [Y0]; · iexact Y0
          iexact D3
        isplitl [Y1 D2]
        · isplitl [Y1]; · iexact Y1
          iexact D2
        isplitl [Y2 D1]
        · isplitl [Y2]; · iexact Y2
          iexact D1
        isplitl [Y3]; · iexact Y3
        iexact D0
    isplitl [Xf Xt]
    · isplitl [Xf]; · iexact Xf
      iexact Xt
    iexact Ho
  iintro ⟨⟨Ha, Hb⟩, ⟨Wf, Wt⟩, ⟨Pf, Pt⟩, ⟨Ztf, Ztt⟩, Ho⟩
  iapply (gathered_spec I K c) $$ [Wf Wt Ho]
  · isplitr; · iexact He
    isplitl [Wf Wt]
    · isplitl [Wf]; · iexact Wf
      iexact Wt
    iexact Ho
  iintro ⟨⟨Hf, Ht⟩, ⟨Ytf, Ytt⟩, Ho⟩
  -- the result
  iapply (write_spec I c) $$ [Hf Ht Pf Pt Hout]
  · isplitr [Hout]
    · isplitl [Hf Pf]
      · isplitl [Hf]; · iexact Hf
        iexact Pf
      · isplitl [Ht]; · iexact Ht
        iexact Pt
    iexact Hout
  iintro ⟨Bg, Bg', Hout⟩
  iapply Hk
  isplitl [Zb Zk Zff Zft Yff Yft Ztf Ztt Ytf Ytt]
  · isplitl [Zb]; · unfold rest0; iexact Zb
    isplitl [Zk]; · unfold kvs rest0 closed2; iexact Zk
    unfold side four4 rest0 closed
    isplitl [Zff Zft Yff Yft]
    · isplitl [Zff Yff]
      · isplitl [Yff]; · iexact Yff
        iexact Zff
      · isplitl [Yft]; · iexact Yft
        iexact Zft
    · isplitl [Ztf Ytf]
      · isplitl [Ytf]; · iexact Ytf
        iexact Ztf
      · isplitl [Ytt]; · iexact Ytt
        iexact Ztt
  isplitl [Ho]; · iexact Ho
  unfold after
  icases Ha with ⟨Ha, Hb1⟩
  icases Hb with ⟨Hb, Hb2⟩
  ihave Hh := (heads_end c I 8) $$ Hh
  icases Hh with ⟨Bkt, Bvt⟩
  ihave Hr := (return8 c I) $$ Hr
  icases Hr with ⟨Hk0, Hv0, Bkf, Bvf⟩
  unfold xwq
  icases Hx with ⟨Hx, Hwq⟩
  isplitl [Hq Hc Ha Hb Hb1 Hb2 Gf Gt Bkt Bvt Bkf Bvf Br Br' Bg Bg']
  · isplitl [Hq]; · iapply (some_intro c qM); iexact Hq
    isplitl [Hc]; · iapply (some_intro c cM); iexact Hc
    isplitl [Ha Hb]
    · iapply (acc_end c I _ _ _ _)
      isplitl [Ha]; · iexact Ha
      iexact Hb
    isplitl [Bkt]; · iexact Bkt
    isplitl [Bvt]; · iexact Bvt
    isplitl [Bkf]; · iexact Bkf
    isplitl [Bvf]; · iexact Bvf
    isplitl [Hb1 Hb2 Gf Gt]
    · iapply (some_join c bM cols_whole cols_apart)
      isplitl [Hb1 Gf]
      · iapply (sum_end c I false)
        isplitl [Gf]; · iexact Gf
        iexact Hb1
      · iapply (sum_end c I true)
        isplitl [Gt]; · iexact Gt
        iexact Hb2
    isplitl [Br]; · iexact Br
    isplitl [Br']; · iexact Br'
    isplitl [Bg]; · iapply (some_intro c (gM false)); iexact Bg
    iapply (some_intro c (gM true)); iexact Bg'
  isplitl [Hx Hwq Hwo Hk0 Hv0]
  · isplitl [Hx]; · iexact Hx
    isplitl [Hwq]; · iexact Hwq
    isplitl [Hwo]; · iexact Hwo
    isplitl [Hk0]; · iexact Hk0
    iexact Hv0
  iexact Hout

end Cert.KernelIdeal.Att
end
-- ==== Proof.Ghost.lean ====
/- What the launch deals: every device its positions, the tokens of the duties it pays, and the credit of what it awaits. -/
module

public import proofs.«01_k».proof.Proof.Run
public import proofs.«01_k».proof.Proof.Gen.KernelIdeal.Frame

@[expose] public section

set_option maxRecDepth 100000

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F)

/-! ## The semaphores -/

abbrev osem : (Bool × Fin 8) ⊕ (Bool × Bool × Bool × Fin 4) → SemLoc sig := fun κ => .dma (dq κ)

theorem ownSemFacts : Pipeline.OwnSemFacts cfg0.spec osem := by decide +kernel

theorem sep_swap (P Q : sProp 𝕄) : iprop(P ∗ Q) ⊢ iprop(Q ∗ P) := by
  iintro ⟨H1, H2⟩
  isplitl [H2]; · iexact H2
  iexact H1

/-- The kernel's own semaphores and the barrier's are those of the cells. -/
theorem sems0_eq (c : Dev nD) :
    iprop(Pipeline.ownSems0 (Ix := Unit) (Name := ℕ) (U := UU) (Lvl := ℕ) (Val := Elt F) (τ := τ) osem c ∗ unscopedSems0 c)
      = (bigSep Finset.univ (rest0 (F := F) c) : sProp 𝕄) := by
  have hu : (unscopedSems0 c : sProp 𝕄) = semVal (cell c bar) 0 := by
    unfold unscopedSems0; rw [bigSep_eq_bigSepL_of_eq [SemLoc.reg barS.sem] (by decide) (by decide)]; rfl
  have ho : (Pipeline.ownSems0 (Ix := Unit) (Name := ℕ) (U := UU) (Lvl := ℕ) (Val := Elt F) (τ := τ) osem c : sProp 𝕄)
      = bigSep Finset.univ fun a : (Bool × Fin 8) ⊕ (Bool × Bool × Bool × Fin 4) => rest0 (F := F) c (Option.some a) := by
    unfold Pipeline.ownSems0; rfl
  have h1 : bigSep Finset.univ (rest0 (F := F) c) = iprop(rest0 (F := F) c none ∗ bigSep Finset.univ fun a : (Bool × Fin 8) ⊕ (Bool × Bool × Bool × Fin 4) => rest0 (F := F) c (Option.some a)) := option_sep _
  rw [h1, hu, ho]
  exact BI.equiv_iff.mp ⟨sep_swap _ _, sep_swap _ _⟩

/-! ## The cells and the tokens -/

abbrev kcell (ck : Dev nD × CK) : GSem nD τ sig := cell ck.1 ck.2
theorem kcell_inj : Function.Injective (kcell : Dev nD × CK → GSem nD τ sig) := by
  rintro ⟨c, k⟩ ⟨c', k'⟩ h
  have h1 : c = c' := congrArg (fun g : GSem nD τ sig => g.1.1) h
  subst h1
  have h2 : semOf k = semOf k' := congrArg Prod.snd h
  rw [semOf_inj h2]
def ringCells : Finset (GSem nD τ sig) := Finset.univ.map ⟨kcell, kcell_inj⟩

abbrev tokOf (x : (Dev nD × CK) × Fin 4) : GSem nD τ sig × ℕ × Fin 4 := (kcell x.1, 0, x.2)
theorem tokOf_inj : Function.Injective (tokOf : (Dev nD × CK) × Fin 4 → GSem nD τ sig × ℕ × Fin 4) := by
  rintro ⟨a, j⟩ ⟨a', j'⟩ h
  have h1 : a = a' := kcell_inj (congrArg Prod.fst h)
  have h2 : j = j' := congrArg (fun x : GSem nD τ sig × ℕ × Fin 4 => x.2.2) h
  rw [h1, h2]
def ringToks : Finset (GSem nD τ sig × ℕ × Fin 4) := Finset.univ.map ⟨tokOf, tokOf_inj⟩

def u₀ : UU :=
  (initOf (Pipeline.cells cfgs cellOf_inj) (Pipeline.launchToks cfgs cellOf_inj), initOf ringCells ringToks)

/-- The tokens of the duties of a device's own cell. -/
def tok4 (c : Dev nD) (κ : CK) : sProp 𝕄 := bigSep Finset.univ fun j : Fin 4 => dutyTok ER (cell c κ) 0 j
/-- The tokens of the duties that a device pays at one kind of cell. -/
def pay4 (c : Dev nD) (κ : CK) : sProp 𝕄 := bigSep Finset.univ fun j : Fin 4 => dutyTok ER (cell (other κ j c) κ) 0 j

/-- What a device is dealt. -/
def G (c : Dev nD) : sProp 𝕄 :=
  iprop((bigSep Finset.univ fun κ : CK => roundState ER (Rd I) (cell c κ) 0)
    ∗ (bigSep Finset.univ fun κ : CK => atPos ER (cell c κ) 0 ∅ 0) ∗ (bigSep Finset.univ fun κ : CK => reached ER (cell c κ) 0)
    ∗ bigSep Finset.univ (tok4 (F := F) c))

/-- What it makes of it together with the others. -/
def G' (c : Dev nD) : sProp 𝕄 :=
  iprop((∃ K, records I K) ∗ (bigSep Finset.univ fun κ : CK => atPos ER (cell c κ) 0 ∅ 0) ∗ bigSep Finset.univ (pay4 (F := F) c))

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun κ : CK => Φ (cell c κ) := by
    unfold ringCells; rw [bigSep_map, bigSep_univ_prod]; rfl
  have hT : bigSep ringToks (fun x => (dutyTok ER x.1 x.2.1 x.2.2 : sProp 𝕄)) = bigSep Finset.univ fun c : Dev nD => bigSep Finset.univ (tok4 (F := F) c) := by
    unfold ringToks; rw [bigSep_map, bigSep_univ_prod, bigSep_univ_prod]; rfl
  iintro HX
  imod (Rounds.fund ER (Rd I) ringCells ringToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- The cells' invariants from their semaphores at zero. -/
theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun κ : CK => iprop(∃ n : ℕ, cellInv ER (Rd I) n (cell c κ)))
          ∗ (bigSep Finset.univ fun κ : CK => atPos ER (cell c κ) 0 ∅ 0) ∗ (bigSep Finset.univ fun κ : CK => reached ER (cell c κ) 0)
          ∗ bigSep Finset.univ (tok4 (F := F) c)) := by
  unfold G
  iintro ⟨Hos, Hus, Hst, Hat, Hr, Htok⟩
  ihave Hv := (Entails.of_eq (sems0_eq (F := F) c)) $$ [Hos Hus]
  · isplitl [Hos]; · iexact Hos
    iexact Hus
  imod (show iprop((bigSep Finset.univ (rest0 (F := F) c)) ∗ bigSep Finset.univ fun κ : CK => roundState ER (Rd I) (cell c κ) 0)
      ⊢ (|={Set.univ}=> bigSep Finset.univ fun κ => iprop(∃ n : ℕ, cellInv ER (Rd I) n (cell c κ)) : sProp 𝕄) from by
        rw [← bigSep_sep']
        exact (bigSep_mono fun κ _ => (Rounds.body_intro ER (Rd I) (cell c κ)).trans inv_alloc).trans (bigSep_fupd _ _)) $$ [Hv Hst] with Hinv
  · isplitl [Hv]; · iexact Hv
    iexact Hst
  imodintro
  isplitl [Hinv]; · iexact Hinv
  isplitl [Hat]; · iexact Hat
  isplitl [Hr]; · iexact Hr
  iexact Htok

theorem other_other (κ : CK) (j : Fin 4) (c : Dev nD) : other κ j (other κ j c) = c := by
  rcases κ with _ | ⟨_⟩ | ⟨g, s, r, k⟩
  · exact peer_peer false j c
  · rfl
  · cases r
    · rfl
    · exact peer_peer s (rv g k) c

def swap (κ : CK) (j : Fin 4) : Dev nD ≃ Dev nD := ⟨other κ j, other κ j, other_other κ j, other_other κ j⟩

/-- Every device hands the tokens of its cells to the devices that pay them. -/
theorem toks_around : (bigSep Finset.univ fun c : Dev nD => bigSep Finset.univ (tok4 (F := F) c))
    = bigSep Finset.univ fun c : Dev nD => bigSep Finset.univ (pay4 (F := F) c) := by
  rw [BI.bigSep_univ_comm, BI.bigSep_univ_comm (fun c : Dev nD => pay4 (F := F) c)]
  refine bigSep_congr fun κ _ => ?_
  unfold tok4 pay4
  rw [BI.bigSep_univ_comm, BI.bigSep_univ_comm (fun (c : Dev nD) (j : Fin 4) => (dutyTok ER (cell (other κ j c) κ) 0 j : sProp 𝕄))]
  refine bigSep_congr fun j _ => ?_
  exact BI.bigSep_univ_equiv (swap κ j) (fun c : Dev nD => (dutyTok ER (cell c κ) 0 j : sProp 𝕄))

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun κ : CK => iprop(∃ n : ℕ, cellInv ER (Rd I) n (cell c κ)))
          ∗ (bigSep Finset.univ fun κ : CK => atPos ER (cell c κ) 0 ∅ 0) ∗ (bigSep Finset.univ fun κ : CK => reached ER (cell c κ) 0)
          ∗ bigSep Finset.univ (tok4 (F := F) c)) : sProp 𝕄)
      ⊢ bigSep Finset.univ (G' I) := by
  rw [bigSep_sep', bigSep_sep', bigSep_sep', toks_around,
    ← bigSep_univ_prod (fun ck : Dev nD × CK => iprop(∃ n : ℕ, cellInv ER (Rd I) n (kcell ck))),
    ← bigSep_univ_prod (fun ck : Dev nD × CK => (reached ER (kcell ck) 0 : sProp 𝕄))]
  iintro ⟨HI, Hat, #HR, Htok⟩
  ihave HK := (BI.bigSep_exists_pi Finset.univ (fun (ck : Dev nD × CK) (n : ℕ) => (cellInv ER (Rd I) n (kcell ck) : sProp 𝕄))) $$ HI
  icases HK with ⟨%K, #HI⟩
  iapply (with_persistent (R := records I K)
    (Φ := fun c : Dev nD => iprop((bigSep Finset.univ fun κ : CK => atPos ER (cell c κ) 0 ∅ 0) ∗ bigSep Finset.univ (pay4 (F := F) c))) fun c _ => by
      unfold G'
      iintro ⟨#HR, H1, H2⟩
      isplitr; · iexists K; iexact HR
      isplitl [H1]; · iexact H1
      iexact H2)
  isplitr
  · unfold records; isplitl; · iexact HI
    iexact HR
  rw [bigSep_sep']
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credit -/

abbrev O₀ (c : Dev nD) : CellTallies nD τ sig Unit := owed c 0

theorem dueTo_dueTo (c : Dev nD) (i : ℕ) : dueTo (dueTo c i) i = c := by
  unfold dueTo
  split
  · exact peer_peer _ _ _
  · exact peer_peer _ _ _

theorem owed_at (d c : Dev nD) (κ : CK) :
    owed d 0 (cell c κ) () = ∑ i ∈ Finset.range 20, if d = dueTo c i then (if dueK i = κ then amt κ else 0) else 0 := by
  unfold owed
  rw [Finset.sum_apply, Finsupp.finset_sum_apply, ← Finset.range_eq_Ico]
  refine Finset.sum_congr rfl fun i _ => ?_
  rw [tallyAt_apply]
  by_cases h : dueK i = κ
  · subst h
    by_cases h2 : d = dueTo c i
    · rw [if_pos h2, if_pos rfl, if_pos ⟨by subst h2; rw [dueTo_dueTo], rfl⟩]
    · rw [if_neg h2, if_neg]
      rintro ⟨h3, -⟩
      refine h2 ?_
      have : c = dueTo d i := congrArg (fun g : GSem nD τ sig => g.1.1) h3
      rw [this, dueTo_dueTo]
  · rw [if_neg, if_neg h, ite_self]
    rintro ⟨h3, -⟩
    exact h (semOf_inj (congrArg Prod.snd h3)).symm

theorem launch_at (c : Dev nD) (κ : CK) :
    tallyOn (cell c κ) (launchCredit (Pipeline.owing O₀) 0 (cell c κ)) = (tallyAt (cell c κ) () (awaited κ) : CellTallies nD τ sig Unit) := by
  unfold tallyAt; refine congrArg _ (Finsupp.ext fun u => ?_); cases u
  rw [Pipeline.launchCredit_owing, Finsupp.single_eq_same, Finset.sum_congr rfl fun d _ => owed_at d c κ, Finset.sum_comm]
  unfold awaited
  rw [Finset.card_filter, Finset.sum_mul]
  refine Finset.sum_congr rfl fun i _ => ?_
  rw [Finset.sum_ite_eq' Finset.univ (dueTo c i) fun _ => _, if_pos (Finset.mem_univ _)]
  split <;> simp

theorem creds (c : Dev nD) : (Pipeline.launchCred O₀ c : sProp 𝕄) ⊢ bigSep Finset.univ fun κ : CK => cred (tallyAt (cell c κ) () (awaited κ)) := by
  unfold Pipeline.launchCred
  refine (bigSep_subset (t := Finset.univ.image semOf) (Finset.subset_univ _)).trans ?_
  rw [bigSep_image_of_injOn (semOf_inj.injOn)]
  exact bigSep_mono fun κ _ => Entails.of_eq (congrArg (fun T : CellTallies nD τ sig Unit => (cred T : sProp 𝕄)) (launch_at c κ))

end Cert.KernelIdeal.Att
end
-- ==== Proof.BodyEq.lean ====
/- The printed body of the kernel is the sequence of named steps of `Body`. -/
module

public import proofs.«01_k».proof.Proof.Body

@[expose] public section

set_option maxRecDepth 100000

noncomputable section

namespace Cert.KernelIdeal.Att

open Idealize.ShloMosaic Idealize.ShloMosaic.TcCoe
open Cert.KernelIdeal Cert.KernelIdeal.Gen

variable {F : FTy → Type} [FloatOps F] [Named F]

set_option maxHeartbeats 0 in
/-- The printed body is this one. -/
theorem body_eq (t : Fin cfg0.N) : bodyAt0 (F := F) t = body := rfl

end Cert.KernelIdeal.Att
end
-- ==== Proof.Launch.lean ====
/- The launch: the kernel's region from any memory, and the memory it ends with. -/
module

public import proofs.«01_k».proof.Proof.Ghost
public import proofs.«01_k».proof.Proof.BodyEq
public import Idealize.ShloMosaic.Lib.Pipeline.Launch
public import Idealize.ShloMosaic.Lib.Pipeline.Kit
public import Idealize.ShloMosaic.Lib.Pipeline.CollectiveSegs

@[expose] public section

set_option maxRecDepth 100000

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-- The index of K and of V with the given coordinates. -/
abbrev i4 (x h y : ℕ) : S1x1024x128x128.Idx := ix4 (n0 := 1) (n1 := 1024) (n2 := 128) (n3 := 128) 0 (Fin.ofNat 1024 x) (Fin.ofNat 128 h) (Fin.ofNat 128 y)

theorem i4_val (j : S1x1024x128x128.Idx) : i4 (j 1).val (j 2).val (j 3).val = j := by
  funext a
  fin_cases a
  · exact Subsingleton.elim (α := Fin 1) _ _
  · exact Fin.ext (Nat.mod_eq_of_lt (j 1).isLt)
  · exact Fin.ext (Nat.mod_eq_of_lt (j 2).isLt)
  · exact Fin.ext (Nat.mod_eq_of_lt (j 3).isLt)

/-- The inputs that a memory holds. -/
def inp : Ins F where
  x c a b := m ((c : Thread nD τ).loc main_arg0) (i3 (a := 1) (b := 1024) (c := 1024) 0 a b)
  wq c a b := m ((c : Thread nD τ).loc main_arg1) (i2 (a := 1024) (b := 1024) a b)
  ka c x h y := m ((c : Thread nD τ).loc main_arg2) (i4 x h y)
  va c x h y := m ((c : Thread nD τ).loc main_arg3) (i4 x h y)
  wo c a b := m ((c : Thread nD τ).loc main_arg4) (i2 (a := 1024) (b := 1024) a b)

theorem nat3_x (c : Dev nD) : (nat3 (a := 1) (b := 1024) (c := 1024) fun _ a b => (inp m).x c a b) = m ((c : Thread nD τ).loc main_arg0) :=
  funext fun j => congrArg _ (i3_val j 0 _ _ (by have h : (j 0).val < 1 := (j 0).isLt; omega) rfl rfl)
theorem nat2_wq (c : Dev nD) : (nat2 (a := 1024) (b := 1024) ((inp m).wq c)) = m ((c : Thread nD τ).loc main_arg1) :=
  funext fun j => congrArg _ (i2_val j _ _ rfl rfl)
theorem nat2_wo (c : Dev nD) : (nat2 (a := 1024) (b := 1024) ((inp m).wo c)) = m ((c : Thread nD τ).loc main_arg4) :=
  funext fun j => congrArg _ (i2_val j _ _ rfl rfl)
theorem nat4_ka (c : Dev nD) : (nat4 (a := 1) (b := 1024) (c := 128) (e := 128) fun _ x h y => (inp m).ka c x h y) = m ((c : Thread nD τ).loc main_arg2) :=
  funext fun j => congrArg _ (i4_val j)
theorem nat4_va (c : Dev nD) : (nat4 (a := 1) (b := 1024) (c := 128) (e := 128) fun _ x h y => (inp m).va c x h y) = m ((c : Thread nD τ).loc main_arg3) :=
  funext fun j => congrArg _ (i4_val j)

theorem src_k (c : Dev nD) : src (inp m) c false all = (((c : Thread nD τ).loc main_arg2) ↦{fullShare} m ((c : Thread nD τ).loc main_arg2) : sProp 𝕄) := by
  unfold src; rw [← nat4_ka m]; exact part_whole c fullShare main_arg2 _
theorem src_v (c : Dev nD) : src (inp m) c true all = (((c : Thread nD τ).loc main_arg3) ↦{fullShare} m ((c : Thread nD τ).loc main_arg3) : sProp 𝕄) := by
  unfold src; rw [← nat4_va m]; exact part_whole c fullShare main_arg3 _

theorem bufs_eq (c : Dev nD) : bufs (F := F) c = (Pipeline.scopedRest cfg0.spec c : sProp 𝕄) := by
  refine Eq.trans ?_ (scopedRest0_eq c).symm
  unfold bufs
  exact congr (congrArg _ (some_whole c cc0_scratch0)) (congr (congrArg _ (some_whole c cc0_scratch1)) (congr (congrArg _ (some_whole c cc0_scratch2))
    (congr (congrArg _ (some_whole c cc0_scratch3)) (congr (congrArg _ (some_whole c cc0_scratch4)) (congr (congrArg _ (some_whole c cc0_scratch5))
    (congr (congrArg _ (some_whole c cc0_scratch6)) (congr (congrArg _ (some_whole c cc0_scratch8)) (congr (congrArg _ (some_whole c cc0_scratch9))
    (congr (congrArg _ (some_whole c cc0_scratch10)) (congr (congrArg _ (some_whole c cc0_scratch11)) (some_whole c cc0_scratch12)))))))))))

/-! ## Before and after the region -/

/-- K and V, where the kernel copies from. -/
def kvAt (c : Dev nD) : sProp 𝕄 := iprop(src (inp m) c false all ∗ src (inp m) c true all)

def begin (c : Dev nD) : sProp 𝕄 := iprop((∃ K, env (inp m) K) ∗ bigSep Finset.univ (item (F := F) c) ∗ kvAt m c)
def Φ₀ (c : Dev nD) : sProp 𝕄 := iprop(begin m c ∗ bufs (F := F) c)
def Φ₁ (c : Dev nD) : sProp 𝕄 := iprop(bufs (F := F) c ∗ bigSep Finset.univ (rest0 (F := F) c) ∗ kvAt m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => nat3 (a := 1) (b := 1024) (c := 1024) fun _ a b => (inp m).x c a b
    | ⟨1, _⟩ => nat2 (a := 1024) (b := 1024) ((inp m).wq c)
    | ⟨2, _⟩ => nat2 (a := 1024) (b := 1024) ((inp m).wo c)
    | ⟨3, _⟩ => nat2 (a := 1024) (b := 1024) (On (inp m))
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

theorem idx_in (w : Fin 4) (t : Fin cfg0.N) (a : Fin (cfg0.win w).shape.rank) : (cfg0.win w).index t a = 0 := by
  rw [fin_N0 t]; revert a; revert w; decide

theorem before_x (c : Dev nD) (t : Fin cfg0.N) (d) : (dats m ρ 0 c).before (0 : Fin 4) t d = nat3 (a := 1) (b := 1024) (c := 1024) fun _ a b => (inp m).x c a b := by
  rw [nat3_x]
  unfold Dat.before; rw [if_pos (fetch0_0 t)]
  refine funext fun j => ?_
  refine congrArg (m ((c : Thread nD τ).loc main_arg0)) ?_
  funext a
  refine Fin.ext ((ValueKit.view_emb_slice_whole_unit_val main_arg0 _ _ _ _ a).trans ?_)
  have h : (cfg0.win 0).index t a = 0 := idx_in 0 t a
  show (cfg0.win 0).index t a * (cfg0.win 0).size a + (j a).val = _
  rw [h, Nat.zero_mul, Nat.zero_add]

theorem before_wq (c : Dev nD) (t : Fin cfg0.N) (d) : (dats m ρ 0 c).before (1 : Fin 4) t d = nat2 (a := 1024) (b := 1024) ((inp m).wq c) := by
  rw [nat2_wq]
  unfold Dat.before; rw [if_pos (fetch0_1 t)]
  refine funext fun j => ?_
  refine congrArg (m ((c : Thread nD τ).loc main_arg1)) ?_
  funext a
  refine Fin.ext ((ValueKit.view_emb_slice_whole_unit_val main_arg1 _ _ _ _ a).trans ?_)
  have h : (cfg0.win 1).index t a = 0 := idx_in 1 t a
  show (cfg0.win 1).index t a * (cfg0.win 1).size a + (j a).val = _
  rw [h, Nat.zero_mul, Nat.zero_add]
theorem before_wo (c : Dev nD) (t : Fin cfg0.N) (d) : (dats m ρ 0 c).before (2 : Fin 4) t d = nat2 (a := 1024) (b := 1024) ((inp m).wo c) := by
  rw [nat2_wo]
  unfold Dat.before; rw [if_pos (fetch0_2 t)]
  refine funext fun j => ?_
  refine congrArg (m ((c : Thread nD τ).loc main_arg4)) ?_
  funext a
  refine Fin.ext ((ValueKit.view_emb_slice_whole_unit_val main_arg4 _ _ _ _ a).trans ?_)
  have h : (cfg0.win 2).index t a = 0 := idx_in 2 t a
  show (cfg0.win 2).index t a * (cfg0.win 2).size a + (j a).val = _
  rw [h, Nat.zero_mul, Nat.zero_add]

/-! ## The result -/

theorem flushed_o (c : Dev nD) (t : Fin cfg0.N) :
    (dats m ρ 0 c).flushed (3 : Fin 4) t = ((cfg0.win 3).blk t).view.read (Elt F) (nat2 (a := 1024) (b := 1024) (On (inp m))) := by
  have ha : (dats m ρ 0 c).after (3 : Fin 4) t = nat2 (a := 1024) (b := 1024) (On (inp m)) := by dsimp only [dats]
  unfold Dat.flushed
  rw [ha]
  refine funext fun j => ?_
  refine congrArg (nat2 (a := 1024) (b := 1024) (On (inp m))) ?_
  funext a
  refine Fin.ext (Eq.symm ((ValueKit.view_emb_slice_whole_unit_val main_v1 _ _ _ _ a).trans ?_))
  have h : (cfg0.win 3).index t a = 0 := idx_in 3 t a
  show (cfg0.win 3).index t a * (cfg0.win 3).size a + (j a).val = _
  rw [h, Nat.zero_mul, Nat.zero_add]

theorem final_o (c : Dev nD) : (dats m ρ 0 c).arrAt (3 : Fin 4) cfg0.N = nat2 (a := 1024) (b := 1024) (On (inp m)) :=
  (dats m ρ 0 c).arrAt_eq_of_cover (3 : Fin 4) _ (fun t _ => flushed_o m ρ c t) fun i => ⟨t0_0, flush0_3 _, by
    refine ((cfg0.win 3).emb_mem_blk_iff t0_0 i rfl).mpr fun a => ?_
    have h : (cfg0.win 3).index t0_0 a = 0 := idx_in 3 t0_0 a
    rw [h, Nat.zero_mul]
    refine ⟨Nat.zero_le _, ?_⟩
    rw [Nat.zero_add]
    exact (i a).isLt⟩

/-! ## The body's obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt () t0_0.succ
    ∗ stg c cc0_stg0_0 (nat3 (a := 1) (b := 1024) (c := 1024) fun _ a b => (inp m).x c a b)
    ∗ stg c cc0_stg1_0 (nat2 (a := 1024) (b := 1024) ((inp m).wq c))
    ∗ stg c cc0_stg2_0 (nat2 (a := 1024) (b := 1024) ((inp m).wo c))
    ∗ stg c cc0_stg3_0 (nat2 (a := 1024) (b := 1024) (On (inp m))))

theorem stg_open (c : Dev nD) (b : Ref sig .tc) (X : b.ty.Contents (Elt F)) : stg c b X ⊢ (((c : Thread nD τ).loc b) ↦{fullShare} X) := by
  iintro ⟨%f, %hf, H⟩
  subst hf
  iexact H
theorem stg_close (c : Dev nD) (b : Ref sig .tc) (X : b.ty.Contents (Elt F)) : (((c : Thread nD τ).loc b) ↦{fullShare} X) ⊢ stg c b X := by
  iintro H
  iexists _
  isplitr; · ipureintro; rfl
  iexact H
theorem stg_part (c : Dev nD) (b : Ref sig .tc) (X : b.ty.Contents (Elt F)) : stg c b X = part c (Memref.whole b) fullShare (fun _ => True) (fun _ => True) X := by
  rw [part_whole]
  refine BI.equiv_iff.mp ⟨?_, ?_⟩
  · exact stg_open c b X
  · exact stg_close c b X

theorem ow_end (c : Dev nD) : ow (F := F) c 20 ⊢ iprop(∃ W, owes (c : Thread nD τ) 0 W) := by unfold ow; rw [owed_end]

theorem sound_body (c : Dev nD) : bodyPre m ρ c ⊢ run c body fun _ => bodyPost m ρ c := by
  unfold bodyPre Φ₀ begin kvAt
  simp only [before_x, before_wq, before_wo]
  iintro ⟨⟨⟨⟨%K, #He⟩, Hit, HK, HV⟩, Hb⟩, Ho, ⟨%d0, Hx⟩, ⟨%d1, Hwq⟩, ⟨%d2, Hwo⟩, ⟨%d3, Hr⟩⟩
  unfold Dat.owesAt Pipeline.owesWithin
  icases Ho with ⟨%W, %hW, HO⟩
  ihave Hx := (Entails.of_eq (stg_part c _ _)) $$ Hx
  ihave Hwq := (Entails.of_eq (stg_part c _ _)) $$ Hwq
  ihave Hwo := (Entails.of_eq (stg_part c _ _)) $$ Hwo
  ihave Hr := (Entails.of_eq (stg_part c _ _)) $$ Hr
  ihave Hr := (some_intro c _ _ _ _) $$ Hr
  iapply (body_spec c (inp m) K fun _ => bodyPost m ρ c) $$ [Hit HK HV Hb HO Hx Hwq Hwo Hr]
  · isplitr; · iexact He
    isplitl [Hit]; · iexact Hit
    isplitl [HO]; · unfold ow; iexists W; iexact HO
    isplitl [Hb]; · iexact Hb
    isplitr [Hr]
    · unfold ins
      isplitl [Hx]; · iexact Hx
      isplitl [Hwq]; · iexact Hwq
      isplitl [Hwo]; · iexact Hwo
      isplitl [HK]; · iexact HK
      iexact HV
    iexact Hr
  iintro ⟨Hs, HO, Hb, Hi, Hr⟩
  unfold bodyPost Φ₁ kvAt ins
  icases Hi with ⟨Hx, Hwq, Hwo, HK, HV⟩
  ihave HO := (ow_end c) $$ HO
  icases HO with ⟨%W', HO⟩
  isplitl [Hs Hb HK HV]
  · isplitl [Hb]; · iexact Hb
    isplitl [Hs]; · iexact Hs
    isplitl [HK]; · iexact HK
    iexact HV
  isplitl [HO]
  · unfold Dat.owesAt Pipeline.owesWithin
    iexists W'
    isplitr; · ipureintro; exact fun _ _ => Or.inl trivial
    iexact HO
  rw [stg_part, stg_part, stg_part, stg_part]
  isplitl [Hx]; · iexact Hx
  isplitl [Hwq]; · iexact Hwq
  isplitl [Hwo]; · iexact Hwo
  iexact Hr

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  refine (show bodyPre m ρ c ⊢ run c (bodyAt0 t0_0) (fun _ => bodyPost m ρ c) from ?_)
  rw [body_eq]
  exact sound_body m ρ c

/-! ## The launch -/

theorem kvAt_eq (c : Dev nD) : kvAt m c = (Pipeline.unscopedRest cfg0.spec c (fun b => m ((c : Thread nD τ).loc b)) : sProp 𝕄) := by
  unfold kvAt; rw [src_k, src_v]; exact (unscopedRest0_eq c (fun b => m ((c : Thread nD τ).loc b))).symm

theorem items (c : Dev nD) : iprop(Pipeline.launchCred O₀ c ∗ (bigSep Finset.univ fun κ : CK => atPos ER (cell c κ) 0 ∅ 0) ∗ bigSep Finset.univ (pay4 (F := F) c))
    ⊢ bigSep Finset.univ (item (F := F) c) := by
  unfold item
  rw [bigSep_sep', bigSep_sep']
  iintro ⟨H1, H2, H3⟩
  isplitl [H2]; · iexact H2
  isplitl [H3]; · iexact H3
  iapply (creds (F := F) c); iexact H1

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(begin m c ∗ emp) := by
  rw [Pipeline.unscopedRestP_none, ← kvAt_eq]
  unfold G'
  iintro ⟨Hkv, #Hlev, Hcr, -, ⟨%K, #HR⟩, Hat, Ht⟩
  ihave Hit := (items (F := F) c) $$ [Hcr Hat Ht]
  · isplitl [Hcr]; · iexact Hcr
    isplitl [Hat]; · iexact Hat
    iexact Ht
  imodintro
  unfold begin env
  isplitl
  · isplitr
    · iexists K
      isplitr; · iexact HR
      iexact Hlev
    isplitl [Hit]; · iexact Hit
    iexact Hkv
  · iempintro

theorem phi0_intro (c : Dev nD) :
    iprop(begin m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← bufs_eq]
  unfold Φ₀
  iintro ⟨Hs, -, Hr⟩
  isplitl [Hs]; · iexact Hs
  iexact Hr

def after1 (c : Dev nD) : sProp 𝕄 := iprop(unscopedSems0 c ∗ kvAt m c)

theorem phi1_exit (c : Dev nD) :
    (dats m ρ 0 c).Φ (Fin.last cfg0.N) ⊢ iprop(after1 m c ∗ Pipeline.ownSems0 osem c ∗ Pipeline.scopedRest cfg0.spec c) := by
  rw [show (dats m ρ 0 c).Φ (Fin.last cfg0.N) = Φ₁ m c from rfl, ← bufs_eq]
  unfold Φ₁ after1
  rw [← sems0_eq]
  iintro ⟨Hr, ⟨Ho, Hu⟩, Hkv⟩
  isplitl [Hu Hkv]
  · isplitl [Hu]; · iexact Hu
    iexact Hkv
  isplitl [Ho]; · iexact Ho
  iexact Hr

theorem stage_lv (c : Dev nD) (w : Fin 4) (s : Fin (spec0 w).nbuf) : ∀ κ, semOf κ ≠ (SemLoc.dma ((spec0 w).sem s)) := by
  revert s; revert w; decide +kernel

theorem mayWait_stage (c : Dev nD) (q : DmaSem sig) (hq : ∀ κ, semOf κ ≠ SemLoc.dma q) (O : CellTallies nD τ sig Unit) (hO : O = O₀ c ∨ O = 0) :
    (levAts L lv : sProp 𝕄) ⊢ MayWait (c : Thread nD τ) (.dma q) () O := by
  have h0 : ∀ u, lv ((c : Thread nD τ), SemLoc.dma q) u ≤ 0 := fun u => by
    have : kindOf (SemLoc.dma q) = none := by
      unfold kindOf; rw [dif_neg]; rintro ⟨κ, h⟩; exact hq κ h
    unfold lv; rw [this]
  rcases hO with rfl | rfl
  · exact mayWait c (.dma q) 0 0 h0 fun i _ h => due_levels i h
  · rw [← owed_end c]
    exact mayWait c (.dma q) 20 0 h0 fun i h1 h2 => absurd h2 (by omega)

theorem waits_all (c : Dev nD) : (levAts L lv : sProp 𝕄) ⊢ Pipeline.cellsWaits cfgs (dats m ρ) () 0 c :=
  Pipeline.cellsWaits_intro cfgs (dats m ρ) () 0 c fun w s t =>
    mayWait_stage c _ (stage_lv c w s) _ (by
      rcases t with ⟨_ | _, ht⟩
      · exact Or.inl rfl
      · exact Or.inr rfl)

theorem read_kv (c : Dev nD) (s' : Phys nD τ sig (Elt F)) : iprop(kvAt m c ∗ SI s') ⊢ iprop(⌜s'.mem.mem ((c : Thread nD τ).loc main_arg2) = m ((c : Thread nD τ).loc main_arg2)
      ∧ s'.mem.mem ((c : Thread nD τ).loc main_arg3) = m ((c : Thread nD τ).loc main_arg3)⌝ ∗ SI (Ix := Unit) (Name := ℕ) (U := UU) (Lvl := ℕ) s') := by
  unfold kvAt
  rw [src_k, src_v]
  iintro ⟨⟨Hk, Hv⟩, HSI⟩
  icombine HSI Hk gives %h1
  icombine HSI Hv gives %h2
  isplitr
  · ipureintro; exact ⟨Buf.eq_of_forall_mem_univ h1, Buf.eq_of_forall_mem_univ h2⟩
  iexact HSI

/-- What the final memory holds. -/
def Final (s : MemSt nD τ sig (Elt F)) : Prop := ∀ c : Dev nD,
  s.mem ((c : Thread nD τ).loc main_v1) = nat2 (a := 1024) (b := 1024) (On (inp m))
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)

/-- From any memory with zero counters every weakly fair execution on the sixteen devices terminates, the result on every
    device is the rounded sum `On`, the arguments are unchanged, and every counter is zero. -/
theorem run_main : θ_run defs (onTc (τ := τ) (main (F := F))) (s₀ m ρ) (fun r => Final m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits_all m ρ)
    (G := G (inp m)) (G' := G' (inp m)) (u₀ := u₀)
    (hu₀ := by
      unfold u₀
      iintro Hu
      ihave H := (ownU_pair _ _) $$ Hu
      icases H with ⟨HP, HX⟩
      imod (fund_ring (inp m)) $$ HX with HG
      imodintro
      isplitl [HP]; · iexact HP
      iexact HG)
    (hglob := glob (inp m))
    (hA := fun _ _ => rfl) (hpf := fun _ k => k.elim0)
    (X := begin m) (Y := after1 m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => by
      unfold after1
      iintro ⟨⟨Hu, Hkv⟩, -, HSI⟩
      ihave H := (read_kv m c s') $$ [Hkv HSI]
      · isplitl [Hkv]; · iexact Hkv
        iexact HSI
      icases H with ⟨%hkv, HSI⟩
      imod (Pipeline.unscopedSems0_read (X := unscopedSems0 c) (c := c) fupd_intro s') $$ [Hu HSI] with ⟨%hs, HSI⟩
      · isplitl [Hu]; · iexact Hu
        iexact HSI
      imodintro
      isplitr; · ipureintro; exact ⟨hs, hkv⟩
      iexact HSI)
    (hQ := fun _ h hs => ⟨fun c => ⟨((h c).1 3).trans (final_o m ρ c), ((h c).1 0).trans ((dats m ρ 0 c).arrAt_in 0 rfl _), ((h c).1 1).trans ((dats m ρ 0 c).arrAt_in 1 rfl _),
      (h c).2.2.2.1, (h c).2.2.2.2, ((h c).1 2).trans ((dats m ρ 0 c).arrAt_in 2 rfl _)⟩, sem_eq_zero hs fun c => (h c).2.2.1⟩)

end Cert.KernelIdeal.Att
end
-- ==== Proof.Frames.lean ====
/- The frames of the three programs: each terminates without fault, leaves its arguments unchanged and ends with every
   semaphore counter at zero. The kernel's two frames are one run over any float values. -/
module

public import proofs.«01_k».proof.Proof.Launch
public import proofs.«01_k».proof.Defs
public import proofs.«01_k».proof.Proof.Gen.Kernel
public import proofs.«01_k».proof.Proof.Gen.ReferenceIdeal.Run
public import Idealize.ShloMosaic.Lib.Quiescent

@[expose] public section

set_option maxRecDepth 100000

noncomputable section

namespace Cert.Proof

open Idealize.ShloMosaic Idealize.ShloMosaic.TcCoe Idealize.SL.Sem

/-- At words, a named constant is the word it stands in the place of. -/
instance namedBits : Named Bits where
  named _ _ _ b := Scalar.ofBits _ b

/-- The two programs have one text at words: their signatures … -/
theorem sig_eq : Cert.Kernel.sig = Cert.KernelIdeal.sig := rfl
/-- … the body of the kernel … -/
theorem body_eq : Cert.Kernel.cc0__body (F := Bits) = Cert.KernelIdeal.cc0__body (F := Bits) := rfl
open Cert.KernelIdeal Cert.KernelIdeal.Gen in
/-- … the tables of bodies … -/
theorem bodies_eq : Cert.Kernel.defs₀ (F := Bits) = Cert.KernelIdeal.defs₀ (F := Bits) := by
  refine congrArg Defs.onTc (funext fun l => funext fun a => ?_)
  match l, a with
  | 0, (t, s) =>
    exact congrArg (fun f => f
      (win0_0.stage (s 0)) (hstage0_0 0) (win0_1.stage (s 1)) (hstage0_1 0) (Memref.whole main_arg2)
      (Memref.isWhole_whole _) (Memref.whole main_arg3) (Memref.isWhole_whole _) (win0_2.stage (s 2)) (hstage0_2
      0) (win0_3.stage (s 3)) (hstage0_3 0) (Memref.whole cc0_scratch0) (Memref.isWhole_whole _) (Memref.whole
      cc0_scratch1) (Memref.isWhole_whole _) (Memref.whole cc0_scratch2) (Memref.isWhole_whole _) (Memref.whole
      cc0_scratch3) (Memref.isWhole_whole _) (Memref.whole cc0_scratch4) (Memref.isWhole_whole _) (Memref.whole
      cc0_scratch5) (Memref.isWhole_whole _) (Memref.whole cc0_scratch6) (Memref.isWhole_whole _) cc0_scratch7
      (Memref.whole cc0_scratch8) (Memref.isWhole_whole _) (Memref.whole cc0_scratch9) (Memref.isWhole_whole _)
      (Memref.whole cc0_scratch10) (Memref.isWhole_whole _) (Memref.whole cc0_scratch11) (Memref.isWhole_whole
      _) (Memref.whole cc0_scratch12) (Memref.isWhole_whole _) cc0_scratch13 cc0_scratch14 cc0_scratch15
      cc0_scratch16 cc0_scratch17 cc0_scratch18 cc0_scratch19 cc0_scratch20) body_eq
  | ⟨_ + 1, h⟩, _ => exact absurd h (Nat.not_lt.2 (Nat.le_add_left _ _))
/-- … with each call's pipeline … -/
theorem defs_eq : Cert.Kernel.defs (F := Bits) = Cert.KernelIdeal.defs (F := Bits) :=
  congrArg (Pipeline.defs (Cert.KernelIdeal.pcfgs (F := Bits))) bodies_eq
/-- … and the programs. -/
theorem main_eq : Cert.Kernel.main (F := Bits) = Cert.KernelIdeal.main (F := Bits) := rfl

/-- The kernel's frame at words. -/
theorem frame_kernel : Cert.quiescent_Kernel (hKernel := Cert.Kernel.Gen.facts) := fun m ρ _ =>
  (iff_of_eq (congrArg (fun D => θ_run D (onTc (τ := Cert.Kernel.τ) (Cert.Kernel.main (F := Bits)))
    ⟨m, fun _ => 0, ρ⟩ _) defs_eq)).mpr
  ((θ_run Cert.KernelIdeal.defs _ _).mono (fun _ h => ⟨fun c => (h.1 c).2, h.2⟩)
    (Cert.KernelIdeal.Att.run_main (F := Bits) m ρ))

/-- The idealized kernel's frame. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩)
    (Cert.KernelIdeal.Att.run_main (F := Ideal) m ρ)

/-- The reference's frame: it has no semaphore. -/
theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems rfl r.2⟩)
    (Cert.ReferenceIdeal.Value.run (F := Ideal) m ρ)

/-- The mask's name stands for minus infinity. -/
theorem preserves_kernel : Cert.preserves_Kernel_KernelIdeal :=
  IdealRules.named_const.statement Cert.KernelIdeal.κ "mask" .f32 0xCE6E6B28#32 ⊥ rfl

end Cert.Proof

end
-- ==== Proof.Softmax.lean ====
/- The mathematics of windowed attention on the extended reals: a row of scores that is minus infinity outside a window of
   the columns has the same softmax over the window as over all the columns. -/
module

public import Idealize.ShloMosaic.Lib.Pointwise
public import Idealize.ShloMosaic.Lib.FinSumWindow
public import Idealize.ShloMosaic.Lib.Pipeline.ValueKit

@[expose] public section

noncomputable section

namespace Cert.Proof

open Idealize.ShloMosaic Idealize.ShloMosaic.FinSumWindow

/-! ## The mask -/

/-- Two positions are near when they are at most 128 apart. -/
def near (i j : ℕ) : Prop := i ≤ j + 128 ∧ j ≤ i + 128

instance (i j : ℕ) : Decidable (near i j) := inferInstanceAs (Decidable (_ ∧ _))

/-- The test of the programs, on words, that two positions are near. -/
theorem near_word (i j : ℕ) (hi : i < 4096) (hj : j < 4096) :
    IntOp.cmpi .sle (IntOp.absi (IntOp.subi (BitVec.ofNat 32 i) (BitVec.ofNat 32 j))) 128#32 = BitVec.ofBool (decide (near i j)) := by
  have hs : (BitVec.ofNat 32 i - BitVec.ofNat 32 j).toNat = if j ≤ i then i - j else 4294967296 - (j - i) := by
    rw [BitVec.toNat_sub, BitVec.toNat_ofNat, BitVec.toNat_ofNat]
    split <;> omega
  have hm : (BitVec.ofNat 32 i - BitVec.ofNat 32 j).msb = decide (i < j) := by
    rw [BitVec.msb_eq_decide, hs]
    split <;> simp <;> omega
  have ha : (IntOp.absi (BitVec.ofNat 32 i - BitVec.ofNat 32 j)) = BitVec.ofNat 32 (if j ≤ i then i - j else j - i) := by
    refine BitVec.eq_of_toNat_eq ?_
    unfold IntOp.absi
    rw [hm]
    by_cases h : i < j
    · rw [if_pos (by simpa using h), BitVec.toNat_neg, hs, BitVec.toNat_ofNat, if_neg (by omega), if_neg (by omega)]; omega
    · rw [if_neg (by simpa using h), hs, BitVec.toNat_ofNat, if_pos (by omega), if_pos (by omega)]; omega
  unfold IntOp.cmpi IntOp.subi
  rw [ha]
  refine congrArg _ ?_
  show BitVec.sle _ _ = _
  have hd : (if j ≤ i then i - j else j - i) < 4096 := by split <;> omega
  rw [BitVec.sle_eq_decide, BitVec.toInt_eq_toNat_of_lt (by rw [BitVec.toNat_ofNat]; omega), BitVec.toNat_ofNat, Nat.mod_eq_of_lt (by omega)]
  refine decide_eq_decide.mpr ?_
  show ((if j ≤ i then i - j else j - i : ℕ) : ℤ) ≤ 128 ↔ _
  unfold near
  split <;> omega

theorem select_near {α : Type} (i j : ℕ) (hi : i < 4096) (hj : j < 4096) (a b : α) :
    Scalar.select (IntOp.cmpi .sle (IntOp.absi (IntOp.subi (BitVec.ofNat 32 i) (BitVec.ofNat 32 j))) 128#32) a b = if near i j then a else b := by
  rw [near_word i j hi hj]
  unfold Scalar.select
  by_cases h : near i j
  · simp [h]
  · simp [h]

/-! ## Numbers among the extended reals -/

/-- A value that is a number. -/
def num (x : EReal) : Prop := ∃ r : ℝ, x = r

theorem num_mul {x y : EReal} (hx : num x) (hy : num y) : num (x * y) := by
  obtain ⟨r, rfl⟩ := hx; obtain ⟨s, rfl⟩ := hy; exact ⟨r * s, (EReal.coe_mul r s).symm⟩

theorem num_sum {n : ℕ} {f : Fin n → EReal} (h : ∀ i, num (f i)) : num (∑ i, f i) := by
  choose g hg using h
  refine ⟨∑ i, g i, ?_⟩
  rw [Finset.sum_congr rfl fun i _ => hg i]
  exact (map_sum (⟨⟨fun r : ℝ => (r : EReal), EReal.coe_zero⟩, EReal.coe_add⟩ : ℝ →+ EReal) g Finset.univ).symm

theorem num_of_abs {x : EReal} (h : max x (-x) < ⊤) : num x := by
  induction x with
  | bot => simp at h
  | top => simp at h
  | coe r => exact ⟨r, rfl⟩

/-! ## The softmax of a row -/

/-- The largest score. -/
def top {n : ℕ} (f : Fin n → EReal) : EReal := Finset.univ.fold max ⊥ f

/-- The values weighed by the softmax of the scores. -/
def soft {n : ℕ} (f v : Fin n → EReal) : EReal :=
  ∑ j, Ideal.div (Ideal.exp (f j - top f)) (∑ i, Ideal.exp (f i - top f)) * v j

theorem top_eq {n : ℕ} (f : Fin n → EReal) : top f = Finset.univ.sup f := rfl

theorem exp_nonneg (x : EReal) : 0 ≤ Ideal.exp x := by
  induction x with
  | bot => exact le_refl 0
  | top => exact le_top
  | coe r => exact EReal.coe_nonneg.mpr (Real.exp_pos r).le

/-- The sum of the weights is not zero: it has a score that is the largest one. -/
theorem sum_ne_zero {n : ℕ} (f : Fin n → EReal) (j₀ : Fin n) (h₀ : num (f j₀)) (hf : ∀ j, f j ≠ ⊤) :
    ∑ i, Ideal.exp (f i - top f) ≠ 0 := by
  obtain ⟨k, -, hk⟩ := Finset.exists_mem_eq_sup Finset.univ ⟨j₀, Finset.mem_univ _⟩ f
  have hb : f k ≠ ⊥ := by
    rw [← hk]
    intro h
    have := Finset.le_sup (f := f) (Finset.mem_univ j₀)
    rw [h, le_bot_iff] at this
    obtain ⟨r, hr⟩ := h₀
    exact EReal.coe_ne_bot r (hr.symm.trans this)
  have hone : Ideal.exp (f k - top f) = 1 := by
    rw [top_eq, hk]
    lift f k to ℝ using ⟨hf k, hb⟩ with r
    rw [← EReal.coe_sub, sub_self]
    show ((Real.exp 0 : ℝ) : EReal) = 1
    rw [Real.exp_zero]; rfl
  intro h
  have := Finset.single_le_sum (f := fun i => Ideal.exp (f i - top f)) (fun i _ => exp_nonneg _) (Finset.mem_univ k)
  rw [h] at this
  simp only [hone] at this
  exact absurd this (by simp)

/-- Scores that are minus infinity outside a window: the softmax over the window is the one over all the columns. -/
theorem soft_window {N W : ℕ} (lo : ℕ) (hlo : lo + W ≤ N) (f v : Fin N → EReal)
    (hout : ∀ j : Fin N, ¬(lo ≤ j.val ∧ j.val < lo + W) → f j = ⊥) (hf : ∀ j, f j ≠ ⊤) (j₀ : Fin N) (h₀ : num (f j₀)) :
    soft (fun a : Fin W => f ⟨lo + a.val, by omega⟩) (fun a => v ⟨lo + a.val, by omega⟩) = soft f v := by
  have ht : top (fun a : Fin W => f ⟨lo + a.val, by omega⟩) = top f := by
    rw [top_eq, top_eq]
    refine le_antisymm (Finset.sup_le fun a _ => Finset.le_sup (f := f) (Finset.mem_univ _)) (Finset.sup_le fun j _ => ?_)
    by_cases h : lo ≤ j.val ∧ j.val < lo + W
    · refine le_trans (le_of_eq ?_) (Finset.le_sup (f := fun a : Fin W => f ⟨lo + a.val, by omega⟩) (Finset.mem_univ ⟨j.val - lo, by omega⟩))
      exact congrArg f (Fin.ext (by show j.val = lo + (j.val - lo); omega))
    · rw [hout j h]; exact bot_le
  have hz : ∀ j : Fin N, ¬(lo ≤ j.val ∧ j.val < lo + W) → Ideal.exp (f j - top f) = 0 := fun j h => by
    rw [hout j h, EReal.bot_sub]; rfl
  have hs := sum_window lo hlo (fun j => Ideal.exp (f j - top f)) hz
  unfold soft
  rw [ht, ← hs]
  refine (sum_window lo hlo (fun j => Ideal.div (Ideal.exp (f j - top f)) (∑ i, Ideal.exp (f i - top f)) * v j) fun j h => ?_).symm
  rw [hz j h]
  unfold Ideal.div
  rw [if_neg (sum_ne_zero f j₀ h₀ hf), zero_mul, zero_mul]

/-! ## The specification -/

/-- The factor of the scores. -/
def scale : EReal := Ideal.ofBits .f32 0x3DB504F3#32

theorem num_scale : num scale := by
  unfold scale
  simp only [Ideal.ofBits, Ideal.ieee]
  exact ⟨_, rfl⟩

/-- The arguments by their coordinates. -/
structure Args where
  x : ℕ → ℕ → EReal
  wq : ℕ → ℕ → EReal
  ka : ℕ → ℕ → ℕ → EReal
  va : ℕ → ℕ → ℕ → EReal
  wo : ℕ → ℕ → EReal

variable (A : Args)

/-- The query of row `i`, at column `n` of all the heads' columns. -/
def query (i n : ℕ) : EReal := ∑ k : Fin 1024, A.x i k.val * A.wq k.val n

/-- The masked score of row `i` and key `j` in head `h`. -/
def score (i h j : ℕ) : EReal := if near i j then (∑ d : Fin 128, query A i (h * 128 + d.val) * A.ka j h d.val) * scale else ⊥

/-- The context of row `i` in head `h`, at the head's column `d`. -/
def context (i h d : ℕ) : EReal := soft (fun j : Fin 1024 => score A i h j.val) fun j => A.va j.val h d

/-- The result. -/
def result (i y : ℕ) : EReal := ∑ n : Fin 16384, context A i (n.val / 128) (n.val % 128) * A.wo n.val y

/-- What the scores are made of are numbers. -/
structure Fine : Prop where
  x : ∀ i k, num (A.x i k)
  wq : ∀ k n, num (A.wq k n)
  ka : ∀ j h d, num (A.ka j h d)

variable {A}

theorem num_score (h : Fine A) (i hh j : ℕ) (hn : near i j) : num (score A i hh j) := by
  unfold score query
  rw [if_pos hn]
  exact num_mul (num_sum fun d => num_mul (num_sum fun k => num_mul (h.x _ _) (h.wq _ _)) (h.ka _ _ _)) num_scale

theorem score_ne_top (h : Fine A) (i hh j : ℕ) : score A i hh j ≠ ⊤ := by
  by_cases hn : near i j
  · obtain ⟨r, hr⟩ := num_score h i hh j hn
    rw [hr]; exact EReal.coe_ne_top r
  · unfold score; rw [if_neg hn]; exact bot_ne_top

/-- The context computed over a window of the columns that holds every near one. -/
theorem context_window (h : Fine A) (i hh d lo : ℕ) (hi : i < 1024) (hlo : lo + 512 ≤ 1024)
    (hout : ∀ j < 1024, near i j → lo ≤ j ∧ j < lo + 512) :
    soft (fun a : Fin 512 => score A i hh (lo + a.val)) (fun a => A.va (lo + a.val) hh d) = context A i hh d :=
  soft_window (N := 1024) (W := 512) lo hlo (fun j => score A i hh j.val) (fun j => A.va j.val hh d)
    (fun j hj => if_neg fun hn => hj (hout j.val j.isLt hn)) (fun j => score_ne_top h i hh j.val) ⟨i, hi⟩
    (num_score h i hh i ⟨by omega, by omega⟩)

/-- The result as a sum over sixteen groups of 1024 columns. -/
theorem result_blocks (i y : ℕ) :
    result A i y = ∑ c : Fin 16, ∑ k : Fin 1024, context A i (8 * c.val + k.val / 128) (k.val % 128) * A.wo (c.val * 1024 + k.val) y := by
  unfold result
  rw [show (∑ n : Fin 16384, context A i (n.val / 128) (n.val % 128) * A.wo n.val y)
      = ∑ n : Fin (16 * 1024), context A i (n.val / 128) (n.val % 128) * A.wo n.val y from rfl]
  rw [← Fin.sum_univ_univ_mul_add 16 1024 fun n => context A i (n / 128) (n % 128) * A.wo n y]
  refine Finset.sum_congr rfl fun c _ => Finset.sum_congr rfl fun k _ => ?_
  rw [show (c.val * 1024 + k.val) / 128 = 8 * c.val + k.val / 128 by omega, show (c.val * 1024 + k.val) % 128 = k.val % 128 by omega]

end Cert.Proof

end
-- ==== Proof.IdealKernel.lean ====
/- What the kernel's buffers hold on the extended reals: the queries, the contexts, the products and their sum over the
   devices are those of the specification, when the devices hold the blocks of the arguments. -/
module

public import proofs.«01_k».proof.Proof.Contents
public import proofs.«01_k».proof.Proof.Softmax

@[expose] public section

set_option maxRecDepth 100000

noncomputable section

namespace Cert.KernelIdeal.Att

open Cert.KernelIdeal Cert.KernelIdeal.Gen Cert.Proof
open Idealize.ShloMosaic Idealize.ShloMosaic.TcCoe

/-! ## The payloads, element by element -/

theorem queries_apply (x : Vec Ideal S1x512x1024 .bf16) (w : Vec Ideal S1024x1024 .bf16) (r : Fin 512) (c : Fin 1024) :
    k0_pay2 (k0_pay1 x w) (ix2 r c) = ∑ k : Fin 1024, x (ix3 0 r k) * w (ix2 k c) := by
  pointwise [k0_pay1, k0_pay2]

theorem head_apply (x : Vec Ideal S1x1024x128 .f32) (r : Fin 1024) (c : Fin 128) :
    k0_pay3 (F := Ideal) x (ix3 0 r c) = x (ix3 0 r c) := by
  pointwise [k0_pay3]

theorem quad_apply (x : Vec Ideal S512x1024 .bf16) (w : Vec Ideal S1024x512 .bf16) (r : Fin 512) (c : Fin 512) :
    k0_pay44 x w (ix2 r c) = ∑ k : Fin 1024, x (ix2 r k) * w (ix2 k c) := by
  pointwise [k0_pay44, k0_pay43]

/-- The first column of the window, as the kernel computes it. -/
theorem win_word (b : ℕ) (hb : b < 4) :
    Scalar.minsi 512#32 (Scalar.maxsi 0#32 (Scalar.subi (BitVec.ofNat 32 (256 * b)) 128#32)) = BitVec.ofNat 32 (win b) := by
  have h : ∀ b : Fin 4, Scalar.minsi 512#32 (Scalar.maxsi 0#32 (Scalar.subi (BitVec.ofNat 32 (256 * b.val)) 128#32)) = BitVec.ofNat 32 (win b.val) := by
    decide
  exact h ⟨b, hb⟩

theorem mask_named : (κ "mask").getD (Ideal.ofBits .f32 0xCE6E6B28#32) = (⊥ : EReal) := rfl

theorem attn_apply (b : ℕ) (hb : b < 4) (q : Vec Ideal S256x128 .bf16) (k v : Vec Ideal S1x512x128 .bf16) (r : Fin 256) (c : Fin 128) :
    k0_pay5 (BitVec.ofNat 32 (256 * b)) q k v (ix2 r c)
      = soft (fun a : Fin 512 => if near (256 * b + r.val) (win b + a.val) then (∑ d : Fin 128, q (ix2 r d) * k (ix3 0 a d)) * scale else ⊥)
          (fun a => v (ix3 0 a c)) := by
  have hw : win b ≤ 512 := by unfold win; omega
  have hadd : ∀ (i j : ℕ), IntOp.addi (BitVec.ofNat 32 i) (BitVec.ofNat 32 j) = BitVec.ofNat 32 (j + i) := fun i j => by
    unfold IntOp.addi; rw [← BitVec.ofNat_add, Nat.add_comm]
  have hsel : ∀ (a : Fin 512) (s t : EReal), Scalar.select (IntOp.cmpi .sle (IntOp.absi (IntOp.subi (BitVec.ofNat 32 (256 * b + r.val))
      (BitVec.ofNat 32 (win b + a.val)))) 128#32) s t = if near (256 * b + r.val) (win b + a.val) then s else t := fun a s t =>
    select_near _ _ (by omega) (by omega) s t
  pointwise [k0_pay5, Named.named]
  simp only [win_word b hb, hadd, hsel, mask_named, show Ideal.ofBits .f32 0xFF800000#32 = ⊥ by simp [Ideal.ofBits, Ideal.ieee]]
  rfl

/-! ## The sum over the devices -/

/-- A function of the devices summed with a neighbour's. -/
def pair (s : Bool) (k : Fin 4) (f : Dev nD → EReal) (d : Dev nD) : EReal := f d + f (peer s k d)

theorem pair_all (f : Dev nD → EReal) (s : Bool) (d : Dev nD) : pair s 3 (pair s 2 (pair s 1 (pair s 0 f))) d = ∑ e, f e := by
  have h : ∀ (s : Bool) (d : Dev nD), Finset.univ.val = ([d, peer s 0 d, peer s 1 d, peer s 0 (peer s 1 d), peer s 2 d, peer s 0 (peer s 2 d),
      peer s 1 (peer s 2 d), peer s 0 (peer s 1 (peer s 2 d)), peer s 3 d, peer s 0 (peer s 3 d), peer s 1 (peer s 3 d),
      peer s 0 (peer s 1 (peer s 3 d)), peer s 2 (peer s 3 d), peer s 0 (peer s 2 (peer s 3 d)), peer s 1 (peer s 2 (peer s 3 d)),
      peer s 0 (peer s 1 (peer s 2 (peer s 3 d)))] : Multiset (Dev nD)) := by decide +kernel
  show _ = (Multiset.map f Finset.univ.val).sum
  rw [h s d]
  simp only [Multiset.map_coe, Multiset.sum_coe, List.map, List.sum_cons, List.sum_nil, pair, add_zero, add_assoc]

theorem An_four (I : Ins Ideal) (d : Dev nD) (x y : ℕ) : An I 4 d x y = ∑ e, Pn I e x y :=
  (show An I 4 d x y = pair (col y) 3 (pair (col y) 2 (pair (col y) 1 (pair (col y) 0 fun e => Pn I e x y))) d from rfl).trans
    (pair_all _ _ d)

/-! ## The contents -/

/-- The devices hold the blocks of the arguments. -/
structure Blocks (I : Ins Ideal) (A : Args) : Prop where
  x : ∀ c, ∀ a < 1024, ∀ b < 1024, I.x c a b = A.x a b
  wq : ∀ c, ∀ a < 1024, ∀ b < 1024, I.wq c a b = A.wq a (c.val * 1024 + b)
  ka : ∀ c, ∀ a < 1024, ∀ h < 128, ∀ b < 128, I.ka c a h b = A.ka a h b
  va : ∀ c, ∀ a < 1024, ∀ h < 128, ∀ b < 128, I.va c a h b = A.va a h b
  wo : ∀ c, ∀ a < 1024, ∀ b < 1024, I.wo c a b = A.wo (c.val * 1024 + a) b

variable {I : Ins Ideal} {A : Args}

theorem Qn_eq (h : Blocks I A) (c : Dev nD) (x y : ℕ) (hx : x < 1024) (hy : y < 1024) : Qn I c x y = query A x (c.val * 1024 + y) := by
  unfold Qn query
  rw [queries_apply]
  refine Finset.sum_congr rfl fun k _ => ?_
  show (I.x c (512 * (x / 512) + x % 512 % 512) k.val : EReal) * I.wq c k.val (y % 1024) = _
  rw [show 512 * (x / 512) + x % 512 % 512 = x by omega, Nat.mod_eq_of_lt hy, h.x c x hx k.val k.isLt, h.wq c k.val k.isLt y hy]

theorem hd_eq (f : ℕ → ℕ → ℕ → Ideal .f32) (h x y : ℕ) (hx : x < 1024) (hy : y < 128) : hd f h x y = f x h y := by
  unfold hd
  refine (head_apply _ _ _).trans ?_
  show f (x % 1024) h (y % 128) = _
  rw [Nat.mod_eq_of_lt hx, Nat.mod_eq_of_lt hy]

/-- Every near column of a block of rows lies in its window. -/
theorem near_win (x j : ℕ) (hx : x < 1024) (hj : j < 1024) (hn : near x j) : win (x / 256) ≤ j ∧ j < win (x / 256) + 512 := by
  obtain ⟨h1, h2⟩ := hn
  unfold win
  omega

theorem Cn_eq (h : Blocks I A) (hA : Fine A) (c : Dev nD) (x y : ℕ) (hx : x < 1024) (hy : y < 1024) :
    Cn I c x y = context A x (8 * c.val + y / 128) (y % 128) := by
  have hc : c.val < 16 := c.isLt
  have hw : win (x / 256) + 512 ≤ 1024 := by unfold win; omega
  have hh : 8 * c.val + y / 128 < 128 := by omega
  rw [← context_window hA x _ _ (win (x / 256)) hx hw fun j hj hn => near_win x j hx hj hn]
  unfold Cn
  rw [attn_apply _ (by omega)]
  refine congr (congrArg soft (funext fun a => ?_)) (funext fun a => ?_)
  · have ha : a.val < 512 := a.isLt
    unfold score
    show (if near (256 * (x / 256) + x % 256 % 256) _ then (∑ d : Fin 128, (Qn I c (256 * (x / 256) + x % 256 % 256) (128 * (y / 128) + d.val) : EReal) *
      Kn I c (y / 128) (win (x / 256) + a.val) d.val) * scale else ⊥) = _
    rw [show 256 * (x / 256) + x % 256 % 256 = x by omega]
    refine if_congr Iff.rfl (congrArg (fun z : EReal => z * scale) (Finset.sum_congr rfl fun d _ => ?_)) rfl
    unfold Kn
    rw [Qn_eq h c x _ hx (by omega), hd_eq _ _ _ _ (by omega) d.isLt, h.ka c _ (by omega) _ hh _ d.isLt,
      show c.val * 1024 + (128 * (y / 128) + d.val) = (8 * c.val + y / 128) * 128 + d.val by omega]
  · have ha : a.val < 512 := a.isLt
    show Vn I c (y / 128) (win (x / 256) + a.val) (y % 128 % 128) = _
    unfold Vn
    rw [hd_eq _ _ _ _ (by omega) (by omega), h.va c _ (by omega) _ hh _ (by omega), Nat.mod_mod]

theorem Pn_eq (h : Blocks I A) (hA : Fine A) (c : Dev nD) (x y : ℕ) (hx : x < 1024) (hy : y < 1024) :
    Pn I c x y = ∑ k : Fin 1024, context A x (8 * c.val + k.val / 128) (k.val % 128) * A.wo (c.val * 1024 + k.val) y := by
  unfold Pn
  rw [quad_apply]
  refine Finset.sum_congr rfl fun k _ => ?_
  show (Cn I c (512 * (x / 512) + x % 512 % 512) k.val : EReal) * I.wo c k.val (512 * (y / 512) + y % 512 % 512) = _
  rw [show 512 * (x / 512) + x % 512 % 512 = x by omega, show 512 * (y / 512) + y % 512 % 512 = y by omega, Cn_eq h hA c x k.val hx k.isLt,
    h.wo c k.val k.isLt y hy]

/-- The result of the kernel is the specification. -/
theorem On_result (h : Blocks I A) (hA : Fine A) (x y : ℕ) (hx : x < 1024) (hy : y < 1024) : On I x y = result A x y := by
  rw [result_blocks]
  refine (An_four I _ x y).trans (Finset.sum_congr rfl fun c _ => Pn_eq h hA c x y hx hy)

end Cert.KernelIdeal.Att

end
-- ==== Proof.IdealReference.lean ====
/- The reference's result on the extended reals, element by element, is the specification. -/
module

public import proofs.«01_k».proof.Proof.Gen.ReferenceIdeal.Run
public import proofs.«01_k».proof.Proof.Softmax
public import Idealize.ShloMosaic.Lib.Tactic.CleanTypes
public import Idealize.ShloMosaic.Lib.Routing.OpsOrder

@[expose] public section

set_option maxRecDepth 100000

noncomputable section

namespace Cert.Proof

open Cert.ReferenceIdeal Cert.ReferenceIdeal.Gen Cert.ReferenceIdeal.Value Idealize.ShloMosaic Idealize.ShloMosaic.TcCoe

/-- The arguments of the reference by their coordinates. -/
def args (m : (ℓ : Loc nD τ sig) → Buf (Elt Ideal) ℓ) : Args where
  x a b := m (((0 : Dev nD) : Thread nD τ).loc main_arg0) (ix3 (n0 := 1) (n1 := 1024) (n2 := 1024) 0 (Fin.ofNat _ a) (Fin.ofNat _ b))
  wq a b := m (((0 : Dev nD) : Thread nD τ).loc main_arg1) (ix2 (n0 := 1024) (n1 := 16384) (Fin.ofNat _ a) (Fin.ofNat _ b))
  ka a h b := m (((0 : Dev nD) : Thread nD τ).loc main_arg2) (ix4 (n0 := 1) (n1 := 1024) (n2 := 128) (n3 := 128) 0 (Fin.ofNat _ a) (Fin.ofNat _ h) (Fin.ofNat _ b))
  va a h b := m (((0 : Dev nD) : Thread nD τ).loc main_arg3) (ix4 (n0 := 1) (n1 := 1024) (n2 := 128) (n3 := 128) 0 (Fin.ofNat _ a) (Fin.ofNat _ h) (Fin.ofNat _ b))
  wo a b := m (((0 : Dev nD) : Thread nD τ).loc main_arg4) (ix2 (n0 := 16384) (n1 := 1024) (Fin.ofNat _ a) (Fin.ofNat _ b))

/-- Every row has a near column: its own. -/
theorem keep (r : Fin 1024) : Finset.fold IntOp.ori (0#1) (fun x : Fin 1024 =>
    IntOp.cmpi .sle (IntOp.absi (IntOp.subi (BitVec.ofNat 32 r.val) (BitVec.ofNat 32 x.val))) 128#32) Finset.univ = 1#1 := by
  refine (Routing.fold_ori _ _).mpr ⟨r, Finset.mem_univ r, ?_⟩
  rw [near_word r.val r.val (by omega) (by omega)]
  simp [near]

/-- A choice by a true word. -/
theorem select_one {α : Type} (a b : α) : Scalar.select 1#1 a b = a := rfl

/-- Numbers below a bound, spelt in one way. -/
theorem mk_ofNat {n : ℕ} [NeZero n] (a : ℕ) (h : a < n) : (⟨a, h⟩ : Fin n) = Fin.ofNat n a := Fin.ext (Nat.mod_eq_of_lt h).symm
theorem ofNat_val {n : ℕ} [NeZero n] (a : Fin n) : Fin.ofNat n a.val = a := Fin.ext (Nat.mod_eq_of_lt a.isLt)

/-- The choice by the programs' test of nearness. -/
theorem select_fin {α : Type} (i j : Fin 1024) (a b : α) :
    Scalar.select (IntOp.cmpi .sle (IntOp.absi (IntOp.subi (BitVec.ofNat 32 i.val) (BitVec.ofNat 32 j.val))) 128#32) a b = if near i.val j.val then a else b :=
  select_near i.val j.val (by omega) (by omega) a b

/-- The word of minus infinity. -/
theorem bot_word : Ideal.ofBits .f32 0xFF800000#32 = ⊥ := by simp [Ideal.ofBits, Ideal.ieee]

/-- The reference's result is the specification. -/
theorem reference_apply (m : (ℓ : Loc nD τ sig) → Buf (Elt Ideal) ℓ) (r : Fin 1024) (y : Fin 1024) :
    (show EReal from res_main_v39 m 0 (ix2 (n0 := 1024) (n1 := 1024) r y)) = result (args m) r.val y.val := by
  unfold res_main_v39
  clean_types
  pointwise
  simp only [keep, select_one, select_fin, mk_ofNat, id]
  simp only [result, context, soft, top, score, query, args, ofNat_val, scale]
  simp only [show constant (F := Ideal) S_ .f32 0xFF800000#32 ix0 = ⊥ from bot_word, bot_word]
  exact Finset.sum_congr rfl fun n _ => congrArg (fun z : EReal => z * _) (Finset.sum_congr rfl fun j _ => mul_comm (G := EReal) _ _)

end Cert.Proof

end
-- ==== Proof.Value.lean ====
/- The value of the kernel is the reference's: the precondition gives numbers, the devices hold the blocks of the
   reference's arguments, and both results are the specification. -/
module

public import proofs.«01_k».proof.Proof.IdealKernel
public import proofs.«01_k».proof.Proof.IdealReference
public import proofs.«01_k».proof.Proof.Launch
public import proofs.«01_k».proof.Defs
public import Idealize.ShloMosaic.Lib.ReduceAll

@[expose] public section

set_option maxRecDepth 100000

noncomputable section

namespace Cert.Proof

open Idealize.ShloMosaic Idealize.ShloMosaic.TcCoe

/-! ## The precondition -/

/-- The side conditions of the precondition's operations, on the kernel's arguments and on the reference's. -/
theorem pre_facts : Cert.Pre_finite_scores_KernelIdeal.Facts where
  bitsLt_bf16_f32 := by decide
  bcast_S_S1x1024x1024 := by decide
  reducesTo_S1x1024x1024_S_d0_1_2 := by decide
  h_S_ := by decide
  bcast_S_S1024x1024 := by decide
  reducesTo_S1024x1024_S_d0_1 := by decide
  bcast_S_S1x1024x128x128 := by decide
  reducesTo_S1x1024x128x128_S_d0_1_2_3 := by decide

theorem pre_facts' : Cert.Pre_finite_scores_ReferenceIdeal.Facts where
  bitsLt_bf16_f32 := by decide
  bcast_S_S1x1024x1024 := by decide
  reducesTo_S1x1024x1024_S_d0_1_2 := by decide
  h_S_ := by decide
  bcast_S_S1024x16384 := by decide
  reducesTo_S1024x16384_S_d0_1 := by decide
  bcast_S_S1x1024x128x128 := by decide
  reducesTo_S1x1024x128x128_S_d0_1_2_3 := by decide

theorem and_one : ∀ a b : BitVec 1, IntOp.andi a b = 1#1 → a = 1#1 ∧ b = 1#1 := by decide

/-- What the precondition tests of an element. -/
theorem num_of_word (x : EReal) (h : Ideal.cmp .olt (max x (-x)) (Ideal.ofBits .f32 0x7F800000#32) = 1#1) : num x := by
  have ht : Ideal.ofBits .f32 0x7F800000#32 = ⊤ := by simp [Ideal.ofBits, Ideal.ieee]
  rw [ht] at h
  refine num_of_abs ?_
  by_contra hc
  have : Ideal.cmp .olt (max x (-x)) ⊤ = 0#1 := by
    show BitVec.ofBool (decide (max x (-x) < ⊤)) = 0#1
    rw [decide_eq_false hc]; rfl
  rw [this] at h
  exact absurd h (by decide)

/-- The precondition says that the elements of x, Wq and K are numbers. -/
theorem pre_num (x : FVec Ideal Cert.Pre_finite_scores_KernelIdeal.S1x1024x1024 .bf16) (w : FVec Ideal Cert.Pre_finite_scores_KernelIdeal.S1024x1024 .bf16)
    (k v : FVec Ideal Cert.Pre_finite_scores_KernelIdeal.S1x1024x128x128 .f32) (o : FVec Ideal Cert.Pre_finite_scores_KernelIdeal.S1024x1024 .bf16)
    (h : @Cert.Pre_finite_scores_KernelIdeal.fn pre_facts Ideal _ x w k v o = fun _ => 1#1) :
    (∀ i, num (x i)) ∧ (∀ i, num (w i)) ∧ ∀ i, num (k i) := by
  haveI := pre_facts
  have h0 := congrFun h ix0
  dsimp only [Cert.Pre_finite_scores_KernelIdeal.fn] at h0
  obtain ⟨h1, h2⟩ := and_one _ _ h0
  obtain ⟨h3, h4⟩ := and_one _ _ h1
  haveI : Subsingleton Cert.Pre_finite_scores_KernelIdeal.S_.Idx := ⟨fun a b => funext fun i => i.elim0⟩
  exact ⟨fun i => num_of_word _ (Host.reduce_andi_all _ _ _ _ _ h3 i), fun i => num_of_word _ (Host.reduce_andi_all _ _ _ _ _ h4 i),
    fun i => num_of_word _ (Host.reduce_andi_all _ _ _ _ _ h2 i)⟩

/-! ## The blocks -/

/-- A device's block of columns, element by element. -/
theorem block_cols {α : Type} (c : Fin 16) (v : (⟨2, ![1024, 16384]⟩ : Shape).Idx → α) (a b : Fin 1024) :
    Layout.block ⟨2, ![1024, 1024]⟩ ⟨2, ![1024, 16384]⟩ 1 16 c v (by decide) (ix2 a b) = v (ix2 a (Fin.ofNat 16384 (c.val * 1024 + b.val))) := by
  refine congrArg v ?_
  rw [eq_ix2 (Layout.Tiles.idx _ c (ix2 a b))]
  refine (ix2_inj _ _ _ _).mpr ⟨Fin.ext rfl, Fin.ext ?_⟩
  show c.val * 1024 + b.val = (c.val * 1024 + b.val) % 16384
  rw [Nat.mod_eq_of_lt (by omega)]

/-- A device's block of rows, element by element. -/
theorem block_rows {α : Type} (c : Fin 16) (v : (⟨2, ![16384, 1024]⟩ : Shape).Idx → α) (a b : Fin 1024) :
    Layout.block ⟨2, ![1024, 1024]⟩ ⟨2, ![16384, 1024]⟩ 0 16 c v (by decide) (ix2 a b) = v (ix2 (Fin.ofNat 16384 (c.val * 1024 + a.val)) b) := by
  refine congrArg v ?_
  rw [eq_ix2 (Layout.Tiles.idx _ c (ix2 a b))]
  refine (ix2_inj _ _ _ _).mpr ⟨Fin.ext ?_, Fin.ext rfl⟩
  show c.val * 1024 + a.val = (c.val * 1024 + a.val) % 16384
  rw [Nat.mod_eq_of_lt (by omega)]

/-! ## The claim -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The kernel's array, on a device, and the reference's. -/
abbrev kernelArray (c : Dev Cert.KernelIdeal.nD) (b) := m ((c : Thread Cert.KernelIdeal.nD Cert.KernelIdeal.τ).loc b)
abbrev referenceArray (b) := m' (((0 : Dev Cert.ReferenceIdeal.nD) : Thread Cert.ReferenceIdeal.nD Cert.ReferenceIdeal.τ).loc b)

/-- The claim's hypotheses say that the devices hold the blocks of the reference's arguments. -/
theorem blocks_of (h0 : ∀ c, kernelArray m c Cert.KernelIdeal.main_arg0 = referenceArray m' Cert.ReferenceIdeal.main_arg0)
    (h1 : ∀ c, kernelArray m c Cert.KernelIdeal.main_arg1
      = Layout.block ⟨2, ![1024, 1024]⟩ ⟨2, ![1024, 16384]⟩ 1 16 c (referenceArray m' Cert.ReferenceIdeal.main_arg1))
    (h2 : ∀ c, kernelArray m c Cert.KernelIdeal.main_arg2 = referenceArray m' Cert.ReferenceIdeal.main_arg2)
    (h3 : ∀ c, kernelArray m c Cert.KernelIdeal.main_arg3 = referenceArray m' Cert.ReferenceIdeal.main_arg3)
    (h4 : ∀ c, kernelArray m c Cert.KernelIdeal.main_arg4
      = Layout.block ⟨2, ![1024, 1024]⟩ ⟨2, ![16384, 1024]⟩ 0 16 c (referenceArray m' Cert.ReferenceIdeal.main_arg4)) :
    Cert.KernelIdeal.Att.Blocks (Cert.KernelIdeal.Att.inp m) (args m') where
  x c a _ b _ := congrFun (h0 c) _
  wq c a ha b hb := by
    refine (congrFun (h1 c) _).trans ((block_cols c _ _ _).trans ?_)
    exact congrArg (fun z => (args m').wq a (c.val * 1024 + z)) (Nat.mod_eq_of_lt hb : b % 1024 = b)
  ka c a _ h _ b _ := congrFun (h2 c) _
  va c a _ h _ b _ := congrFun (h3 c) _
  wo c a ha b hb := by
    refine (congrFun (h4 c) _).trans ((block_rows c _ _ _).trans ?_)
    exact congrArg (fun z => (args m').wo (c.val * 1024 + z) b) (Nat.mod_eq_of_lt ha : a % 1024 = a)

/-- The precondition, of every device's blocks, is about the whole arrays. -/
theorem fine_of (hB : Cert.KernelIdeal.Att.Blocks (Cert.KernelIdeal.Att.inp m) (args m')) (h : Cert.Pre_KernelIdeal_finite_scores_KernelIdeal
    (hPre_finite_scores_KernelIdeal := pre_facts) m) : Fine (args m') := by
  have hn := fun c => pre_num _ _ _ _ _ (h c)
  have hx : ∀ i < 1024, ∀ k < 1024, num ((args m').x i k) := fun i hi k hk => by
    rw [← hB.x 0 i hi k hk]; exact (hn 0).1 _
  have hw : ∀ k < 1024, ∀ n < 16384, num ((args m').wq k n) := fun k hk n hn' => by
    have hc : n / 1024 < 16 := by omega
    rw [show n = (⟨n / 1024, hc⟩ : Dev Cert.KernelIdeal.nD).val * 1024 + n % 1024 by show n = n / 1024 * 1024 + n % 1024; omega,
      ← hB.wq ⟨n / 1024, hc⟩ k hk (n % 1024) (by omega)]
    exact (hn _).2.1 _
  have hk : ∀ j < 1024, ∀ h < 128, ∀ d < 128, num ((args m').ka j h d) := fun j hj h hh d hd => by
    rw [← hB.ka 0 j hj h hh d hd]; exact (hn 0).2.2 _
  have e : ∀ (n a : ℕ) [NeZero n], Fin.ofNat n (a % n) = Fin.ofNat n a := fun n a _ => Fin.ext (Nat.mod_mod a n)
  refine ⟨fun i k => ?_, fun k n => ?_, fun j h d => ?_⟩
  · have := hx (i % 1024) (Nat.mod_lt _ (by omega)) (k % 1024) (Nat.mod_lt _ (by omega))
    simpa only [args, e] using this
  · have := hw (k % 1024) (Nat.mod_lt _ (by omega)) (n % 16384) (Nat.mod_lt _ (by omega))
    simpa only [args, e] using this
  · have := hk (j % 1024) (Nat.mod_lt _ (by omega)) (h % 128) (Nat.mod_lt _ (by omega)) (d % 128) (Nat.mod_lt _ (by omega))
    simpa only [args, e] using this

/-- The two results are equal. -/
theorem results_eq (hB : Cert.KernelIdeal.Att.Blocks (Cert.KernelIdeal.Att.inp m) (args m')) (hF : Fine (args m')) :
    (Cert.KernelIdeal.Att.nat2 (a := 1024) (b := 1024) (Cert.KernelIdeal.Att.On (Cert.KernelIdeal.Att.inp m)))
      = (show (⟨2, ![1024, 1024]⟩ : Shape).Idx → EReal from Cert.ReferenceIdeal.Value.res_main_v39 m' 0) := by
  refine funext fun j => ?_
  obtain ⟨r, y, rfl⟩ : ∃ r y : Fin 1024, j = ix2 r y := ⟨j 0, j 1, eq_ix2 j⟩
  exact (Cert.KernelIdeal.Att.On_result hB hF _ _ r.isLt y.isLt).trans (reference_apply m' r y).symm

/-- The value claim. -/
theorem value_kernel : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := pre_facts) := by
  intro m g m' g' hpre h
  have hB := blocks_of m m' (fun c => (h c).1) (fun c => (h c).2.1) (fun c => (h c).2.2.1) (fun c => (h c).2.2.2.1) fun c => (h c).2.2.2.2
  have hF := fine_of m m' hB hpre
  refine ⟨Cert.ReferenceIdeal.Value.res_main_v39 m' 0, ?_, ?_⟩
  · exact (θ_run Cert.KernelIdeal.defs _ _).mono (fun r h c => ⟨(h.1 c).1.trans (results_eq m m' hB hF), (h.1 c).2⟩)
      (Cert.KernelIdeal.Att.run_main (F := Ideal) m g)
  · exact (θ_run Cert.ReferenceIdeal.defs _ _).mono (fun r h => h 0) (Cert.ReferenceIdeal.Value.run (F := Ideal) m' g')

end Cert.Proof

end
-- ==== Proof.lean ====
/- The certificate: the frames of the kernel, of its idealization and of the reference, the idealization's named constant,
   and the equality of the kernel's and the reference's results. -/
module

public import proofs.«01_k».proof.Proof.Gen.ReferenceIdeal.Run
public import proofs.«01_k».proof.Proof.Frames
public import proofs.«01_k».proof.Proof.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, pre_facts, pre_facts',
  frame_kernel, frame_kernelIdeal, fun m ρ _ => frame_kernelIdeal m ρ trivial, frame_referenceIdeal, fun m ρ _ => frame_referenceIdeal m ρ trivial,
  preserves_kernel, value_kernel⟩

end Cert.Proof

end
